-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_r [hPre_finite_r : Cert.Pre_finite_r.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_r.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_r [hPre_finite_r : Cert.Pre_finite_r.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_r.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_k [hPre_finite_k : Cert.Pre_finite_k.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_k.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_k [hPre_finite_k : Cert.Pre_finite_k.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_k.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_v [hPre_finite_v : Cert.Pre_finite_v.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_v.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_v [hPre_finite_v : Cert.Pre_finite_v.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_v.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_l [hPre_finite_l : Cert.Pre_finite_l.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_l.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_l [hPre_finite_l : Cert.Pre_finite_l.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_l.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite_r [hKernel19Ideal : Cert.Kernel19Ideal.Facts] [hPre_finite_r : Cert.Pre_finite_r.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_r m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite_r [hReference19Ideal : Cert.Reference19Ideal.Facts] [hPre_finite_r : Cert.Pre_finite_r.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_r m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite_k [hKernel20Ideal : Cert.Kernel20Ideal.Facts] [hPre_finite_k : Cert.Pre_finite_k.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_k m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite_k [hReference20Ideal : Cert.Reference20Ideal.Facts] [hPre_finite_k : Cert.Pre_finite_k.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_k m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Kernel21Ideal_pre_finite_v [hKernel21Ideal : Cert.Kernel21Ideal.Facts] [hPre_finite_v : Cert.Pre_finite_v.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_v m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_finite_v [hReference21Ideal : Cert.Reference21Ideal.Facts] [hPre_finite_v : Cert.Pre_finite_v.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_v m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite_l [hKernel22Ideal : Cert.Kernel22Ideal.Facts] [hPre_finite_l : Cert.Pre_finite_l.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_l m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite_l [hReference22Ideal : Cert.Reference22Ideal.Facts] [hPre_finite_l : Cert.Pre_finite_l.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_l m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v27) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_v15) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v57) = v0 c
          ∧ r.2.mem ((c.tc : Thread Cert.Reference12Ideal.nD Cert.Reference12Ideal.τ).loc Cert.Reference12Ideal.main_v58) = v1 c
          ∧ r.2.mem ((c.tc : Thread Cert.Reference12Ideal.nD Cert.Reference12Ideal.τ).loc Cert.Reference12Ideal.main_v59) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_v38) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v52) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v53) = v2 c
          ∧ r.2.mem ((c.tc : Thread Cert.Reference14Ideal.nD Cert.Reference14Ideal.τ).loc Cert.Reference14Ideal.main_v54) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v2_3)) (v4 : (c : Dev Cert.Kernel15Ideal.nD) → Buf (Elt Ideal) ((c.tc : Thread Cert.Kernel15Ideal.nD Cert.Kernel15Ideal.τ).loc Cert.Kernel15Ideal.main_v2_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v2_3) = v3 c
          ∧ r.2.mem ((c.tc : Thread Cert.Kernel15Ideal.nD Cert.Kernel15Ideal.τ).loc Cert.Kernel15Ideal.main_v2_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_v31) = v3 c
          ∧ r.2.mem ((c.tc : Thread Cert.Reference15Ideal.nD Cert.Reference15Ideal.τ).loc Cert.Reference15Ideal.main_v19) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal_pre_finite_r [hKernel19Ideal : Cert.Kernel19Ideal.Facts] [hReference19Ideal : Cert.Reference19Ideal.Facts] [hPre_finite_r : Cert.Pre_finite_r.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_r m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal_pre_finite_k [hKernel20Ideal : Cert.Kernel20Ideal.Facts] [hReference20Ideal : Cert.Reference20Ideal.Facts] [hPre_finite_k : Cert.Pre_finite_k.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_k m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal_pre_finite_v [hKernel21Ideal : Cert.Kernel21Ideal.Facts] [hReference21Ideal : Cert.Reference21Ideal.Facts] [hPre_finite_v : Cert.Pre_finite_v.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_v m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal_pre_finite_l [hKernel22Ideal : Cert.Kernel22Ideal.Facts] [hReference22Ideal : Cert.Reference22Ideal.Facts] [hPre_finite_l : Cert.Pre_finite_l.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_l m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v2_0)) (v1 : (c : Dev Cert.Kernel30Ideal.nD) → Buf (Elt Ideal) ((c.tc : Thread Cert.Kernel30Ideal.nD Cert.Kernel30Ideal.τ).loc Cert.Kernel30Ideal.main_v2_1)) (v2 : (c : Dev Cert.Kernel30Ideal.nD) → Buf (Elt Ideal) ((c.tc : Thread Cert.Kernel30Ideal.nD Cert.Kernel30Ideal.τ).loc Cert.Kernel30Ideal.main_v2_2)) (v3 : (c : Dev Cert.Kernel30Ideal.nD) → Buf (Elt Ideal) ((c.tc : Thread Cert.Kernel30Ideal.nD Cert.Kernel30Ideal.τ).loc Cert.Kernel30Ideal.main_v2_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2_0) = v0 c
          ∧ r.2.mem ((c.tc : Thread Cert.Kernel30Ideal.nD Cert.Kernel30Ideal.τ).loc Cert.Kernel30Ideal.main_v2_1) = v1 c
          ∧ r.2.mem ((c.tc : Thread Cert.Kernel30Ideal.nD Cert.Kernel30Ideal.τ).loc Cert.Kernel30Ideal.main_v2_2) = v2 c
          ∧ r.2.mem ((c.tc : Thread Cert.Kernel30Ideal.nD Cert.Kernel30Ideal.τ).loc Cert.Kernel30Ideal.main_v2_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v585) = v0 c
          ∧ r.2.mem ((c.tc : Thread Cert.Reference30Ideal.nD Cert.Reference30Ideal.τ).loc Cert.Reference30Ideal.main_v586) = v1 c
          ∧ r.2.mem ((c.tc : Thread Cert.Reference30Ideal.nD Cert.Reference30Ideal.τ).loc Cert.Reference30Ideal.main_v587) = v2 c
          ∧ r.2.mem ((c.tc : Thread Cert.Reference30Ideal.nD Cert.Reference30Ideal.τ).loc Cert.Reference30Ideal.main_v588) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v8) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v8) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v2_0)) (v1 : (c : Dev Cert.Kernel36Ideal.nD) → Buf (Elt Ideal) ((c.tc : Thread Cert.Kernel36Ideal.nD Cert.Kernel36Ideal.τ).loc Cert.Kernel36Ideal.main_v2_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2_0) = v0 c
          ∧ r.2.mem ((c.tc : Thread Cert.Kernel36Ideal.nD Cert.Kernel36Ideal.τ).loc Cert.Kernel36Ideal.main_v2_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v4) = v0 c
          ∧ r.2.mem ((c.tc : Thread Cert.Reference36Ideal.nD Cert.Reference36Ideal.τ).loc Cert.Reference36Ideal.main_v8) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v6) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite_r : Cert.Pre_finite_r.Facts) (hPre_finite_k : Cert.Pre_finite_k.Facts) (hPre_finite_v : Cert.Pre_finite_v.Facts) (hPre_finite_l : Cert.Pre_finite_l.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_r (hKernel19Ideal := hKernel19Ideal) (hPre_finite_r := hPre_finite_r)
    ∧ quiescent_Reference19Ideal (hReference19Ideal := hReference19Ideal)
    ∧ quiescent_Reference19Ideal_pre_finite_r (hReference19Ideal := hReference19Ideal) (hPre_finite_r := hPre_finite_r)
    ∧ quiescent_Kernel20 (hKernel20 := hKernel20)
    ∧ quiescent_Kernel20Ideal (hKernel20Ideal := hKernel20Ideal)
    ∧ quiescent_Kernel20Ideal_pre_finite_k (hKernel20Ideal := hKernel20Ideal) (hPre_finite_k := hPre_finite_k)
    ∧ quiescent_Reference20Ideal (hReference20Ideal := hReference20Ideal)
    ∧ quiescent_Reference20Ideal_pre_finite_k (hReference20Ideal := hReference20Ideal) (hPre_finite_k := hPre_finite_k)
    ∧ quiescent_Kernel21 (hKernel21 := hKernel21)
    ∧ quiescent_Kernel21Ideal (hKernel21Ideal := hKernel21Ideal)
    ∧ quiescent_Kernel21Ideal_pre_finite_v (hKernel21Ideal := hKernel21Ideal) (hPre_finite_v := hPre_finite_v)
    ∧ quiescent_Reference21Ideal (hReference21Ideal := hReference21Ideal)
    ∧ quiescent_Reference21Ideal_pre_finite_v (hReference21Ideal := hReference21Ideal) (hPre_finite_v := hPre_finite_v)
    ∧ quiescent_Kernel22 (hKernel22 := hKernel22)
    ∧ quiescent_Kernel22Ideal (hKernel22Ideal := hKernel22Ideal)
    ∧ quiescent_Kernel22Ideal_pre_finite_l (hKernel22Ideal := hKernel22Ideal) (hPre_finite_l := hPre_finite_l)
    ∧ quiescent_Reference22Ideal (hReference22Ideal := hReference22Ideal)
    ∧ quiescent_Reference22Ideal_pre_finite_l (hReference22Ideal := hReference22Ideal) (hPre_finite_l := hPre_finite_l)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_r (hKernel19Ideal := hKernel19Ideal) (hReference19Ideal := hReference19Ideal) (hPre_finite_r := hPre_finite_r)
    ∧ preserves_Kernel20_Kernel20Ideal
    ∧ algebraic_Kernel20Ideal_Reference20Ideal_pre_finite_k (hKernel20Ideal := hKernel20Ideal) (hReference20Ideal := hReference20Ideal) (hPre_finite_k := hPre_finite_k)
    ∧ preserves_Kernel21_Kernel21Ideal
    ∧ algebraic_Kernel21Ideal_Reference21Ideal_pre_finite_v (hKernel21Ideal := hKernel21Ideal) (hReference21Ideal := hReference21Ideal) (hPre_finite_v := hPre_finite_v)
    ∧ preserves_Kernel22_Kernel22Ideal
    ∧ algebraic_Kernel22Ideal_Reference22Ideal_pre_finite_l (hKernel22Ideal := hKernel22Ideal) (hReference22Ideal := hReference22Ideal) (hPre_finite_l := hPre_finite_l)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite_k.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S2048 .f32) (main_arg1 : FVec F S4096x14592 .f32) (main_arg2 : FVec F S4096x2048 .f32) : IVec S4096x2048 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Pre_finite_l.lean ====
abbrev S256 : Shape := ⟨1, ![256]⟩
abbrev S4096x14592 : Shape := ⟨2, ![4096, 14592]⟩
abbrev S4096x256 : Shape := ⟨2, ![4096, 256]⟩
abbrev S_ : Shape := ⟨0, ![]⟩

class Facts : Prop where
  bcast_S_S4096x256 : S_.BroadcastsInDim S4096x256 (![] : Fin 0 → Fin S4096x256.rank)

variable [Facts]

def fn {F : FTy → Type} [FloatOps F] (main_arg0 : FVec F S256 .f32) (main_arg1 : FVec F S4096x14592 .f32) (main_arg2 : FVec F S4096x256 .f32) : IVec S4096x256 1 :=
  let main_v0 : FVec F S4096x256 .f32 := Host.absf main_arg2
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  main_v2
-- ==== Pre_finite_r.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S2048 .f32) (main_arg1 : FVec F S4096x14592 .f32) (main_arg2 : FVec F S4096x2048 .f32) : IVec S4096x2048 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Pre_finite_v.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S2048 .f32) (main_arg1 : FVec F S4096x14592 .f32) (main_arg2 : FVec F S4096x2048 .f32) : IVec S4096x2048 1 :=
  let main_v0 : FVec F S4096x2048 .f32 := Host.absf main_arg2
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Kernel.lean ====
abbrev S4096x14592 : Shape := ⟨2, ![4096, 14592]⟩
abbrev S4096x4096 : Shape := ⟨2, ![4096, 4096]⟩
abbrev S14592x4096 : Shape := ⟨2, ![14592, 4096]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x14592, .bf16⟩
  | .hbm, ⟨1, _⟩ => ⟨S4096x4096, .bf16⟩
  | .hbm, ⟨2, _⟩ => ⟨S14592x4096, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S4096x14592 : Shape := ⟨2, ![4096, 14592]⟩
abbrev S4096x4096 : Shape := ⟨2, ![4096, 4096]⟩
abbrev S_ : Shape := ⟨0, ![]⟩
abbrev S14592x4096 : Shape := ⟨2, ![14592, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x14592, .bf16⟩
  | .hbm, ⟨1, _⟩ => ⟨S4096x4096, .bf16⟩
  | .hbm, ⟨2, _⟩ => ⟨S_, .f32⟩
  | .hbm, ⟨3, _⟩ => ⟨S14592x4096, .f32⟩
  | .hbm, ⟨4, _⟩ => ⟨S4096x4096, .f32⟩
  | .hbm, ⟨5, _⟩ => ⟨S4096x14592, .f32⟩
  | .hbm, ⟨6, _⟩ => ⟨S4096x14592, .f32⟩
  | .hbm, ⟨7, _⟩ => ⟨S4096x14592, .f32⟩
  | .hbm, ⟨8, _⟩ => ⟨S14592x4096, .f32⟩
  | .hbm, ⟨9, _⟩ => ⟨S4096x14592, .f32⟩
  | .hbm, ⟨10, _⟩ => ⟨S14592x4096, .f32⟩
  | .hbm, ⟨11, _⟩ => ⟨S14592x4096, .bf16⟩
  | _, _ => ⟨S4096x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel2.lean ====
abbrev S4096x14592 : Shape := ⟨2, ![4096, 14592]⟩
abbrev S14592x4096 : Shape := ⟨2, ![14592, 4096]⟩
abbrev S4096x4096 : Shape := ⟨2, ![4096, 4096]⟩
abbrev S1024x2432 : Shape := ⟨2, ![1024, 2432]⟩
abbrev S2432x1024 : Shape := ⟨2, ![2432, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x14592, .bf16⟩
  | .hbm, ⟨1, _⟩ => ⟨S14592x4096, .bf16⟩
  | .hbm, ⟨2, _⟩ => ⟨S4096x4096, .bf16⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x14592 : Shape := ⟨2, ![4096, 14592]⟩
abbrev S14592x4096 : Shape := ⟨2, ![14592, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x14592, .bf16⟩
  | .hbm, ⟨1, _⟩ => ⟨S14592x4096, .bf16⟩
  | .hbm, ⟨2, _⟩ => ⟨S_, .f32⟩
  | .hbm, ⟨3, _⟩ => ⟨S4096x4096, .f32⟩
  | .hbm, ⟨4, _⟩ => ⟨S14592x4096, .f32⟩
  | .hbm, ⟨5, _⟩ => ⟨S4096x14592, .f32⟩
  | .hbm, ⟨6, _⟩ => ⟨S4096x14592, .f32⟩
  | .hbm, ⟨7, _⟩ => ⟨S4096x14592, .f32⟩
  | .hbm, ⟨8, _⟩ => ⟨S4096x4096, .f32⟩
  | .hbm, ⟨9, _⟩ => ⟨S4096x4096, .bf16⟩
  | _, _ => ⟨S4096x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x4096 : Shape := ⟨2, ![4096, 4096]⟩
abbrev S14592x4096 : Shape := ⟨2, ![14592, 4096]⟩
abbrev S4096x14592 : Shape := ⟨2, ![4096, 14592]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S14592x4096, .bf16⟩
  | .hbm, ⟨2, _⟩ => ⟨S4096x14592, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S14592x4096 : Shape := ⟨2, ![14592, 4096]⟩
abbrev S4096x14592 : Shape := ⟨2, ![4096, 14592]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S14592x4096, .bf16⟩
  | .hbm, ⟨2, _⟩ => ⟨S4096x4096, .f32⟩
  | .hbm, ⟨3, _⟩ => ⟨S14592x4096, .f32⟩
  | .hbm, ⟨4, _⟩ => ⟨S4096x14592, .f32⟩
  | .hbm, ⟨5, _⟩ => ⟨S4096x14592, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S4096x4096 : Shape := ⟨2, ![4096, 4096]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x4096 : Shape := ⟨2, ![4096, 4096]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x3632 : Shape := ⟨2, ![4096, 3632]⟩
abbrev S3632x4096 : Shape := ⟨2, ![3632, 4096]⟩
abbrev S16x4096 : Shape := ⟨2, ![16, 4096]⟩

abbrev nBuf : Space → Nat
  | .hbm => 10
  | .vmem => 14
  | .smem => 0
  | _ => 0

abbrev bufTy : (tb : Table) → Fin (tcTables nBuf tb) → BufTy
  | .hbm, ⟨0, _⟩ => ⟨S4096x3632, .f32⟩
  | .hbm, ⟨1, _⟩ => ⟨S3632x4096, .f32⟩
  | .hbm, ⟨2, _⟩ => ⟨S4096x3632, .f32⟩
  | .hbm, ⟨3, _⟩ => ⟨S4096x3632, .f32⟩
  | .hbm, ⟨4, _⟩ => ⟨S3632x4096, .f32⟩
  | .hbm, ⟨5, _⟩ => ⟨S3632x4096, .f32⟩
  | .hbm, ⟨6, _⟩ => ⟨S3632x4096, .f32⟩
  | .hbm, ⟨7, _⟩ => ⟨S3632x4096, .f32⟩
  | .hbm, ⟨8, _⟩ => ⟨S3632x4096, .f32⟩
  | .hbm, ⟨9, _⟩ => ⟨S3632x4096, .f32⟩
  | .local _ .vmem, ⟨0, _⟩ => ⟨S16x4096, .f32⟩
  | .local _ .vmem, ⟨1, _⟩ => ⟨S16x4096, .f32⟩
  | .local _ .vmem, ⟨2, _⟩ => ⟨S16x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S16x4096, .f32⟩
  | .local _ .vmem, ⟨8, _⟩ => ⟨S16x4096, .f32⟩
  | .local _ .vmem, ⟨9, _⟩ => ⟨S16x4096, .f32⟩
  | .local _ .vmem, ⟨10, _⟩ => ⟨S16x4096, .f32⟩
  | .local _ .vmem, ⟨11, _⟩ => ⟨S16x4096, .f32⟩
  | .local _ .vmem, ⟨12, _⟩ => ⟨S16x4096, .f32⟩
  | .local _ .vmem, ⟨13, _⟩ => ⟨S16x4096, .f32⟩
  | _, _ => ⟨S4096x3632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![227], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x3632 : Shape := ⟨2, ![4096, 3632]⟩
abbrev S3632x4096 : Shape := ⟨2, ![3632, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x3632, .f32⟩
  | .hbm, ⟨1, _⟩ => ⟨S3632x4096, .f32⟩
  | .hbm, ⟨2, _⟩ => ⟨S4096x3632, .f32⟩
  | .hbm, ⟨3, _⟩ => ⟨S4096x3632, .f32⟩
  | .hbm, ⟨4, _⟩ => ⟨S4096x3632, .f32⟩
  | .hbm, ⟨5, _⟩ => ⟨S_, .f32⟩
  | .hbm, ⟨6, _⟩ => ⟨S4096x3632, .f32⟩
  | .hbm, ⟨7, _⟩ => ⟨S4096x3632, .f32⟩
  | .hbm, ⟨8, _⟩ => ⟨S_, .f32⟩
  | .hbm, ⟨9, _⟩ => ⟨S4096x3632, .f32⟩
  | .hbm, ⟨10, _⟩ => ⟨S4096x3632, .f32⟩
  | .hbm, ⟨11, _⟩ => ⟨S4096x3632, .f32⟩
  | .hbm, ⟨12, _⟩ => ⟨S_, .f32⟩
  | .hbm, ⟨13, _⟩ => ⟨S4096x3632, .f32⟩
  | .hbm, ⟨14, _⟩ => ⟨S4096x3632, .f32⟩
  | .hbm, ⟨15, _⟩ => ⟨S4096x3632, .f32⟩
  | .hbm, ⟨16, _⟩ => ⟨S_, .f32⟩
  | .hbm, ⟨17, _⟩ => ⟨S4096x3632, .f32⟩
  | .hbm, ⟨18, _⟩ => ⟨S4096x3632, .f32⟩
  | .hbm, ⟨19, _⟩ => ⟨S4096x3632, .f32⟩
  | .hbm, ⟨20, _⟩ => ⟨S_, .f32⟩
  | .hbm, ⟨21, _⟩ => ⟨S4096x3632, .f32⟩
  | .hbm, ⟨22, _⟩ => ⟨S4096x3632, .f32⟩
  | .hbm, ⟨23, _⟩ => ⟨S_, .f32⟩
  | .hbm, ⟨24, _⟩ => ⟨S4096x3632, .f32⟩
  | .hbm, ⟨25, _⟩ => ⟨S4096x3632, .f32⟩
  | .hbm, ⟨26, _⟩ => ⟨S4096x3632, .f32⟩
  | .hbm, ⟨27, _⟩ => ⟨S_, .f32⟩
  | .hbm, ⟨28, _⟩ => ⟨S4096x3632, .f32⟩
  | .hbm, ⟨29, _⟩ => ⟨S4096x3632, .f32⟩
  | .hbm, ⟨30, _⟩ => ⟨S4096x3632, .f32⟩
  | .hbm, ⟨31, _⟩ => ⟨S_, .f32⟩
  | .hbm, ⟨32, _⟩ => ⟨S4096x3632, .f32⟩
  | .hbm, ⟨33, _⟩ => ⟨S4096x3632, .f32⟩
  | .hbm, ⟨34, _⟩ => ⟨S4096x3632, .f32⟩
  | .hbm, ⟨35, _⟩ => ⟨S_, .f32⟩
  | .hbm, ⟨36, _⟩ => ⟨S4096x3632, .f32⟩
  | .hbm, ⟨37, _⟩ => ⟨S4096x3632, .f32⟩
  | .hbm, ⟨38, _⟩ => ⟨S3632x4096, .f32⟩
  | .hbm, ⟨39, _⟩ => ⟨S3632x4096, .f32⟩
  | .hbm, ⟨40, _⟩ => ⟨S3632x4096, .f32⟩
  | _, _ => ⟨S4096x3632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel11.lean ====
abbrev S2048 : Shape := ⟨1, ![2048]⟩
abbrev S4096x2048 : Shape := ⟨2, ![4096, 2048]⟩
abbrev S4096x14592 : Shape := ⟨2, ![4096, 14592]⟩
abbrev S4096x4096 : Shape := ⟨2, ![4096, 4096]⟩
abbrev S1x2048 : Shape := ⟨2, ![1, 2048]⟩
abbrev S1x512 : Shape := ⟨2, ![1, 512]⟩
abbrev S256x512 : Shape := ⟨2, ![256, 512]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S2048, .f32⟩
  | .hbm, ⟨1, _⟩ => ⟨S4096x2048, .f32⟩
  | .hbm, ⟨2, _⟩ => ⟨S4096x14592, .f32⟩
  | .hbm, ⟨3, _⟩ => ⟨S4096x4096, .f32⟩
  | .hbm, ⟨4, _⟩ => ⟨S1x2048, .f32⟩
  | .hbm, ⟨5, _⟩ => ⟨S4096x2048, .bf16⟩
  | .hbm, ⟨6, _⟩ => ⟨S4096x2048, .bf16⟩
  | .hbm, ⟨7, _⟩ => ⟨S1x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S2048 : Shape := ⟨1, ![2048]⟩
abbrev S4096x2048 : Shape := ⟨2, ![4096, 2048]⟩
abbrev S4096x14592 : Shape := ⟨2, ![4096, 14592]⟩
abbrev S4096x4096 : Shape := ⟨2, ![4096, 4096]⟩
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x2048, .f32⟩
  | .hbm, ⟨2, _⟩ => ⟨S4096x14592, .f32⟩
  | .hbm, ⟨3, _⟩ => ⟨S4096x4096, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S_, .f32⟩
  | .hbm, ⟨33, _⟩ => ⟨S2048, .f32⟩
  | .hbm, ⟨34, _⟩ => ⟨S4096x2048, .bf16⟩
  | .hbm, ⟨35, _⟩ => ⟨S4096x2048, .bf16⟩
  | .hbm, ⟨36, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel12.lean ====
abbrev S2048 : Shape := ⟨1, ![2048]⟩
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S2048, .f32⟩
  | .hbm, ⟨68, _⟩ => ⟨S4096x2048, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x2048, .f32⟩
  | .hbm, ⟨73, _⟩ => ⟨S4096x2048, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x2048, .f32⟩
  | .hbm, ⟨93, _⟩ => ⟨S4096x2048, .f32⟩
  | .hbm, ⟨94, _⟩ => ⟨S1x2048, .f32⟩
  | .hbm, ⟨95, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_cst_10 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_cst_15 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩

abbrev nD : Nat := 1
abbrev τ : Topo := Topo.v7x

variable {F : FTy → Type} [FloatOps F]
-- ==== Kernel13.lean ====
abbrev S4096 : Shape := ⟨1, ![4096]⟩
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .bf16⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S1x4096, .f32⟩
  | .local _ .vmem, ⟨0, _⟩ => ⟨S1x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .bf16⟩
  | .local _ .vmem, ⟨4, _⟩ => ⟨S128x4096, .bf16⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel14.lean ====
abbrev S4096 : Shape := ⟨1, ![4096]⟩
abbrev S4096x4096 : Shape := ⟨2, ![4096, 4096]⟩
abbrev S1x4096 : Shape := ⟨2, ![1, 4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1x128x4096 : Shape := ⟨3, ![1, 128, 4096]⟩
abbrev S1 : Shape := ⟨1, ![1]⟩
abbrev S1x1x1 : Shape := ⟨3, ![1, 1, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .bf16⟩
  | .hbm, ⟨6, _⟩ => ⟨S4096x4096, .f32⟩
  | .hbm, ⟨7, _⟩ => ⟨S1x1, .f32⟩
  | .hbm, ⟨8, _⟩ => ⟨S1x4096, .f32⟩
  | .local _ .vmem, ⟨0, _⟩ => ⟨S1x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S128x4096, .f32⟩
  | .local _ .vmem, ⟨10, _⟩ => ⟨S128x4096, .f32⟩
  | .local _ .vmem, ⟨11, _⟩ => ⟨S1x1, .f32⟩
  | .local _ .vmem, ⟨12, _⟩ => ⟨S1x4096, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S1x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x4096, .f32⟩
  | .hbm, ⟨61, _⟩ => ⟨S4096x4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .bf16⟩
  | .hbm, ⟨74, _⟩ => ⟨S1x1, .f32⟩
  | .hbm, ⟨75, _⟩ => ⟨S1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel15.lean ====
abbrev S2048 : Shape := ⟨1, ![2048]⟩
abbrev S256x2048 : Shape := ⟨2, ![256, 2048]⟩
abbrev S4096x256 : Shape := ⟨2, ![4096, 256]⟩
abbrev S4096x2048 : Shape := ⟨2, ![4096, 2048]⟩
abbrev S1x2048 : Shape := ⟨2, ![1, 2048]⟩
abbrev S256x256 : Shape := ⟨2, ![256, 256]⟩

abbrev nBuf : Space → Nat
  | .hbm => 14
  | .vmem => 16
  | .smem => 0
  | _ => 0

abbrev bufTy : (tb : Table) → Fin (tcTables nBuf tb) → BufTy
  | .hbm, ⟨0, _⟩ => ⟨S2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S4096x256, .f32⟩
  | .hbm, ⟨10, _⟩ => ⟨S1x2048, .f32⟩
  | .hbm, ⟨11, _⟩ => ⟨S256x2048, .f32⟩
  | .hbm, ⟨12, _⟩ => ⟨S1x2048, .f32⟩
  | .hbm, ⟨13, _⟩ => ⟨S256x2048, .f32⟩
  | .local _ .vmem, ⟨0, _⟩ => ⟨S1x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x256, .f32⟩
  | .local _ .vmem, ⟨11, _⟩ => ⟨S256x256, .f32⟩
  | .local _ .vmem, ⟨12, _⟩ => ⟨S1x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference15Ideal.lean ====
abbrev S2048 : Shape := ⟨1, ![2048]⟩
abbrev S256x2048 : Shape := ⟨2, ![256, 2048]⟩
abbrev S4096x256 : Shape := ⟨2, ![4096, 256]⟩
abbrev S4096x2048 : Shape := ⟨2, ![4096, 2048]⟩
abbrev S_ : Shape := ⟨0, ![]⟩
abbrev S1x2048 : Shape := ⟨2, ![1, 2048]⟩
abbrev S2048x256 : Shape := ⟨2, ![2048, 256]⟩

abbrev nBuf : Space → Nat
  | .hbm => 45
  | .vmem => 0
  | .smem => 0
  | _ => 0

abbrev bufTy : (tb : Table) → Fin (tcTables nBuf tb) → BufTy
  | .hbm, ⟨0, _⟩ => ⟨S2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S2048x256, .f32⟩
  | .hbm, ⟨30, _⟩ => ⟨S256x2048, .f32⟩
  | .hbm, ⟨31, _⟩ => ⟨S4096x256, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S2048x256, .f32⟩
  | .hbm, ⟨39, _⟩ => ⟨S256x2048, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S1x2048, .f32⟩
  | .hbm, ⟨44, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel16.lean ====
abbrev S296x512 : Shape := ⟨2, ![296, 512]⟩

abbrev nBuf : Space → Nat
  | .hbm => 7
  | .vmem => 7
  | .smem => 0
  | _ => 0

abbrev bufTy : (tb : Table) → Fin (tcTables nBuf tb) → BufTy
  | .hbm, ⟨0, _⟩ => ⟨S296x512, .f32⟩
  | .hbm, ⟨1, _⟩ => ⟨S296x512, .f32⟩
  | .hbm, ⟨2, _⟩ => ⟨S296x512, .f32⟩
  | .hbm, ⟨3, _⟩ => ⟨S296x512, .f32⟩
  | .hbm, ⟨4, _⟩ => ⟨S296x512, .f32⟩
  | .hbm, ⟨5, _⟩ => ⟨S296x512, .f32⟩
  | .hbm, ⟨6, _⟩ => ⟨S296x512, .f32⟩
  | .local _ .vmem, ⟨0, _⟩ => ⟨S296x512, .f32⟩
  | .local _ .vmem, ⟨1, _⟩ => ⟨S296x512, .f32⟩
  | .local _ .vmem, ⟨2, _⟩ => ⟨S296x512, .f32⟩
  | .local _ .vmem, ⟨3, _⟩ => ⟨S296x512, .f32⟩
  | .local _ .vmem, ⟨4, _⟩ => ⟨S296x512, .f32⟩
  | .local _ .vmem, ⟨5, _⟩ => ⟨S296x512, .f32⟩
  | .local _ .vmem, ⟨6, _⟩ => ⟨S296x512, .f32⟩
  | _, _ => ⟨S296x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S296x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S296x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S296x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S296x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S296x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S296x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S296x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S296x512 : Shape := ⟨2, ![296, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S296x512, .f32⟩
  | .hbm, ⟨1, _⟩ => ⟨S296x512, .f32⟩
  | .hbm, ⟨2, _⟩ => ⟨S296x512, .f32⟩
  | .hbm, ⟨3, _⟩ => ⟨S296x512, .f32⟩
  | .hbm, ⟨4, _⟩ => ⟨S_, .f32⟩
  | .hbm, ⟨5, _⟩ => ⟨S296x512, .f32⟩
  | .hbm, ⟨6, _⟩ => ⟨S296x512, .f32⟩
  | .hbm, ⟨7, _⟩ => ⟨S_, .f32⟩
  | .hbm, ⟨8, _⟩ => ⟨S296x512, .f32⟩
  | .hbm, ⟨9, _⟩ => ⟨S296x512, .f32⟩
  | .hbm, ⟨10, _⟩ => ⟨S296x512, .f32⟩
  | .hbm, ⟨11, _⟩ => ⟨S_, .f32⟩
  | .hbm, ⟨12, _⟩ => ⟨S296x512, .f32⟩
  | .hbm, ⟨13, _⟩ => ⟨S296x512, .f32⟩
  | .hbm, ⟨14, _⟩ => ⟨S296x512, .f32⟩
  | .hbm, ⟨15, _⟩ => ⟨S_, .f32⟩
  | .hbm, ⟨16, _⟩ => ⟨S296x512, .f32⟩
  | .hbm, ⟨17, _⟩ => ⟨S296x512, .f32⟩
  | .hbm, ⟨18, _⟩ => ⟨S296x512, .f32⟩
  | .hbm, ⟨19, _⟩ => ⟨S_, .f32⟩
  | .hbm, ⟨20, _⟩ => ⟨S296x512, .f32⟩
  | .hbm, ⟨21, _⟩ => ⟨S296x512, .f32⟩
  | .hbm, ⟨22, _⟩ => ⟨S_, .f32⟩
  | .hbm, ⟨23, _⟩ => ⟨S296x512, .f32⟩
  | .hbm, ⟨24, _⟩ => ⟨S296x512, .f32⟩
  | .hbm, ⟨25, _⟩ => ⟨S296x512, .f32⟩
  | .hbm, ⟨26, _⟩ => ⟨S_, .f32⟩
  | .hbm, ⟨27, _⟩ => ⟨S296x512, .f32⟩
  | .hbm, ⟨28, _⟩ => ⟨S296x512, .f32⟩
  | .hbm, ⟨29, _⟩ => ⟨S296x512, .f32⟩
  | .hbm, ⟨30, _⟩ => ⟨S_, .f32⟩
  | .hbm, ⟨31, _⟩ => ⟨S296x512, .f32⟩
  | .hbm, ⟨32, _⟩ => ⟨S296x512, .f32⟩
  | .hbm, ⟨33, _⟩ => ⟨S296x512, .f32⟩
  | .hbm, ⟨34, _⟩ => ⟨S_, .f32⟩
  | .hbm, ⟨35, _⟩ => ⟨S296x512, .f32⟩
  | .hbm, ⟨36, _⟩ => ⟨S296x512, .f32⟩
  | _, _ => ⟨S296x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x4096 : Shape := ⟨2, ![1024, 4096]⟩
abbrev S64x4096 : Shape := ⟨2, ![64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048 : Shape := ⟨1, ![2048]⟩
abbrev S4096x14592 : Shape := ⟨2, ![4096, 14592]⟩
abbrev S4096x2048 : Shape := ⟨2, ![4096, 2048]⟩
abbrev S1x2048 : Shape := ⟨2, ![1, 2048]⟩
abbrev S1x512 : Shape := ⟨2, ![1, 512]⟩
abbrev S256x512 : Shape := ⟨2, ![256, 512]⟩
abbrev S8x512 : Shape := ⟨2, ![8, 512]⟩
abbrev S512 : Shape := ⟨1, ![512]⟩

abbrev nBuf : Space → Nat
  | .hbm => 6
  | .vmem => 14
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference19Ideal.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩
abbrev S1x2048 : Shape := ⟨2, ![1, 2048]⟩
abbrev S4095x2048 : Shape := ⟨2, ![4095, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S1x2048, .f32⟩
  | .hbm, ⟨6, _⟩ => ⟨S4095x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4095x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel20.lean ====
abbrev S2048 : Shape := ⟨1, ![2048]⟩
abbrev S4096x14592 : Shape := ⟨2, ![4096, 14592]⟩
abbrev S4096x2048 : Shape := ⟨2, ![4096, 2048]⟩
abbrev S1x2048 : Shape := ⟨2, ![1, 2048]⟩
abbrev S1x512 : Shape := ⟨2, ![1, 512]⟩
abbrev S256x512 : Shape := ⟨2, ![256, 512]⟩
abbrev S8x512 : Shape := ⟨2, ![8, 512]⟩
abbrev S512 : Shape := ⟨1, ![512]⟩

abbrev nBuf : Space → Nat
  | .hbm => 6
  | .vmem => 14
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference20Ideal.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩
abbrev S1x2048 : Shape := ⟨2, ![1, 2048]⟩
abbrev S4095x2048 : Shape := ⟨2, ![4095, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S1x2048, .f32⟩
  | .hbm, ⟨6, _⟩ => ⟨S4095x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4095x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel21.lean ====
abbrev S2048 : Shape := ⟨1, ![2048]⟩
abbrev S4096x14592 : Shape := ⟨2, ![4096, 14592]⟩
abbrev S4096x2048 : Shape := ⟨2, ![4096, 2048]⟩
abbrev S1x2048 : Shape := ⟨2, ![1, 2048]⟩
abbrev S1x512 : Shape := ⟨2, ![1, 512]⟩
abbrev S256x512 : Shape := ⟨2, ![256, 512]⟩
abbrev S8x512 : Shape := ⟨2, ![8, 512]⟩
abbrev S512 : Shape := ⟨1, ![512]⟩

abbrev nBuf : Space → Nat
  | .hbm => 6
  | .vmem => 14
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference21Ideal.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩
abbrev S1x2048 : Shape := ⟨2, ![1, 2048]⟩
abbrev S4095x2048 : Shape := ⟨2, ![4095, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S1x2048, .f32⟩
  | .hbm, ⟨6, _⟩ => ⟨S4095x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4095x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .bf16⟩
  | .hbm, ⟨33, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel22.lean ====
abbrev S256 : Shape := ⟨1, ![256]⟩
abbrev S4096x14592 : Shape := ⟨2, ![4096, 14592]⟩
abbrev S4096x256 : Shape := ⟨2, ![4096, 256]⟩
abbrev S1x256 : Shape := ⟨2, ![1, 256]⟩
abbrev S256x256 : Shape := ⟨2, ![256, 256]⟩
abbrev S8x256 : Shape := ⟨2, ![8, 256]⟩

abbrev nBuf : Space → Nat
  | .hbm => 6
  | .vmem => 12
  | .smem => 0
  | _ => 0

abbrev bufTy : (tb : Table) → Fin (tcTables nBuf tb) → BufTy
  | .hbm, ⟨0, _⟩ => ⟨S256, .f32⟩
  | .hbm, ⟨1, _⟩ => ⟨S4096x14592, .f32⟩
  | .hbm, ⟨2, _⟩ => ⟨S4096x256, .f32⟩
  | .hbm, ⟨3, _⟩ => ⟨S1x256, .f32⟩
  | .hbm, ⟨4, _⟩ => ⟨S4096x256, .bf16⟩
  | .hbm, ⟨5, _⟩ => ⟨S1x256, .f32⟩
  | .local _ .vmem, ⟨0, _⟩ => ⟨S1x256, .f32⟩
  | .local _ .vmem, ⟨1, _⟩ => ⟨S256x256, .f32⟩
  | .local _ .vmem, ⟨2, _⟩ => ⟨S256x256, .f32⟩
  | .local _ .vmem, ⟨3, _⟩ => ⟨S8x256, .f32⟩
  | .local _ .vmem, ⟨4, _⟩ => ⟨S8x256, .f32⟩
  | .local _ .vmem, ⟨5, _⟩ => ⟨S256x256, .f32⟩
  | .local _ .vmem, ⟨6, _⟩ => ⟨S256x256, .f32⟩
  | .local _ .vmem, ⟨7, _⟩ => ⟨S8x256, .f32⟩
  | .local _ .vmem, ⟨8, _⟩ => ⟨S8x256, .f32⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c56_i32 : BitVec 32 := 56#32
  let v3 : BitVec 32 := Scalar.addi c56_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference22Ideal.lean ====
abbrev S256 : Shape := ⟨1, ![256]⟩
abbrev S4096x14592 : Shape := ⟨2, ![4096, 14592]⟩
abbrev S4096x256 : Shape := ⟨2, ![4096, 256]⟩
abbrev S_ : Shape := ⟨0, ![]⟩
abbrev S1x256 : Shape := ⟨2, ![1, 256]⟩
abbrev S4095x256 : Shape := ⟨2, ![4095, 256]⟩

abbrev nBuf : Space → Nat
  | .hbm => 34
  | .vmem => 0
  | .smem => 0
  | _ => 0

abbrev bufTy : (tb : Table) → Fin (tcTables nBuf tb) → BufTy
  | .hbm, ⟨0, _⟩ => ⟨S256, .f32⟩
  | .hbm, ⟨1, _⟩ => ⟨S4096x14592, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S1x256, .f32⟩
  | .hbm, ⟨6, _⟩ => ⟨S4095x256, .f32⟩
  | .hbm, ⟨7, _⟩ => ⟨S4096x256, .f32⟩
  | .hbm, ⟨8, _⟩ => ⟨S_, .f32⟩
  | .hbm, ⟨9, _⟩ => ⟨S1x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S256, .f32⟩
  | .hbm, ⟨25, _⟩ => ⟨S4096x256, .f32⟩
  | .hbm, ⟨26, _⟩ => ⟨S4096x256, .f32⟩
  | .hbm, ⟨27, _⟩ => ⟨S1x256, .f32⟩
  | .hbm, ⟨28, _⟩ => ⟨S4095x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x256, .bf16⟩
  | .hbm, ⟨33, _⟩ => ⟨S1x256, .f32⟩
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel23.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .local _ .vmem, ⟨0, _⟩ => ⟨S8x64x2048, .f32⟩
  | .local _ .vmem, ⟨1, _⟩ => ⟨S8x64x2048, .f32⟩
  | .local _ .vmem, ⟨2, _⟩ => ⟨S64x2048, .f32⟩
  | .local _ .vmem, ⟨3, _⟩ => ⟨S64x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference23Ideal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S_, .f32⟩
  | .hbm, ⟨2, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S4x1816x4096 : Shape := ⟨3, ![4, 1816, 4096]⟩
abbrev S1816x4096 : Shape := ⟨2, ![1816, 4096]⟩
abbrev S4x1816x256 : Shape := ⟨3, ![4, 1816, 256]⟩
abbrev S1816x256 : Shape := ⟨2, ![1816, 256]⟩
abbrev S1x1816x256 : Shape := ⟨3, ![1, 1816, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x1816x4096, .bf16⟩
  | .hbm, ⟨1, _⟩ => ⟨S1816x4096, .f32⟩
  | .local _ .vmem, ⟨0, _⟩ => ⟨S4x1816x256, .bf16⟩
  | .local _ .vmem, ⟨1, _⟩ => ⟨S4x1816x256, .bf16⟩
  | .local _ .vmem, ⟨2, _⟩ => ⟨S1816x256, .f32⟩
  | .local _ .vmem, ⟨3, _⟩ => ⟨S1816x256, .f32⟩
  | _, _ => ⟨S4x1816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1816x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference24Ideal.lean ====
abbrev S4x1816x4096 : Shape := ⟨3, ![4, 1816, 4096]⟩
abbrev S_ : Shape := ⟨0, ![]⟩
abbrev S1816x4096 : Shape := ⟨2, ![1816, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1816x4096, .bf16⟩
  | .hbm, ⟨1, _⟩ => ⟨S4x1816x4096, .f32⟩
  | .hbm, ⟨2, _⟩ => ⟨S_, .f32⟩
  | .hbm, ⟨3, _⟩ => ⟨S1816x4096, .f32⟩
  | _, _ => ⟨S4x1816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S4x512x4096 : Shape := ⟨3, ![4, 512, 4096]⟩
abbrev S512x4096 : Shape := ⟨2, ![512, 4096]⟩
abbrev S4x64x4096 : Shape := ⟨3, ![4, 64, 4096]⟩
abbrev S64x4096 : Shape := ⟨2, ![64, 4096]⟩
abbrev S1x64x4096 : Shape := ⟨3, ![1, 64, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S64x4096, .f32⟩
  | .local _ .vmem, ⟨3, _⟩ => ⟨S64x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference25Ideal.lean ====
abbrev S4x512x4096 : Shape := ⟨3, ![4, 512, 4096]⟩
abbrev S_ : Shape := ⟨0, ![]⟩
abbrev S512x4096 : Shape := ⟨2, ![512, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x512x4096, .f32⟩
  | .hbm, ⟨2, _⟩ => ⟨S_, .f32⟩
  | .hbm, ⟨3, _⟩ => ⟨S512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference26Ideal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S7264x4096 : Shape := ⟨2, ![7264, 4096]⟩
abbrev S32x4096 : Shape := ⟨2, ![32, 4096]⟩

abbrev nBuf : Space → Nat
  | .hbm => 3
  | .vmem => 6
  | .smem => 0
  | _ => 0

abbrev bufTy : (tb : Table) → Fin (tcTables nBuf tb) → BufTy
  | .hbm, ⟨0, _⟩ => ⟨S7264x4096, .bf16⟩
  | .hbm, ⟨1, _⟩ => ⟨S7264x4096, .bf16⟩
  | .hbm, ⟨2, _⟩ => ⟨S7264x4096, .bf16⟩
  | .local _ .vmem, ⟨0, _⟩ => ⟨S32x4096, .bf16⟩
  | .local _ .vmem, ⟨1, _⟩ => ⟨S32x4096, .bf16⟩
  | .local _ .vmem, ⟨2, _⟩ => ⟨S32x4096, .bf16⟩
  | .local _ .vmem, ⟨3, _⟩ => ⟨S32x4096, .bf16⟩
  | .local _ .vmem, ⟨4, _⟩ => ⟨S32x4096, .bf16⟩
  | .local _ .vmem, ⟨5, _⟩ => ⟨S32x4096, .bf16⟩
  | _, _ => ⟨S7264x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![227], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S7264x4096 : Shape := ⟨2, ![7264, 4096]⟩

abbrev nBuf : Space → Nat
  | .hbm => 6
  | .vmem => 0
  | .smem => 0
  | _ => 0

abbrev bufTy : (tb : Table) → Fin (tcTables nBuf tb) → BufTy
  | .hbm, ⟨0, _⟩ => ⟨S7264x4096, .bf16⟩
  | .hbm, ⟨1, _⟩ => ⟨S7264x4096, .bf16⟩
  | .hbm, ⟨2, _⟩ => ⟨S7264x4096, .f32⟩
  | .hbm, ⟨3, _⟩ => ⟨S7264x4096, .f32⟩
  | .hbm, ⟨4, _⟩ => ⟨S7264x4096, .f32⟩
  | .hbm, ⟨5, _⟩ => ⟨S7264x4096, .bf16⟩
  | _, _ => ⟨S7264x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S2048x4096 : Shape := ⟨2, ![2048, 4096]⟩
abbrev S128x4096 : Shape := ⟨2, ![128, 4096]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S1024x2048 : Shape := ⟨2, ![1024, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel30.lean ====
abbrev S4096x14592 : Shape := ⟨2, ![4096, 14592]⟩
abbrev S31x2048 : Shape := ⟨2, ![31, 2048]⟩
abbrev S4096x2048 : Shape := ⟨2, ![4096, 2048]⟩
abbrev S_ : Shape := ⟨0, ![]⟩
abbrev S1x2048 : Shape := ⟨2, ![1, 2048]⟩
abbrev S32x2048 : Shape := ⟨2, ![32, 2048]⟩
abbrev S32x512 : Shape := ⟨2, ![32, 512]⟩
abbrev S256x512 : Shape := ⟨2, ![256, 512]⟩
abbrev S1x512 : Shape := ⟨2, ![1, 512]⟩
abbrev S8x288x512 : Shape := ⟨3, ![8, 288, 512]⟩
abbrev S288x512 : Shape := ⟨2, ![288, 512]⟩
abbrev S1x288x512 : Shape := ⟨3, ![1, 288, 512]⟩
abbrev S1x256x512 : Shape := ⟨3, ![1, 256, 512]⟩
abbrev S512 : Shape := ⟨1, ![512]⟩

abbrev nBuf : Space → Nat
  | .hbm => 10
  | .vmem => 24
  | .smem => 0
  | _ => 0

abbrev bufTy : (tb : Table) → Fin (tcTables nBuf tb) → BufTy
  | .hbm, ⟨0, _⟩ => ⟨S4096x14592, .f32⟩
  | .hbm, ⟨1, _⟩ => ⟨S31x2048, .f32⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S32x2048, .f32⟩
  | .hbm, ⟨6, _⟩ => ⟨S4096x2048, .bf16⟩
  | .hbm, ⟨7, _⟩ => ⟨S4096x2048, .bf16⟩
  | .hbm, ⟨8, _⟩ => ⟨S32x2048, .f32⟩
  | .hbm, ⟨9, _⟩ => ⟨S1x2048, .f32⟩
  | .local _ .vmem, ⟨0, _⟩ => ⟨S32x512, .f32⟩
  | .local _ .vmem, ⟨1, _⟩ => ⟨S32x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S256x512, .f32⟩
  | .local _ .vmem, ⟨11, _⟩ => ⟨S256x512, .f32⟩
  | .local _ .vmem, ⟨12, _⟩ => ⟨S32x512, .f32⟩
  | .local _ .vmem, ⟨13, _⟩ => ⟨S32x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S32x512, .f32⟩
  | .local _ .vmem, ⟨19, _⟩ => ⟨S32x512, .f32⟩
  | .local _ .vmem, ⟨20, _⟩ => ⟨S1x512, .f32⟩
  | .local _ .vmem, ⟨21, _⟩ => ⟨S1x512, .f32⟩
  | .local _ .vmem, ⟨22, _⟩ => ⟨S8x288x512, .f32⟩
  | .local _ .vmem, ⟨23, _⟩ => ⟨S8x288x512, .f32⟩
  | _, _ => ⟨S4096x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference30Ideal.lean ====
abbrev S4096x14592 : Shape := ⟨2, ![4096, 14592]⟩
abbrev S31x2048 : Shape := ⟨2, ![31, 2048]⟩
abbrev S4096x2048 : Shape := ⟨2, ![4096, 2048]⟩
abbrev S_ : Shape := ⟨0, ![]⟩
abbrev S2048 : Shape := ⟨1, ![2048]⟩
abbrev S30x2048 : Shape := ⟨2, ![30, 2048]⟩
abbrev S4126x2048 : Shape := ⟨2, ![4126, 2048]⟩
abbrev S1x2048 : Shape := ⟨2, ![1, 2048]⟩
abbrev S32x2048 : Shape := ⟨2, ![32, 2048]⟩

abbrev nBuf : Space → Nat
  | .hbm => 727
  | .vmem => 0
  | .smem => 0
  | _ => 0

abbrev hbmTy0_0 (i : Nat) : BufTy := match i % 128 with
  | 0 => ⟨S4096x14592, .f32⟩
  | 1 => ⟨S31x2048, .f32⟩
  | 2 => ⟨S4096x2048, .f32⟩
  | 3 => ⟨S4096x2048, .f32⟩
  | 4 => ⟨S4096x2048, .f32⟩
  | 5 => ⟨S_, .f32⟩
  | 6 => ⟨S2048, .f32⟩
  | 7 => ⟨S4096x2048, .f32⟩
  | 8 => ⟨S4096x2048, .f32⟩
  | 9 => ⟨S_, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S4096x2048, .f32⟩
  | 20 => ⟨S_, .f32⟩
  | 21 => ⟨S30x2048, .f32⟩
  | 22 => ⟨S4126x2048, .f32⟩
  | 23 => ⟨S_, .f32⟩
  | 24 => ⟨S30x2048, .f32⟩
  | 25 => ⟨S4096x2048, .f32⟩
  | 26 => ⟨S1x2048, .f32⟩
  | 27 => ⟨S2048, .f32⟩
  | 28 => ⟨S1x2048, .f32⟩
  | 29 => ⟨S4096x2048, .f32⟩
  | 30 => ⟨S4096x2048, .f32⟩
  | 31 => ⟨S_, .f32⟩
  | 32 => ⟨S4096x2048, .f32⟩
  | 33 => ⟨S4096x2048, .f32⟩
  | 34 => ⟨S4096x2048, .f32⟩
  | 35 => ⟨S1x2048, .f32⟩
  | 36 => ⟨S2048, .f32⟩
  | 37 => ⟨S1x2048, .f32⟩
  | 38 => ⟨S4096x2048, .f32⟩
  | 39 => ⟨S4096x2048, .f32⟩
  | 40 => ⟨S4096x2048, .f32⟩
  | 41 => ⟨S4096x2048, .f32⟩
  | 42 => ⟨S1x2048, .f32⟩
  | 43 => ⟨S2048, .f32⟩
  | 44 => ⟨S1x2048, .f32⟩
  | 45 => ⟨S4096x2048, .f32⟩
  | 46 => ⟨S4096x2048, .f32⟩
  | 47 => ⟨S4096x2048, .f32⟩
  | 48 => ⟨S4096x2048, .f32⟩
  | 49 => ⟨S1x2048, .f32⟩
  | 50 => ⟨S2048, .f32⟩
  | 51 => ⟨S1x2048, .f32⟩
  | 52 => ⟨S4096x2048, .f32⟩
  | 53 => ⟨S4096x2048, .f32⟩
  | 54 => ⟨S4096x2048, .f32⟩
  | 55 => ⟨S4096x2048, .f32⟩
  | 56 => ⟨S1x2048, .f32⟩
  | 57 => ⟨S2048, .f32⟩
  | 58 => ⟨S1x2048, .f32⟩
  | 59 => ⟨S4096x2048, .f32⟩
  | 60 => ⟨S4096x2048, .f32⟩
  | 61 => ⟨S4096x2048, .f32⟩
  | 62 => ⟨S4096x2048, .f32⟩
  | 63 => ⟨S1x2048, .f32⟩
  | 64 => ⟨S2048, .f32⟩
  | 65 => ⟨S1x2048, .f32⟩
  | 66 => ⟨S4096x2048, .f32⟩
  | 67 => ⟨S4096x2048, .f32⟩
  | 68 => ⟨S4096x2048, .f32⟩
  | 69 => ⟨S4096x2048, .f32⟩
  | 70 => ⟨S1x2048, .f32⟩
  | 71 => ⟨S2048, .f32⟩
  | 72 => ⟨S1x2048, .f32⟩
  | 73 => ⟨S4096x2048, .f32⟩
  | 74 => ⟨S4096x2048, .f32⟩
  | 75 => ⟨S4096x2048, .f32⟩
  | 76 => ⟨S4096x2048, .f32⟩
  | 77 => ⟨S1x2048, .f32⟩
  | 78 => ⟨S2048, .f32⟩
  | 79 => ⟨S1x2048, .f32⟩
  | 80 => ⟨S4096x2048, .f32⟩
  | 81 => ⟨S4096x2048, .f32⟩
  | 82 => ⟨S4096x2048, .f32⟩
  | 83 => ⟨S4096x2048, .f32⟩
  | 84 => ⟨S1x2048, .f32⟩
  | 85 => ⟨S2048, .f32⟩
  | 86 => ⟨S1x2048, .f32⟩
  | 87 => ⟨S4096x2048, .f32⟩
  | 88 => ⟨S4096x2048, .f32⟩
  | 89 => ⟨S4096x2048, .f32⟩
  | 90 => ⟨S4096x2048, .f32⟩
  | 91 => ⟨S1x2048, .f32⟩
  | 92 => ⟨S2048, .f32⟩
  | 93 => ⟨S1x2048, .f32⟩
  | 94 => ⟨S4096x2048, .f32⟩
  | 95 => ⟨S4096x2048, .f32⟩
  | 96 => ⟨S4096x2048, .f32⟩
  | 97 => ⟨S4096x2048, .f32⟩
  | 98 => ⟨S1x2048, .f32⟩
  | 99 => ⟨S2048, .f32⟩
  | 100 => ⟨S1x2048, .f32⟩
  | 101 => ⟨S4096x2048, .f32⟩
  | 102 => ⟨S4096x2048, .f32⟩
  | 103 => ⟨S4096x2048, .f32⟩
  | 104 => ⟨S4096x2048, .f32⟩
  | 105 => ⟨S1x2048, .f32⟩
  | 106 => ⟨S2048, .f32⟩
  | 107 => ⟨S1x2048, .f32⟩
  | 108 => ⟨S4096x2048, .f32⟩
  | 109 => ⟨S4096x2048, .f32⟩
  | 110 => ⟨S4096x2048, .f32⟩
  | 111 => ⟨S4096x2048, .f32⟩
  | 112 => ⟨S1x2048, .f32⟩
  | 113 => ⟨S2048, .f32⟩
  | 114 => ⟨S1x2048, .f32⟩
  | 115 => ⟨S4096x2048, .f32⟩
  | 116 => ⟨S4096x2048, .f32⟩
  | 117 => ⟨S4096x2048, .f32⟩
  | 118 => ⟨S4096x2048, .f32⟩
  | 119 => ⟨S1x2048, .f32⟩
  | 120 => ⟨S2048, .f32⟩
  | 121 => ⟨S1x2048, .f32⟩
  | 122 => ⟨S4096x2048, .f32⟩
  | 123 => ⟨S4096x2048, .f32⟩
  | 124 => ⟨S4096x2048, .f32⟩
  | 125 => ⟨S4096x2048, .f32⟩
  | 126 => ⟨S1x2048, .f32⟩
  | 127 => ⟨S2048, .f32⟩
  | _ => ⟨S4096x14592, .f32⟩

abbrev hbmTy0_1 (i : Nat) : BufTy := match i % 128 with
  | 0 => ⟨S1x2048, .f32⟩
  | 1 => ⟨S4096x2048, .f32⟩
  | 2 => ⟨S4096x2048, .f32⟩
  | 3 => ⟨S4096x2048, .f32⟩
  | 4 => ⟨S4096x2048, .f32⟩
  | 5 => ⟨S1x2048, .f32⟩
  | 6 => ⟨S2048, .f32⟩
  | 7 => ⟨S1x2048, .f32⟩
  | 8 => ⟨S4096x2048, .f32⟩
  | 9 => ⟨S4096x2048, .f32⟩
  | 10 => ⟨S4096x2048, .f32⟩
  | 11 => ⟨S4096x2048, .f32⟩
  | 12 => ⟨S1x2048, .f32⟩
  | 13 => ⟨S2048, .f32⟩
  | 14 => ⟨S1x2048, .f32⟩
  | 15 => ⟨S4096x2048, .f32⟩
  | 16 => ⟨S4096x2048, .f32⟩
  | 17 => ⟨S4096x2048, .f32⟩
  | 18 => ⟨S4096x2048, .f32⟩
  | 19 => ⟨S1x2048, .f32⟩
  | 20 => ⟨S2048, .f32⟩
  | 21 => ⟨S1x2048, .f32⟩
  | 22 => ⟨S4096x2048, .f32⟩
  | 23 => ⟨S4096x2048, .f32⟩
  | 24 => ⟨S4096x2048, .f32⟩
  | 25 => ⟨S4096x2048, .f32⟩
  | 26 => ⟨S1x2048, .f32⟩
  | 27 => ⟨S2048, .f32⟩
  | 28 => ⟨S1x2048, .f32⟩
  | 29 => ⟨S4096x2048, .f32⟩
  | 30 => ⟨S4096x2048, .f32⟩
  | 31 => ⟨S4096x2048, .f32⟩
  | 32 => ⟨S4096x2048, .f32⟩
  | 33 => ⟨S1x2048, .f32⟩
  | 34 => ⟨S2048, .f32⟩
  | 35 => ⟨S1x2048, .f32⟩
  | 36 => ⟨S4096x2048, .f32⟩
  | 37 => ⟨S4096x2048, .f32⟩
  | 38 => ⟨S4096x2048, .f32⟩
  | 39 => ⟨S4096x2048, .f32⟩
  | 40 => ⟨S1x2048, .f32⟩
  | 41 => ⟨S2048, .f32⟩
  | 42 => ⟨S1x2048, .f32⟩
  | 43 => ⟨S4096x2048, .f32⟩
  | 44 => ⟨S4096x2048, .f32⟩
  | 45 => ⟨S4096x2048, .f32⟩
  | 46 => ⟨S4096x2048, .f32⟩
  | 47 => ⟨S1x2048, .f32⟩
  | 48 => ⟨S2048, .f32⟩
  | 49 => ⟨S1x2048, .f32⟩
  | 50 => ⟨S4096x2048, .f32⟩
  | 51 => ⟨S4096x2048, .f32⟩
  | 52 => ⟨S4096x2048, .f32⟩
  | 53 => ⟨S4096x2048, .f32⟩
  | 54 => ⟨S1x2048, .f32⟩
  | 55 => ⟨S2048, .f32⟩
  | 56 => ⟨S1x2048, .f32⟩
  | 57 => ⟨S4096x2048, .f32⟩
  | 58 => ⟨S4096x2048, .f32⟩
  | 59 => ⟨S4096x2048, .f32⟩
  | 60 => ⟨S4096x2048, .f32⟩
  | 61 => ⟨S1x2048, .f32⟩
  | 62 => ⟨S2048, .f32⟩
  | 63 => ⟨S1x2048, .f32⟩
  | 64 => ⟨S4096x2048, .f32⟩
  | 65 => ⟨S4096x2048, .f32⟩
  | 66 => ⟨S4096x2048, .f32⟩
  | 67 => ⟨S4096x2048, .f32⟩
  | 68 => ⟨S1x2048, .f32⟩
  | 69 => ⟨S2048, .f32⟩
  | 70 => ⟨S1x2048, .f32⟩
  | 71 => ⟨S4096x2048, .f32⟩
  | 72 => ⟨S4096x2048, .f32⟩
  | 73 => ⟨S4096x2048, .f32⟩
  | 74 => ⟨S4096x2048, .f32⟩
  | 75 => ⟨S1x2048, .f32⟩
  | 76 => ⟨S2048, .f32⟩
  | 77 => ⟨S1x2048, .f32⟩
  | 78 => ⟨S4096x2048, .f32⟩
  | 79 => ⟨S4096x2048, .f32⟩
  | 80 => ⟨S4096x2048, .f32⟩
  | 81 => ⟨S4096x2048, .f32⟩
  | 82 => ⟨S1x2048, .f32⟩
  | 83 => ⟨S2048, .f32⟩
  | 84 => ⟨S1x2048, .f32⟩
  | 85 => ⟨S4096x2048, .f32⟩
  | 86 => ⟨S4096x2048, .f32⟩
  | 87 => ⟨S4096x2048, .f32⟩
  | 88 => ⟨S4096x2048, .f32⟩
  | 89 => ⟨S1x2048, .f32⟩
  | 90 => ⟨S2048, .f32⟩
  | 91 => ⟨S1x2048, .f32⟩
  | 92 => ⟨S4096x2048, .f32⟩
  | 93 => ⟨S4096x2048, .f32⟩
  | 94 => ⟨S4096x2048, .f32⟩
  | 95 => ⟨S4096x2048, .f32⟩
  | 96 => ⟨S1x2048, .f32⟩
  | 97 => ⟨S2048, .f32⟩
  | 98 => ⟨S1x2048, .f32⟩
  | 99 => ⟨S4096x2048, .f32⟩
  | 100 => ⟨S4096x2048, .f32⟩
  | 101 => ⟨S4096x2048, .f32⟩
  | 102 => ⟨S4096x2048, .f32⟩
  | 103 => ⟨S1x2048, .f32⟩
  | 104 => ⟨S2048, .f32⟩
  | 105 => ⟨S1x2048, .f32⟩
  | 106 => ⟨S4096x2048, .f32⟩
  | 107 => ⟨S4096x2048, .f32⟩
  | 108 => ⟨S4096x2048, .f32⟩
  | 109 => ⟨S4096x2048, .f32⟩
  | 110 => ⟨S1x2048, .f32⟩
  | 111 => ⟨S2048, .f32⟩
  | 112 => ⟨S1x2048, .f32⟩
  | 113 => ⟨S4096x2048, .f32⟩
  | 114 => ⟨S4096x2048, .f32⟩
  | 115 => ⟨S4096x2048, .f32⟩
  | 116 => ⟨S1x2048, .f32⟩
  | 117 => ⟨S4096x2048, .f32⟩
  | 118 => ⟨S4096x2048, .f32⟩
  | 119 => ⟨S4096x2048, .f32⟩
  | 120 => ⟨S_, .f32⟩
  | 121 => ⟨S2048, .f32⟩
  | 122 => ⟨S1x2048, .f32⟩
  | 123 => ⟨S_, .f32⟩
  | 124 => ⟨S2048, .f32⟩
  | 125 => ⟨S4096x2048, .f32⟩
  | 126 => ⟨S_, .f32⟩
  | 127 => ⟨S2048, .f32⟩
  | _ => ⟨S4096x14592, .f32⟩

abbrev hbmTy0_2 (i : Nat) : BufTy := match i % 128 with
  | 0 => ⟨S1x2048, .f32⟩
  | 1 => ⟨S4096x2048, .f32⟩
  | 2 => ⟨S4096x2048, .f32⟩
  | 3 => ⟨S_, .f32⟩
  | 4 => ⟨S2048, .f32⟩
  | 5 => ⟨S1x2048, .f32⟩
  | 6 => ⟨S_, .f32⟩
  | 7 => ⟨S31x2048, .f32⟩
  | 8 => ⟨S_, .f32⟩
  | 9 => ⟨S4126x2048, .f32⟩
  | 10 => ⟨S4096x2048, .f32⟩
  | 11 => ⟨S_, .f32⟩
  | 12 => ⟨S2048, .f32⟩
  | 13 => ⟨S1x2048, .f32⟩
  | 14 => ⟨S4096x2048, .f32⟩
  | 15 => ⟨S4096x2048, .f32⟩
  | 16 => ⟨S_, .f32⟩
  | 17 => ⟨S2048, .f32⟩
  | 18 => ⟨S1x2048, .f32⟩
  | 19 => ⟨S_, .f32⟩
  | 20 => ⟨S31x2048, .f32⟩
  | 21 => ⟨S31x2048, .f32⟩
  | 22 => ⟨S_, .f32⟩
  | 23 => ⟨S4126x2048, .f32⟩
  | 24 => ⟨S4126x2048, .f32⟩
  | 25 => ⟨S4096x2048, .f32⟩
  | 26 => ⟨S_, .f32⟩
  | 27 => ⟨S2048, .f32⟩
  | 28 => ⟨S1x2048, .f32⟩
  | 29 => ⟨S4096x2048, .f32⟩
  | 30 => ⟨S4096x2048, .f32⟩
  | 31 => ⟨S_, .f32⟩
  | 32 => ⟨S2048, .f32⟩
  | 33 => ⟨S1x2048, .f32⟩
  | 34 => ⟨S_, .f32⟩
  | 35 => ⟨S31x2048, .f32⟩
  | 36 => ⟨S31x2048, .f32⟩
  | 37 => ⟨S_, .f32⟩
  | 38 => ⟨S4126x2048, .f32⟩
  | 39 => ⟨S4126x2048, .f32⟩
  | 40 => ⟨S4096x2048, .f32⟩
  | 41 => ⟨S_, .f32⟩
  | 42 => ⟨S2048, .f32⟩
  | 43 => ⟨S1x2048, .f32⟩
  | 44 => ⟨S4096x2048, .f32⟩
  | 45 => ⟨S4096x2048, .f32⟩
  | 46 => ⟨S_, .f32⟩
  | 47 => ⟨S2048, .f32⟩
  | 48 => ⟨S1x2048, .f32⟩
  | 49 => ⟨S_, .f32⟩
  | 50 => ⟨S31x2048, .f32⟩
  | 51 => ⟨S31x2048, .f32⟩
  | 52 => ⟨S_, .f32⟩
  | 53 => ⟨S4126x2048, .f32⟩
  | 54 => ⟨S4126x2048, .f32⟩
  | 55 => ⟨S4096x2048, .f32⟩
  | 56 => ⟨S_, .f32⟩
  | 57 => ⟨S2048, .f32⟩
  | 58 => ⟨S1x2048, .f32⟩
  | 59 => ⟨S4096x2048, .f32⟩
  | 60 => ⟨S4096x2048, .f32⟩
  | 61 => ⟨S_, .f32⟩
  | 62 => ⟨S2048, .f32⟩
  | 63 => ⟨S1x2048, .f32⟩
  | 64 => ⟨S_, .f32⟩
  | 65 => ⟨S31x2048, .f32⟩
  | 66 => ⟨S31x2048, .f32⟩
  | 67 => ⟨S_, .f32⟩
  | 68 => ⟨S4126x2048, .f32⟩
  | 69 => ⟨S4126x2048, .f32⟩
  | 70 => ⟨S4096x2048, .f32⟩
  | 71 => ⟨S_, .f32⟩
  | 72 => ⟨S2048, .f32⟩
  | 73 => ⟨S1x2048, .f32⟩
  | 74 => ⟨S4096x2048, .f32⟩
  | 75 => ⟨S4096x2048, .f32⟩
  | 76 => ⟨S_, .f32⟩
  | 77 => ⟨S2048, .f32⟩
  | 78 => ⟨S1x2048, .f32⟩
  | 79 => ⟨S_, .f32⟩
  | 80 => ⟨S31x2048, .f32⟩
  | 81 => ⟨S31x2048, .f32⟩
  | 82 => ⟨S_, .f32⟩
  | 83 => ⟨S4126x2048, .f32⟩
  | 84 => ⟨S4126x2048, .f32⟩
  | 85 => ⟨S4096x2048, .f32⟩
  | 86 => ⟨S_, .f32⟩
  | 87 => ⟨S2048, .f32⟩
  | 88 => ⟨S1x2048, .f32⟩
  | 89 => ⟨S4096x2048, .f32⟩
  | 90 => ⟨S4096x2048, .f32⟩
  | 91 => ⟨S_, .f32⟩
  | 92 => ⟨S2048, .f32⟩
  | 93 => ⟨S1x2048, .f32⟩
  | 94 => ⟨S_, .f32⟩
  | 95 => ⟨S31x2048, .f32⟩
  | 96 => ⟨S31x2048, .f32⟩
  | 97 => ⟨S_, .f32⟩
  | 98 => ⟨S4126x2048, .f32⟩
  | 99 => ⟨S4126x2048, .f32⟩
  | 100 => ⟨S4096x2048, .f32⟩
  | 101 => ⟨S_, .f32⟩
  | 102 => ⟨S2048, .f32⟩
  | 103 => ⟨S1x2048, .f32⟩
  | 104 => ⟨S4096x2048, .f32⟩
  | 105 => ⟨S4096x2048, .f32⟩
  | 106 => ⟨S_, .f32⟩
  | 107 => ⟨S2048, .f32⟩
  | 108 => ⟨S1x2048, .f32⟩
  | 109 => ⟨S_, .f32⟩
  | 110 => ⟨S31x2048, .f32⟩
  | 111 => ⟨S31x2048, .f32⟩
  | 112 => ⟨S_, .f32⟩
  | 113 => ⟨S4126x2048, .f32⟩
  | 114 => ⟨S4126x2048, .f32⟩
  | 115 => ⟨S4096x2048, .f32⟩
  | 116 => ⟨S_, .f32⟩
  | 117 => ⟨S2048, .f32⟩
  | 118 => ⟨S1x2048, .f32⟩
  | 119 => ⟨S4096x2048, .f32⟩
  | 120 => ⟨S4096x2048, .f32⟩
  | 121 => ⟨S_, .f32⟩
  | 122 => ⟨S2048, .f32⟩
  | 123 => ⟨S1x2048, .f32⟩
  | 124 => ⟨S_, .f32⟩
  | 125 => ⟨S31x2048, .f32⟩
  | 126 => ⟨S31x2048, .f32⟩
  | 127 => ⟨S_, .f32⟩
  | _ => ⟨S4096x14592, .f32⟩

abbrev hbmTy0_3 (i : Nat) : BufTy := match i % 128 with
  | 0 => ⟨S4126x2048, .f32⟩
  | 1 => ⟨S4126x2048, .f32⟩
  | 2 => ⟨S4096x2048, .f32⟩
  | 3 => ⟨S_, .f32⟩
  | 4 => ⟨S2048, .f32⟩
  | 5 => ⟨S1x2048, .f32⟩
  | 6 => ⟨S4096x2048, .f32⟩
  | 7 => ⟨S4096x2048, .f32⟩
  | 8 => ⟨S_, .f32⟩
  | 9 => ⟨S2048, .f32⟩
  | 10 => ⟨S1x2048, .f32⟩
  | 11 => ⟨S_, .f32⟩
  | 12 => ⟨S31x2048, .f32⟩
  | 13 => ⟨S31x2048, .f32⟩
  | 14 => ⟨S_, .f32⟩
  | 15 => ⟨S4126x2048, .f32⟩
  | 16 => ⟨S4126x2048, .f32⟩
  | 17 => ⟨S4096x2048, .f32⟩
  | 18 => ⟨S_, .f32⟩
  | 19 => ⟨S2048, .f32⟩
  | 20 => ⟨S1x2048, .f32⟩
  | 21 => ⟨S4096x2048, .f32⟩
  | 22 => ⟨S4096x2048, .f32⟩
  | 23 => ⟨S_, .f32⟩
  | 24 => ⟨S2048, .f32⟩
  | 25 => ⟨S1x2048, .f32⟩
  | 26 => ⟨S_, .f32⟩
  | 27 => ⟨S31x2048, .f32⟩
  | 28 => ⟨S31x2048, .f32⟩
  | 29 => ⟨S_, .f32⟩
  | 30 => ⟨S4126x2048, .f32⟩
  | 31 => ⟨S4126x2048, .f32⟩
  | 32 => ⟨S4096x2048, .f32⟩
  | 33 => ⟨S_, .f32⟩
  | 34 => ⟨S2048, .f32⟩
  | 35 => ⟨S1x2048, .f32⟩
  | 36 => ⟨S4096x2048, .f32⟩
  | 37 => ⟨S4096x2048, .f32⟩
  | 38 => ⟨S_, .f32⟩
  | 39 => ⟨S2048, .f32⟩
  | 40 => ⟨S1x2048, .f32⟩
  | 41 => ⟨S_, .f32⟩
  | 42 => ⟨S31x2048, .f32⟩
  | 43 => ⟨S31x2048, .f32⟩
  | 44 => ⟨S_, .f32⟩
  | 45 => ⟨S4126x2048, .f32⟩
  | 46 => ⟨S4126x2048, .f32⟩
  | 47 => ⟨S4096x2048, .f32⟩
  | 48 => ⟨S_, .f32⟩
  | 49 => ⟨S2048, .f32⟩
  | 50 => ⟨S1x2048, .f32⟩
  | 51 => ⟨S4096x2048, .f32⟩
  | 52 => ⟨S4096x2048, .f32⟩
  | 53 => ⟨S_, .f32⟩
  | 54 => ⟨S2048, .f32⟩
  | 55 => ⟨S1x2048, .f32⟩
  | 56 => ⟨S_, .f32⟩
  | 57 => ⟨S31x2048, .f32⟩
  | 58 => ⟨S31x2048, .f32⟩
  | 59 => ⟨S_, .f32⟩
  | 60 => ⟨S4126x2048, .f32⟩
  | 61 => ⟨S4126x2048, .f32⟩
  | 62 => ⟨S4096x2048, .f32⟩
  | 63 => ⟨S_, .f32⟩
  | 64 => ⟨S2048, .f32⟩
  | 65 => ⟨S1x2048, .f32⟩
  | 66 => ⟨S4096x2048, .f32⟩
  | 67 => ⟨S4096x2048, .f32⟩
  | 68 => ⟨S_, .f32⟩
  | 69 => ⟨S2048, .f32⟩
  | 70 => ⟨S1x2048, .f32⟩
  | 71 => ⟨S_, .f32⟩
  | 72 => ⟨S31x2048, .f32⟩
  | 73 => ⟨S31x2048, .f32⟩
  | 74 => ⟨S_, .f32⟩
  | 75 => ⟨S4126x2048, .f32⟩
  | 76 => ⟨S4126x2048, .f32⟩
  | 77 => ⟨S4096x2048, .f32⟩
  | 78 => ⟨S_, .f32⟩
  | 79 => ⟨S2048, .f32⟩
  | 80 => ⟨S1x2048, .f32⟩
  | 81 => ⟨S4096x2048, .f32⟩
  | 82 => ⟨S4096x2048, .f32⟩
  | 83 => ⟨S_, .f32⟩
  | 84 => ⟨S2048, .f32⟩
  | 85 => ⟨S1x2048, .f32⟩
  | 86 => ⟨S_, .f32⟩
  | 87 => ⟨S31x2048, .f32⟩
  | 88 => ⟨S31x2048, .f32⟩
  | 89 => ⟨S_, .f32⟩
  | 90 => ⟨S4126x2048, .f32⟩
  | 91 => ⟨S4126x2048, .f32⟩
  | 92 => ⟨S4096x2048, .f32⟩
  | 93 => ⟨S_, .f32⟩
  | 94 => ⟨S2048, .f32⟩
  | 95 => ⟨S1x2048, .f32⟩
  | 96 => ⟨S4096x2048, .f32⟩
  | 97 => ⟨S4096x2048, .f32⟩
  | 98 => ⟨S_, .f32⟩
  | 99 => ⟨S2048, .f32⟩
  | 100 => ⟨S1x2048, .f32⟩
  | 101 => ⟨S_, .f32⟩
  | 102 => ⟨S31x2048, .f32⟩
  | 103 => ⟨S31x2048, .f32⟩
  | 104 => ⟨S_, .f32⟩
  | 105 => ⟨S4126x2048, .f32⟩
  | 106 => ⟨S4126x2048, .f32⟩
  | 107 => ⟨S4096x2048, .f32⟩
  | 108 => ⟨S_, .f32⟩
  | 109 => ⟨S2048, .f32⟩
  | 110 => ⟨S1x2048, .f32⟩
  | 111 => ⟨S4096x2048, .f32⟩
  | 112 => ⟨S4096x2048, .f32⟩
  | 113 => ⟨S_, .f32⟩
  | 114 => ⟨S2048, .f32⟩
  | 115 => ⟨S1x2048, .f32⟩
  | 116 => ⟨S_, .f32⟩
  | 117 => ⟨S31x2048, .f32⟩
  | 118 => ⟨S31x2048, .f32⟩
  | 119 => ⟨S_, .f32⟩
  | 120 => ⟨S4126x2048, .f32⟩
  | 121 => ⟨S4126x2048, .f32⟩
  | 122 => ⟨S4096x2048, .f32⟩
  | 123 => ⟨S_, .f32⟩
  | 124 => ⟨S2048, .f32⟩
  | 125 => ⟨S1x2048, .f32⟩
  | 126 => ⟨S4096x2048, .f32⟩
  | 127 => ⟨S4096x2048, .f32⟩
  | _ => ⟨S4096x14592, .f32⟩

abbrev hbmTy0_4 (i : Nat) : BufTy := match i % 128 with
  | 0 => ⟨S_, .f32⟩
  | 1 => ⟨S2048, .f32⟩
  | 2 => ⟨S1x2048, .f32⟩
  | 3 => ⟨S_, .f32⟩
  | 4 => ⟨S31x2048, .f32⟩
  | 5 => ⟨S31x2048, .f32⟩
  | 6 => ⟨S_, .f32⟩
  | 7 => ⟨S4126x2048, .f32⟩
  | 8 => ⟨S4126x2048, .f32⟩
  | 9 => ⟨S4096x2048, .f32⟩
  | 10 => ⟨S_, .f32⟩
  | 11 => ⟨S2048, .f32⟩
  | 12 => ⟨S1x2048, .f32⟩
  | 13 => ⟨S4096x2048, .f32⟩
  | 14 => ⟨S4096x2048, .f32⟩
  | 15 => ⟨S_, .f32⟩
  | 16 => ⟨S2048, .f32⟩
  | 17 => ⟨S1x2048, .f32⟩
  | 18 => ⟨S_, .f32⟩
  | 19 => ⟨S31x2048, .f32⟩
  | 20 => ⟨S31x2048, .f32⟩
  | 21 => ⟨S_, .f32⟩
  | 22 => ⟨S4126x2048, .f32⟩
  | 23 => ⟨S4126x2048, .f32⟩
  | 24 => ⟨S4096x2048, .f32⟩
  | 25 => ⟨S_, .f32⟩
  | 26 => ⟨S2048, .f32⟩
  | 27 => ⟨S1x2048, .f32⟩
  | 28 => ⟨S4096x2048, .f32⟩
  | 29 => ⟨S4096x2048, .f32⟩
  | 30 => ⟨S_, .f32⟩
  | 31 => ⟨S2048, .f32⟩
  | 32 => ⟨S1x2048, .f32⟩
  | 33 => ⟨S_, .f32⟩
  | 34 => ⟨S31x2048, .f32⟩
  | 35 => ⟨S31x2048, .f32⟩
  | 36 => ⟨S_, .f32⟩
  | 37 => ⟨S4126x2048, .f32⟩
  | 38 => ⟨S4126x2048, .f32⟩
  | 39 => ⟨S4096x2048, .f32⟩
  | 40 => ⟨S_, .f32⟩
  | 41 => ⟨S2048, .f32⟩
  | 42 => ⟨S1x2048, .f32⟩
  | 43 => ⟨S4096x2048, .f32⟩
  | 44 => ⟨S4096x2048, .f32⟩
  | 45 => ⟨S_, .f32⟩
  | 46 => ⟨S2048, .f32⟩
  | 47 => ⟨S1x2048, .f32⟩
  | 48 => ⟨S_, .f32⟩
  | 49 => ⟨S31x2048, .f32⟩
  | 50 => ⟨S31x2048, .f32⟩
  | 51 => ⟨S_, .f32⟩
  | 52 => ⟨S4126x2048, .f32⟩
  | 53 => ⟨S4126x2048, .f32⟩
  | 54 => ⟨S4096x2048, .f32⟩
  | 55 => ⟨S_, .f32⟩
  | 56 => ⟨S2048, .f32⟩
  | 57 => ⟨S1x2048, .f32⟩
  | 58 => ⟨S4096x2048, .f32⟩
  | 59 => ⟨S4096x2048, .f32⟩
  | 60 => ⟨S_, .f32⟩
  | 61 => ⟨S2048, .f32⟩
  | 62 => ⟨S1x2048, .f32⟩
  | 63 => ⟨S_, .f32⟩
  | 64 => ⟨S31x2048, .f32⟩
  | 65 => ⟨S31x2048, .f32⟩
  | 66 => ⟨S_, .f32⟩
  | 67 => ⟨S4126x2048, .f32⟩
  | 68 => ⟨S4126x2048, .f32⟩
  | 69 => ⟨S4096x2048, .f32⟩
  | 70 => ⟨S_, .f32⟩
  | 71 => ⟨S2048, .f32⟩
  | 72 => ⟨S1x2048, .f32⟩
  | 73 => ⟨S4096x2048, .f32⟩
  | 74 => ⟨S4096x2048, .f32⟩
  | 75 => ⟨S_, .f32⟩
  | 76 => ⟨S2048, .f32⟩
  | 77 => ⟨S1x2048, .f32⟩
  | 78 => ⟨S_, .f32⟩
  | 79 => ⟨S31x2048, .f32⟩
  | 80 => ⟨S31x2048, .f32⟩
  | 81 => ⟨S_, .f32⟩
  | 82 => ⟨S4126x2048, .f32⟩
  | 83 => ⟨S4126x2048, .f32⟩
  | 84 => ⟨S4096x2048, .f32⟩
  | 85 => ⟨S_, .f32⟩
  | 86 => ⟨S2048, .f32⟩
  | 87 => ⟨S1x2048, .f32⟩
  | 88 => ⟨S4096x2048, .f32⟩
  | 89 => ⟨S4096x2048, .f32⟩
  | 90 => ⟨S_, .f32⟩
  | 91 => ⟨S2048, .f32⟩
  | 92 => ⟨S1x2048, .f32⟩
  | 93 => ⟨S_, .f32⟩
  | 94 => ⟨S31x2048, .f32⟩
  | 95 => ⟨S31x2048, .f32⟩
  | 96 => ⟨S_, .f32⟩
  | 97 => ⟨S4126x2048, .f32⟩
  | 98 => ⟨S4126x2048, .f32⟩
  | 99 => ⟨S4096x2048, .f32⟩
  | 100 => ⟨S_, .f32⟩
  | 101 => ⟨S2048, .f32⟩
  | 102 => ⟨S1x2048, .f32⟩
  | 103 => ⟨S4096x2048, .f32⟩
  | 104 => ⟨S4096x2048, .f32⟩
  | 105 => ⟨S_, .f32⟩
  | 106 => ⟨S2048, .f32⟩
  | 107 => ⟨S1x2048, .f32⟩
  | 108 => ⟨S_, .f32⟩
  | 109 => ⟨S31x2048, .f32⟩
  | 110 => ⟨S31x2048, .f32⟩
  | 111 => ⟨S_, .f32⟩
  | 112 => ⟨S4126x2048, .f32⟩
  | 113 => ⟨S4126x2048, .f32⟩
  | 114 => ⟨S4096x2048, .f32⟩
  | 115 => ⟨S_, .f32⟩
  | 116 => ⟨S2048, .f32⟩
  | 117 => ⟨S1x2048, .f32⟩
  | 118 => ⟨S4096x2048, .f32⟩
  | 119 => ⟨S4096x2048, .f32⟩
  | 120 => ⟨S_, .f32⟩
  | 121 => ⟨S2048, .f32⟩
  | 122 => ⟨S1x2048, .f32⟩
  | 123 => ⟨S_, .f32⟩
  | 124 => ⟨S31x2048, .f32⟩
  | 125 => ⟨S31x2048, .f32⟩
  | 126 => ⟨S_, .f32⟩
  | 127 => ⟨S4126x2048, .f32⟩
  | _ => ⟨S4096x14592, .f32⟩

abbrev hbmTy0_5 (i : Nat) : BufTy := match i % 128 with
  | 0 => ⟨S4126x2048, .f32⟩
  | 1 => ⟨S4096x2048, .f32⟩
  | 2 => ⟨S_, .f32⟩
  | 3 => ⟨S2048, .f32⟩
  | 4 => ⟨S1x2048, .f32⟩
  | 5 => ⟨S4096x2048, .f32⟩
  | 6 => ⟨S4096x2048, .f32⟩
  | 7 => ⟨S_, .f32⟩
  | 8 => ⟨S2048, .f32⟩
  | 9 => ⟨S1x2048, .f32⟩
  | 10 => ⟨S_, .f32⟩
  | 11 => ⟨S31x2048, .f32⟩
  | 12 => ⟨S31x2048, .f32⟩
  | 13 => ⟨S_, .f32⟩
  | 14 => ⟨S4126x2048, .f32⟩
  | 15 => ⟨S4126x2048, .f32⟩
  | 16 => ⟨S4096x2048, .f32⟩
  | 17 => ⟨S_, .f32⟩
  | 18 => ⟨S2048, .f32⟩
  | 19 => ⟨S1x2048, .f32⟩
  | 20 => ⟨S4096x2048, .f32⟩
  | 21 => ⟨S4096x2048, .f32⟩
  | 22 => ⟨S_, .f32⟩
  | 23 => ⟨S2048, .f32⟩
  | 24 => ⟨S1x2048, .f32⟩
  | 25 => ⟨S_, .f32⟩
  | 26 => ⟨S31x2048, .f32⟩
  | 27 => ⟨S31x2048, .f32⟩
  | 28 => ⟨S_, .f32⟩
  | 29 => ⟨S4126x2048, .f32⟩
  | 30 => ⟨S4126x2048, .f32⟩
  | 31 => ⟨S4096x2048, .f32⟩
  | 32 => ⟨S_, .f32⟩
  | 33 => ⟨S2048, .f32⟩
  | 34 => ⟨S1x2048, .f32⟩
  | 35 => ⟨S4096x2048, .f32⟩
  | 36 => ⟨S4096x2048, .f32⟩
  | 37 => ⟨S_, .f32⟩
  | 38 => ⟨S2048, .f32⟩
  | 39 => ⟨S1x2048, .f32⟩
  | 40 => ⟨S_, .f32⟩
  | 41 => ⟨S31x2048, .f32⟩
  | 42 => ⟨S31x2048, .f32⟩
  | 43 => ⟨S_, .f32⟩
  | 44 => ⟨S4126x2048, .f32⟩
  | 45 => ⟨S4126x2048, .f32⟩
  | 46 => ⟨S4096x2048, .f32⟩
  | 47 => ⟨S_, .f32⟩
  | 48 => ⟨S2048, .f32⟩
  | 49 => ⟨S1x2048, .f32⟩
  | 50 => ⟨S4096x2048, .f32⟩
  | 51 => ⟨S4096x2048, .f32⟩
  | 52 => ⟨S_, .f32⟩
  | 53 => ⟨S2048, .f32⟩
  | 54 => ⟨S1x2048, .f32⟩
  | 55 => ⟨S_, .f32⟩
  | 56 => ⟨S31x2048, .f32⟩
  | 57 => ⟨S31x2048, .f32⟩
  | 58 => ⟨S_, .f32⟩
  | 59 => ⟨S4126x2048, .f32⟩
  | 60 => ⟨S4126x2048, .f32⟩
  | 61 => ⟨S4096x2048, .f32⟩
  | 62 => ⟨S_, .f32⟩
  | 63 => ⟨S2048, .f32⟩
  | 64 => ⟨S1x2048, .f32⟩
  | 65 => ⟨S4096x2048, .f32⟩
  | 66 => ⟨S4096x2048, .f32⟩
  | 67 => ⟨S_, .f32⟩
  | 68 => ⟨S2048, .f32⟩
  | 69 => ⟨S1x2048, .f32⟩
  | 70 => ⟨S_, .f32⟩
  | 71 => ⟨S31x2048, .f32⟩
  | 72 => ⟨S31x2048, .f32⟩
  | 73 => ⟨S_, .f32⟩
  | 74 => ⟨S4126x2048, .f32⟩
  | 75 => ⟨S4126x2048, .f32⟩
  | 76 => ⟨S30x2048, .f32⟩
  | 77 => ⟨S4096x2048, .f32⟩
  | 78 => ⟨S4096x2048, .f32⟩
  | 79 => ⟨S4096x2048, .f32⟩
  | 80 => ⟨S4096x2048, .f32⟩
  | 81 => ⟨S4096x2048, .bf16⟩
  | 82 => ⟨S4096x2048, .bf16⟩
  | 83 => ⟨S_, .i32⟩
  | 84 => ⟨S_, .f32⟩
  | 85 => ⟨S32x2048, .f32⟩
  | 86 => ⟨S1x2048, .f32⟩
  | _ => ⟨S4096x14592, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x14592, .f32⟩

abbrev bufTy : (tb : Table) → Fin (tcTables nBuf tb) → BufTy
  | .hbm, ⟨i, _⟩ => hbmTy i
  | _, _ => ⟨S4096x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_6 : Ref sig .tc := ⟨.hbm, 248, rfl⟩
abbrev main_v238 : Ref sig .tc := ⟨.hbm, 249, rfl⟩
abbrev main_v239 : Ref sig .tc := ⟨.hbm, 250, rfl⟩
abbrev main_cst_7 : Ref sig .tc := ⟨.hbm, 251, rfl⟩
abbrev main_v240 : Ref sig .tc := ⟨.hbm, 252, rfl⟩
abbrev main_v241 : Ref sig .tc := ⟨.hbm, 253, rfl⟩
abbrev main_cst_8 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_v247 : Ref sig .tc := ⟨.hbm, 261, rfl⟩
abbrev main_cst_10 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_v250 : Ref sig .tc := ⟨.hbm, 266, rfl⟩
abbrev main_cst_12 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_v256 : Ref sig .tc := ⟨.hbm, 274, rfl⟩
abbrev main_cst_14 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_cst_16 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_v267 : Ref sig .tc := ⟨.hbm, 289, rfl⟩
abbrev main_cst_18 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_cst_20 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_v278 : Ref sig .tc := ⟨.hbm, 304, rfl⟩
abbrev main_cst_22 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_cst_24 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_v289 : Ref sig .tc := ⟨.hbm, 319, rfl⟩
abbrev main_cst_26 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_cst_28 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_v300 : Ref sig .tc := ⟨.hbm, 334, rfl⟩
abbrev main_cst_30 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_cst_32 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_v311 : Ref sig .tc := ⟨.hbm, 349, rfl⟩
abbrev main_cst_34 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_cst_36 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_v322 : Ref sig .tc := ⟨.hbm, 364, rfl⟩
abbrev main_cst_38 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_cst_40 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_v333 : Ref sig .tc := ⟨.hbm, 379, rfl⟩
abbrev main_cst_42 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_cst_44 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_v344 : Ref sig .tc := ⟨.hbm, 394, rfl⟩
abbrev main_cst_46 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_cst_48 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_v355 : Ref sig .tc := ⟨.hbm, 409, rfl⟩
abbrev main_cst_50 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_cst_52 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_v366 : Ref sig .tc := ⟨.hbm, 424, rfl⟩
abbrev main_cst_54 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_cst_56 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_v377 : Ref sig .tc := ⟨.hbm, 439, rfl⟩
abbrev main_cst_58 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_cst_60 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_v388 : Ref sig .tc := ⟨.hbm, 454, rfl⟩
abbrev main_cst_62 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_cst_64 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_v399 : Ref sig .tc := ⟨.hbm, 469, rfl⟩
abbrev main_cst_66 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_cst_68 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_v410 : Ref sig .tc := ⟨.hbm, 484, rfl⟩
abbrev main_cst_70 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_cst_72 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_v421 : Ref sig .tc := ⟨.hbm, 499, rfl⟩
abbrev main_cst_74 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_cst_76 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_v432 : Ref sig .tc := ⟨.hbm, 514, rfl⟩
abbrev main_cst_78 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_v437 : Ref sig .tc := ⟨.hbm, 521, rfl⟩
abbrev main_cst_80 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_v443 : Ref sig .tc := ⟨.hbm, 529, rfl⟩
abbrev main_cst_82 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_cst_84 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_v454 : Ref sig .tc := ⟨.hbm, 544, rfl⟩
abbrev main_cst_86 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_v459 : Ref sig .tc := ⟨.hbm, 551, rfl⟩
abbrev main_cst_88 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_v465 : Ref sig .tc := ⟨.hbm, 559, rfl⟩
abbrev main_cst_90 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_v470 : Ref sig .tc := ⟨.hbm, 566, rfl⟩
abbrev main_cst_92 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_v476 : Ref sig .tc := ⟨.hbm, 574, rfl⟩
abbrev main_cst_94 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_v481 : Ref sig .tc := ⟨.hbm, 581, rfl⟩
abbrev main_cst_96 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_v487 : Ref sig .tc := ⟨.hbm, 589, rfl⟩
abbrev main_cst_98 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_v492 : Ref sig .tc := ⟨.hbm, 596, rfl⟩
abbrev main_cst_100 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_v498 : Ref sig .tc := ⟨.hbm, 604, rfl⟩
abbrev main_cst_102 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_v503 : Ref sig .tc := ⟨.hbm, 611, rfl⟩
abbrev main_cst_104 : Ref sig .tc := ⟨.hbm, 612, rfl⟩
abbrev main_v504 : Ref sig .tc := ⟨.hbm, 613, rfl⟩
abbrev main_v505 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_v509 : Ref sig .tc := ⟨.hbm, 619, rfl⟩
abbrev main_cst_106 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_v514 : Ref sig .tc := ⟨.hbm, 626, rfl⟩
abbrev main_cst_108 : Ref sig .tc := ⟨.hbm, 627, rfl⟩
abbrev main_v515 : Ref sig .tc := ⟨.hbm, 628, rfl⟩
abbrev main_v516 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_v520 : Ref sig .tc := ⟨.hbm, 634, rfl⟩
abbrev main_cst_110 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_cst_112 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_v531 : Ref sig .tc := ⟨.hbm, 649, rfl⟩
abbrev main_cst_114 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_v536 : Ref sig .tc := ⟨.hbm, 656, rfl⟩
abbrev main_cst_116 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_v542 : Ref sig .tc := ⟨.hbm, 664, rfl⟩
abbrev main_cst_118 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_v547 : Ref sig .tc := ⟨.hbm, 671, rfl⟩
abbrev main_cst_120 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_v553 : Ref sig .tc := ⟨.hbm, 679, rfl⟩
abbrev main_cst_122 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_cst_124 : Ref sig .tc := ⟨.hbm, 687, rfl⟩
abbrev main_v559 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_cst_125 : Ref sig .tc := ⟨.hbm, 692, rfl⟩
abbrev main_v563 : Ref sig .tc := ⟨.hbm, 693, rfl⟩
abbrev main_v564 : Ref sig .tc := ⟨.hbm, 694, rfl⟩
abbrev main_cst_126 : Ref sig .tc := ⟨.hbm, 695, rfl⟩
abbrev main_v565 : Ref sig .tc := ⟨.hbm, 696, rfl⟩
abbrev main_v566 : Ref sig .tc := ⟨.hbm, 697, rfl⟩
abbrev main_cst_127 : Ref sig .tc := ⟨.hbm, 698, rfl⟩
abbrev main_v567 : Ref sig .tc := ⟨.hbm, 699, rfl⟩
abbrev main_v568 : Ref sig .tc := ⟨.hbm, 700, rfl⟩
abbrev main_v569 : Ref sig .tc := ⟨.hbm, 701, rfl⟩
abbrev main_cst_128 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_cst_129 : Ref sig .tc := ⟨.hbm, 707, rfl⟩
abbrev main_v574 : Ref sig .tc := ⟨.hbm, 708, rfl⟩
abbrev main_v575 : Ref sig .tc := ⟨.hbm, 709, rfl⟩
abbrev main_cst_130 : Ref sig .tc := ⟨.hbm, 710, rfl⟩
abbrev main_v576 : Ref sig .tc := ⟨.hbm, 711, rfl⟩
abbrev main_v577 : Ref sig .tc := ⟨.hbm, 712, rfl⟩
abbrev main_cst_131 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_c : Ref sig .tc := ⟨.hbm, 723, rfl⟩
abbrev main_call0_v0 : Ref sig .tc := ⟨.hbm, 724, rfl⟩
abbrev main_v587 : Ref sig .tc := ⟨.hbm, 725, rfl⟩
abbrev main_v588 : Ref sig .tc := ⟨.hbm, 726, rfl⟩

abbrev nD : Nat := 1
abbrev τ : Topo := Topo.v7x

variable {F : FTy → Type} [FloatOps F]
-- ==== Kernel31.lean ====
abbrev S4096 : Shape := ⟨1, ![4096]⟩
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S1x4096, .f32⟩
  | .hbm, ⟨3, _⟩ => ⟨S4096x4096, .bf16⟩
  | .local _ .vmem, ⟨0, _⟩ => ⟨S1x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .bf16⟩
  | .local _ .vmem, ⟨4, _⟩ => ⟨S256x4096, .bf16⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S2048 : Shape := ⟨1, ![2048]⟩
abbrev S4096x14592 : Shape := ⟨2, ![4096, 14592]⟩
abbrev S1x2048 : Shape := ⟨2, ![1, 2048]⟩
abbrev S4096x2048 : Shape := ⟨2, ![4096, 2048]⟩
abbrev S1x512 : Shape := ⟨2, ![1, 512]⟩
abbrev S256x512 : Shape := ⟨2, ![256, 512]⟩
abbrev S8x512 : Shape := ⟨2, ![8, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S1x2048, .f32⟩
  | .hbm, ⟨3, _⟩ => ⟨S4096x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference32Ideal.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩
abbrev S1x2048 : Shape := ⟨2, ![1, 2048]⟩
abbrev S4095x2048 : Shape := ⟨2, ![4095, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S4095x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel33.lean ====
abbrev S2048 : Shape := ⟨1, ![2048]⟩
abbrev S4096x14592 : Shape := ⟨2, ![4096, 14592]⟩
abbrev S1x2048 : Shape := ⟨2, ![1, 2048]⟩
abbrev S4096x2048 : Shape := ⟨2, ![4096, 2048]⟩
abbrev S1x512 : Shape := ⟨2, ![1, 512]⟩
abbrev S256x512 : Shape := ⟨2, ![256, 512]⟩
abbrev S8x512 : Shape := ⟨2, ![8, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S1x2048, .f32⟩
  | .hbm, ⟨3, _⟩ => ⟨S4096x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference33Ideal.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩
abbrev S1x2048 : Shape := ⟨2, ![1, 2048]⟩
abbrev S4095x2048 : Shape := ⟨2, ![4095, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S4095x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel34.lean ====
abbrev S2048 : Shape := ⟨1, ![2048]⟩
abbrev S4096x14592 : Shape := ⟨2, ![4096, 14592]⟩
abbrev S1x2048 : Shape := ⟨2, ![1, 2048]⟩
abbrev S4096x2048 : Shape := ⟨2, ![4096, 2048]⟩
abbrev S1x512 : Shape := ⟨2, ![1, 512]⟩
abbrev S256x512 : Shape := ⟨2, ![256, 512]⟩
abbrev S8x512 : Shape := ⟨2, ![8, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S1x2048, .f32⟩
  | .hbm, ⟨3, _⟩ => ⟨S4096x2048, .f32⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference34Ideal.lean ====
abbrev S2048 : Shape := ⟨1, ![2048]⟩
abbrev S4096x14592 : Shape := ⟨2, ![4096, 14592]⟩
abbrev S4096x2048 : Shape := ⟨2, ![4096, 2048]⟩
abbrev S_ : Shape := ⟨0, ![]⟩
abbrev S1x2048 : Shape := ⟨2, ![1, 2048]⟩
abbrev S4095x2048 : Shape := ⟨2, ![4095, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x14592, .f32⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S4095x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel35.lean ====
abbrev S256 : Shape := ⟨1, ![256]⟩
abbrev S4096x14592 : Shape := ⟨2, ![4096, 14592]⟩
abbrev S1x256 : Shape := ⟨2, ![1, 256]⟩
abbrev S4096x256 : Shape := ⟨2, ![4096, 256]⟩
abbrev S256x256 : Shape := ⟨2, ![256, 256]⟩
abbrev S8x256 : Shape := ⟨2, ![8, 256]⟩

abbrev nBuf : Space → Nat
  | .hbm => 4
  | .vmem => 7
  | .smem => 0
  | _ => 0

abbrev bufTy : (tb : Table) → Fin (tcTables nBuf tb) → BufTy
  | .hbm, ⟨0, _⟩ => ⟨S256, .f32⟩
  | .hbm, ⟨1, _⟩ => ⟨S4096x14592, .f32⟩
  | .hbm, ⟨2, _⟩ => ⟨S1x256, .f32⟩
  | .hbm, ⟨3, _⟩ => ⟨S4096x256, .f32⟩
  | .local _ .vmem, ⟨0, _⟩ => ⟨S1x256, .f32⟩
  | .local _ .vmem, ⟨1, _⟩ => ⟨S256x256, .f32⟩
  | .local _ .vmem, ⟨2, _⟩ => ⟨S256x256, .f32⟩
  | .local _ .vmem, ⟨3, _⟩ => ⟨S8x256, .f32⟩
  | .local _ .vmem, ⟨4, _⟩ => ⟨S8x256, .f32⟩
  | .local _ .vmem, ⟨5, _⟩ => ⟨S256x256, .f32⟩
  | .local _ .vmem, ⟨6, _⟩ => ⟨S256x256, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c56_i32 : BitVec 32 := 56#32
  let v3 : BitVec 32 := Scalar.addi c56_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference35Ideal.lean ====
abbrev S256 : Shape := ⟨1, ![256]⟩
abbrev S4096x14592 : Shape := ⟨2, ![4096, 14592]⟩
abbrev S4096x256 : Shape := ⟨2, ![4096, 256]⟩
abbrev S_ : Shape := ⟨0, ![]⟩
abbrev S1x256 : Shape := ⟨2, ![1, 256]⟩
abbrev S4095x256 : Shape := ⟨2, ![4095, 256]⟩

abbrev nBuf : Space → Nat
  | .hbm => 12
  | .vmem => 0
  | .smem => 0
  | _ => 0

abbrev bufTy : (tb : Table) → Fin (tcTables nBuf tb) → BufTy
  | .hbm, ⟨0, _⟩ => ⟨S256, .f32⟩
  | .hbm, ⟨1, _⟩ => ⟨S4096x14592, .f32⟩
  | .hbm, ⟨2, _⟩ => ⟨S4096x256, .f32⟩
  | .hbm, ⟨3, _⟩ => ⟨S_, .f32⟩
  | .hbm, ⟨4, _⟩ => ⟨S1x256, .f32⟩
  | .hbm, ⟨5, _⟩ => ⟨S4095x256, .f32⟩
  | .hbm, ⟨6, _⟩ => ⟨S4096x256, .f32⟩
  | .hbm, ⟨7, _⟩ => ⟨S4096x256, .f32⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S4096x256, .f32⟩
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel36.lean ====
abbrev S2048 : Shape := ⟨1, ![2048]⟩
abbrev S256x2048 : Shape := ⟨2, ![256, 2048]⟩
abbrev S4096x256 : Shape := ⟨2, ![4096, 256]⟩
abbrev S1x2048 : Shape := ⟨2, ![1, 2048]⟩
abbrev S4096x2048 : Shape := ⟨2, ![4096, 2048]⟩
abbrev S256x256 : Shape := ⟨2, ![256, 256]⟩

abbrev nBuf : Space → Nat
  | .hbm => 9
  | .vmem => 10
  | .smem => 0
  | _ => 0

abbrev bufTy : (tb : Table) → Fin (tcTables nBuf tb) → BufTy
  | .hbm, ⟨0, _⟩ => ⟨S2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S4096x256, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .local _ .vmem, ⟨0, _⟩ => ⟨S1x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference36Ideal.lean ====
abbrev S2048 : Shape := ⟨1, ![2048]⟩
abbrev S256x2048 : Shape := ⟨2, ![256, 2048]⟩
abbrev S4096x256 : Shape := ⟨2, ![4096, 256]⟩
abbrev S4096x2048 : Shape := ⟨2, ![4096, 2048]⟩
abbrev S1x2048 : Shape := ⟨2, ![1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S4096x256, .f32⟩
  | .hbm, ⟨5, _⟩ => ⟨S4096x256, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel37.lean ====
abbrev S2048 : Shape := ⟨1, ![2048]⟩
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S1x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference37Ideal.lean ====
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel38.lean ====
abbrev S2048 : Shape := ⟨1, ![2048]⟩
abbrev S4096x2048 : Shape := ⟨2, ![4096, 2048]⟩
abbrev S4096x14592 : Shape := ⟨2, ![4096, 14592]⟩
abbrev S1x2048 : Shape := ⟨2, ![1, 2048]⟩
abbrev S1x512 : Shape := ⟨2, ![1, 512]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048, .f32⟩
  | .hbm, ⟨1, _⟩ => ⟨S4096x2048, .f32⟩
  | .hbm, ⟨2, _⟩ => ⟨S4096x14592, .f32⟩
  | .hbm, ⟨3, _⟩ => ⟨S1x2048, .f32⟩
  | .hbm, ⟨4, _⟩ => ⟨S4096x2048, .bf16⟩
  | .local _ .vmem, ⟨0, _⟩ => ⟨S1x512, .f32⟩
  | .local _ .vmem, ⟨1, _⟩ => ⟨S1x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference38Ideal.lean ====
abbrev S2048 : Shape := ⟨1, ![2048]⟩
abbrev S4096x2048 : Shape := ⟨2, ![4096, 2048]⟩
abbrev S4096x14592 : Shape := ⟨2, ![4096, 14592]⟩
abbrev S1x2048 : Shape := ⟨2, ![1, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048, .f32⟩
  | .hbm, ⟨1, _⟩ => ⟨S4096x2048, .f32⟩
  | .hbm, ⟨2, _⟩ => ⟨S4096x14592, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.DWIn.lean ====
module

public import proofs.«01_k».proof.Defs
public import proofs.«01_k».proof.Proof.Gen.KernelIdeal.Value
public import proofs.«01_k».proof.Proof.Gen.ReferenceIdeal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The gradient of the input weights: a product with the first factor transposed, summed over four blocks. -/

@[expose] public section

set_option maxRecDepth 16384

noncomputable section

namespace Cert.DWIn

open Idealize.ShloMosaic Idealize.ShloMosaic.TcCoe Idealize.ShloMosaic.Tactic Idealize.ShloMosaic.ValueKit Idealize.SL.Sem
open Cert.KernelIdeal Cert.KernelIdeal.Gen

/-- An array at the ideal instance. -/
abbrev V (S : Shape) (e : EltTy) := Vec Ideal S e

/-- The product as a sum over the contracted axis. -/
def product (A : V S4096x14592 .bf16) (B : V S4096x4096 .bf16) : V S14592x4096 .bf16 := fun j =>
  ∑ k : Fin 4096, (A (ix2 k (j 0)) : Ideal .f32) * (B (ix2 k (j 1)) : Ideal .f32)

variable (m : (ℓ : Loc nD τ sig) → Buf (Elt Ideal) ℓ) (c : Dev nD)

/-- The two factors as launched. -/
abbrev lhs : V S4096x14592 .bf16 := m ((c : Thread nD τ).loc main_arg0)
abbrev rhs : V S4096x4096 .bf16 := m ((c : Thread nD τ).loc main_arg1)

/-! ## The blocks of a grid point -/

theorem idx0 : ∀ t : Fin cfg0.N, win0_0.index t = ![t.val % 4, t.val / 16] := (by decide +kernel : ∀ t : Fin grid0.N, _)
theorem idx1 : ∀ t : Fin cfg0.N, win0_1.index t = ![t.val % 4, t.val / 4 % 4] := (by decide +kernel : ∀ t : Fin grid0.N, _)
theorem idx2 : ∀ t : Fin cfg0.N, win0_2.index t = ![t.val / 16, t.val / 4 % 4] := (by decide +kernel : ∀ t : Fin grid0.N, _)

theorem points (t : Fin cfg0.N) : t.val < 304 := lt_of_lt_of_eq t.isLt N_0

/-- Row `r` and column `s` of the block that point `t` adds to, and place `k` of its part of the contracted axis. -/
def row (t : Fin cfg0.N) (r : Fin 768) : Fin 14592 := ⟨t.val / 16 * 768 + r.val, by have := points t; omega⟩
def col (t : Fin cfg0.N) (s : Fin 1024) : Fin 4096 := ⟨t.val / 4 % 4 * 1024 + s.val, by have := points t; omega⟩
def mid (t : Fin cfg0.N) (k : Fin 1024) : Fin 4096 := ⟨t.val % 4 * 1024 + k.val, by have := points t; omega⟩

theorem lhs_block (t : Fin cfg0.N) (r : Fin 768) (k : Fin 1024) :
    (show V S1024x768 .bf16 from iblk m c 0 t) (ix2 k r) = lhs m c (ix2 (mid t k) (row t r)) := by
  have := points t
  blk_simp [iblk]
  rw [V_main_arg0]
  refine congrArg (lhs m c) ?_
  unfold row mid
  blk_ext [idx0]

theorem rhs_block (t : Fin cfg0.N) (s : Fin 1024) (k : Fin 1024) :
    (show V S1024x1024 .bf16 from iblk m c 1 t) (ix2 k s) = rhs m c (ix2 (mid t k) (col t s)) := by
  have := points t
  blk_simp [iblk]
  rw [V_main_arg1]
  refine congrArg (rhs m c) ?_
  unfold col mid
  blk_ext [idx1]

/-! ## What a point adds, and the whole product -/

/-- The part of the product that a point adds. -/
def part (a : V S1024x768 .bf16) (b : V S1024x1024 .bf16) : V S768x1024 .f32 := fun j =>
  ∑ k : Fin 1024, (a (ix2 k (j 0)) : Ideal .f32) * (b (ix2 k (j 1)) : Ideal .f32)

theorem add_part (acc : V S768x1024 .f32) (a : V S1024x768 .bf16) (b : V S1024x1024 .bf16) (j) :
    k0_pay2 (F := Ideal) acc a b j = acc j + part a b j := by
  idx_vars j; pointwise [k0_pay2, part]

theorem zero_start (j) : k0_pay1 (F := Ideal) j = 0 := by
  pointwise [k0_pay1]

theorem cast_out (acc : V S768x1024 .f32) (j) : k0_pay3 (F := Ideal) acc j = acc j := by
  pointwise [k0_pay3]

/-- The accumulator after the last point of a block. -/
theorem accumulated (t : Fin cfg0.N) (hr : t.val % 4 = 4 - 1) (j) :
    (outsAt0 m c t.val t.isLt).2 j = (fun _ => 0 : V S768x1024 .f32) j + ∑ s : Fin 4, part (iblk m c 0 ⟨4 * (t.val / 4) + s.val, Pipeline.run_point_lt_of_flush t hr s⟩)
      (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t => part (iblk m c 0 t) (iblk m c 1 t)) (fun t h j => ?_) (fun t h j => ?_) t hr j
  · rw [outsAt0_A m c t h (by omega)]
    frame_out
    rw [add_part, zero_start]
  · by_cases h3 : t.val % 4 = 3
    · rw [outsAt0_C m c t h h3]
      frame_out
      rw [add_part]
      exact congrArg (· + _) (congrFun ((Memref.isWhole_whole cc0_scratch0).read_unread _) j)
    · rw [outsAt0_B m c t h h3]
      frame_out
      rw [add_part]
      exact congrArg (· + _) (congrFun ((Memref.isWhole_whole cc0_scratch0).read_unread _) j)

/-- The last point of a block writes the accumulator. -/
theorem written (t : Fin cfg0.N) (hr : t.val % 4 = 3) (j) : (outsAt0 m c t.val t.isLt).1 j = (outsAt0 m c t.val t.isLt).2 j := by
  rw [outsAt0_C m c t (by omega) hr]
  frame_out
  rw [cast_out]

theorem final : (dats m 0 c).arrAt 2 cfg0.N = product (lhs m c) (rhs m c) := by
  refine (dats m 0 c).arrAt_eq_of_covers 2 _ (by decide +kernel) fun t hf y => ?_
  have hr : t.val % 4 = 3 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨4 * (t.val / 4) + s.val, Pipeline.run_point_lt_of_flush t hr s⟩ k = ⟨s.val * 1024 + k.val, hl⟩ := Fin.ext (by simp only [mid]; omega)
  have h2 : row ⟨4 * (t.val / 4) + s.val, Pipeline.run_point_lt_of_flush t hr s⟩ y0 = row t y0 := Fin.ext (by simp only [row]; omega)
  have h3 : col ⟨4 * (t.val / 4) + s.val, Pipeline.run_point_lt_of_flush t hr s⟩ y1 = col t y1 := Fin.ext (by simp only [col]; omega)
  rw [h1, h2, h3]
  rfl

/-! ## The claims -/

theorem values : Cert.algebraic_KernelIdeal_ReferenceIdeal := by
  intro m ρ m' ρ' _ hagree
  refine ⟨fun c => product (lhs m c) (rhs m c), ?_, ?_⟩
  · exact (θ_run _ _ _).mono (fun r h c => ⟨(h c).1.trans (final m c), (h c).2⟩) (Cert.KernelIdeal.Value.run_blocks m ρ)
  · refine (θ_run _ _ _).mono (fun r h c => ⟨(h c).1.trans ?_, (h c).2⟩) (Cert.ReferenceIdeal.Value.run m' ρ')
    rw [(hagree c).1, (hagree c).2]
    funext j; idx_vars j; pointwise [product]

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.DWIn
-- ==== Proof.DH.lean ====
module

public import proofs.«01_k».proof.Defs
public import proofs.«01_k».proof.Proof.Gen.Kernel2Ideal.Value
public import proofs.«01_k».proof.Proof.Gen.Reference2Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The gradient of the normed input: a plain product, summed over six blocks. -/

@[expose] public section

set_option maxRecDepth 16384

noncomputable section

namespace Cert.DH

open Idealize.ShloMosaic Idealize.ShloMosaic.TcCoe Idealize.ShloMosaic.Tactic Idealize.ShloMosaic.ValueKit Idealize.SL.Sem
open Cert.Kernel2Ideal Cert.Kernel2Ideal.Gen

/-- An array at the ideal instance. -/
abbrev V (S : Shape) (e : EltTy) := Vec Ideal S e

/-- The product as a sum over the contracted axis. -/
def product (A : V S4096x14592 .bf16) (B : V S14592x4096 .bf16) : V S4096x4096 .bf16 := fun j =>
  ∑ k : Fin 14592, (A (ix2 (j 0) k) : Ideal .f32) * (B (ix2 k (j 1)) : Ideal .f32)

variable (m : (ℓ : Loc nD τ sig) → Buf (Elt Ideal) ℓ) (c : Dev nD)

/-- The two factors as launched. -/
abbrev lhs : V S4096x14592 .bf16 := m ((c : Thread nD τ).loc main_arg0)
abbrev rhs : V S14592x4096 .bf16 := m ((c : Thread nD τ).loc main_arg1)

/-! ## The blocks of a grid point -/

theorem idx0 : ∀ t : Fin cfg0.N, win0_0.index t = ![t.val / 24, t.val % 6] := (by decide +kernel : ∀ t : Fin grid0.N, _)
theorem idx1 : ∀ t : Fin cfg0.N, win0_1.index t = ![t.val % 6, t.val / 6 % 4] := (by decide +kernel : ∀ t : Fin grid0.N, _)
theorem idx2 : ∀ t : Fin cfg0.N, win0_2.index t = ![t.val / 24, t.val / 6 % 4] := (by decide +kernel : ∀ t : Fin grid0.N, _)

theorem points (t : Fin cfg0.N) : t.val < 96 := lt_of_lt_of_eq t.isLt N_0

/-- Row `r` and column `s` of the block that point `t` adds to, and place `k` of its part of the contracted axis. -/
def row (t : Fin cfg0.N) (r : Fin 1024) : Fin 4096 := ⟨t.val / 24 * 1024 + r.val, by have := points t; omega⟩
def col (t : Fin cfg0.N) (s : Fin 1024) : Fin 4096 := ⟨t.val / 6 % 4 * 1024 + s.val, by have := points t; omega⟩
def mid (t : Fin cfg0.N) (k : Fin 2432) : Fin 14592 := ⟨t.val % 6 * 2432 + k.val, by have := points t; omega⟩

theorem lhs_block (t : Fin cfg0.N) (r : Fin 1024) (k : Fin 2432) :
    (show V S1024x2432 .bf16 from iblk m c 0 t) (ix2 r k) = lhs m c (ix2 (row t r) (mid t k)) := by
  have := points t
  blk_simp [iblk]
  rw [V_main_arg0]
  refine congrArg (lhs m c) ?_
  unfold row mid
  blk_ext [idx0]

theorem rhs_block (t : Fin cfg0.N) (s : Fin 1024) (k : Fin 2432) :
    (show V S2432x1024 .bf16 from iblk m c 1 t) (ix2 k s) = rhs m c (ix2 (mid t k) (col t s)) := by
  have := points t
  blk_simp [iblk]
  rw [V_main_arg1]
  refine congrArg (rhs m c) ?_
  unfold col mid
  blk_ext [idx1]

/-! ## What a point adds, and the whole product -/

/-- The part of the product that a point adds. -/
def part (a : V S1024x2432 .bf16) (b : V S2432x1024 .bf16) : V S1024x1024 .f32 := fun j =>
  ∑ k : Fin 2432, (a (ix2 (j 0) k) : Ideal .f32) * (b (ix2 k (j 1)) : Ideal .f32)

theorem add_part (acc : V S1024x1024 .f32) (a : V S1024x2432 .bf16) (b : V S2432x1024 .bf16) (j) :
    k0_pay2 (F := Ideal) acc a b j = acc j + part a b j := by
  idx_vars j; pointwise [k0_pay2, part]

theorem zero_start (j) : k0_pay1 (F := Ideal) j = 0 := by
  pointwise [k0_pay1]

theorem cast_out (acc : V S1024x1024 .f32) (j) : k0_pay3 (F := Ideal) acc j = acc j := by
  pointwise [k0_pay3]

/-- The accumulator after the last point of a block. -/
theorem accumulated (t : Fin cfg0.N) (hr : t.val % 6 = 6 - 1) (j) :
    (outsAt0 m c t.val t.isLt).2 j = (fun _ => 0 : V S1024x1024 .f32) j + ∑ s : Fin 6, part (iblk m c 0 ⟨6 * (t.val / 6) + s.val, Pipeline.run_point_lt_of_flush t hr s⟩)
      (iblk m c 1 ⟨6 * (t.val / 6) + s.val, Pipeline.run_point_lt_of_flush t hr s⟩) j := by
  refine Pipeline.eq_sum_fin_of_reset_step_apply_of_flush (fun n h => (outsAt0 m c n h).2) 6 (fun _ => 0)
    (fun t => part (iblk m c 0 t) (iblk m c 1 t)) (fun t h j => ?_) (fun t h j => ?_) t hr j
  · rw [outsAt0_A m c t h (by omega)]
    frame_out
    rw [add_part, zero_start]
  · by_cases hl : t.val % 6 = 5
    · rw [outsAt0_C m c t h hl]
      frame_out
      rw [add_part]
      exact congrArg (· + _) (congrFun ((Memref.isWhole_whole cc0_scratch0).read_unread _) j)
    · rw [outsAt0_B m c t h hl]
      frame_out
      rw [add_part]
      exact congrArg (· + _) (congrFun ((Memref.isWhole_whole cc0_scratch0).read_unread _) j)

/-- The last point of a block writes the accumulator. -/
theorem written (t : Fin cfg0.N) (hr : t.val % 6 = 5) (j) : (outsAt0 m c t.val t.isLt).1 j = (outsAt0 m c t.val t.isLt).2 j := by
  rw [outsAt0_C m c t (by omega) hr]
  frame_out
  rw [cast_out]

theorem final : (dats m 0 c).arrAt 2 cfg0.N = product (lhs m c) (rhs m c) := by
  refine (dats m 0 c).arrAt_eq_of_covers 2 _ (by decide +kernel) fun t hf y => ?_
  have hr : t.val % 6 = 5 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨6 * (t.val / 6) + s.val, Pipeline.run_point_lt_of_flush t hr s⟩ k = ⟨s.val * 2432 + k.val, hl⟩ := Fin.ext (by simp only [mid]; omega)
  have h2 : row ⟨6 * (t.val / 6) + s.val, Pipeline.run_point_lt_of_flush t hr s⟩ y0 = row t y0 := Fin.ext (by simp only [row]; omega)
  have h3 : col ⟨6 * (t.val / 6) + s.val, Pipeline.run_point_lt_of_flush t hr s⟩ y1 = col t y1 := Fin.ext (by simp only [col]; omega)
  rw [h1, h2, h3]
  rfl

/-! ## The claims -/

theorem values : Cert.algebraic_Kernel2Ideal_Reference2Ideal := by
  intro m ρ m' ρ' _ hagree
  refine ⟨fun c => product (lhs m c) (rhs m c), ?_, ?_⟩
  · exact (θ_run _ _ _).mono (fun r h c => ⟨(h c).1.trans (final m c), (h c).2⟩) (Cert.Kernel2Ideal.Value.run_blocks m ρ)
  · refine (θ_run _ _ _).mono (fun r h c => ⟨(h c).1.trans ?_, (h c).2⟩) (Cert.Reference2Ideal.Value.run m' ρ')
    rw [(hagree c).1, (hagree c).2]
    funext j; idx_vars j; pointwise [product]

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.DH
-- ==== Proof.Proj.lean ====
module

public import proofs.«01_k».proof.Defs
public import proofs.«01_k».proof.Proof.Gen.Kernel3Ideal.Value
public import proofs.«01_k».proof.Proof.Gen.Reference3Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The input projection: a product with the second factor transposed, summed over four blocks. -/

@[expose] public section

set_option maxRecDepth 16384

noncomputable section

namespace Cert.Proj

open Idealize.ShloMosaic Idealize.ShloMosaic.TcCoe Idealize.ShloMosaic.Tactic Idealize.ShloMosaic.ValueKit Idealize.SL.Sem
open Cert.Kernel3Ideal Cert.Kernel3Ideal.Gen

/-- An array at the ideal instance. -/
abbrev V (S : Shape) (e : EltTy) := Vec Ideal S e

/-- The product as a sum over the contracted axis. -/
def product (A : V S4096x4096 .bf16) (B : V S14592x4096 .bf16) : V S4096x14592 .f32 := fun j =>
  ∑ k : Fin 4096, (A (ix2 (j 0) k) : Ideal .f32) * (B (ix2 (j 1) k) : Ideal .f32)

variable (m : (ℓ : Loc nD τ sig) → Buf (Elt Ideal) ℓ) (c : Dev nD)

/-- The two factors as launched. -/
abbrev lhs : V S4096x4096 .bf16 := m ((c : Thread nD τ).loc main_arg0)
abbrev rhs : V S14592x4096 .bf16 := m ((c : Thread nD τ).loc main_arg1)

/-! ## The blocks of a grid point -/

theorem idx0 : ∀ t : Fin cfg0.N, win0_0.index t = ![t.val / 76, t.val % 4] := (by decide +kernel : ∀ t : Fin grid0.N, _)
theorem idx1 : ∀ t : Fin cfg0.N, win0_1.index t = ![t.val / 4 % 19, t.val % 4] := (by decide +kernel : ∀ t : Fin grid0.N, _)
theorem idx2 : ∀ t : Fin cfg0.N, win0_2.index t = ![t.val / 76, t.val / 4 % 19] := (by decide +kernel : ∀ t : Fin grid0.N, _)

theorem points (t : Fin cfg0.N) : t.val < 304 := lt_of_lt_of_eq t.isLt N_0

/-- Row `r` and column `s` of the block that point `t` adds to, and place `k` of its part of the contracted axis. -/
def row (t : Fin cfg0.N) (r : Fin 1024) : Fin 4096 := ⟨t.val / 76 * 1024 + r.val, by have := points t; omega⟩
def col (t : Fin cfg0.N) (s : Fin 768) : Fin 14592 := ⟨t.val / 4 % 19 * 768 + s.val, by have := points t; omega⟩
def mid (t : Fin cfg0.N) (k : Fin 1024) : Fin 4096 := ⟨t.val % 4 * 1024 + k.val, by have := points t; omega⟩

theorem lhs_block (t : Fin cfg0.N) (r : Fin 1024) (k : Fin 1024) :
    (show V S1024x1024 .bf16 from iblk m c 0 t) (ix2 r k) = lhs m c (ix2 (row t r) (mid t k)) := by
  have := points t
  blk_simp [iblk]
  rw [V_main_arg0]
  refine congrArg (lhs m c) ?_
  unfold row mid
  blk_ext [idx0]

theorem rhs_block (t : Fin cfg0.N) (s : Fin 768) (k : Fin 1024) :
    (show V S768x1024 .bf16 from iblk m c 1 t) (ix2 s k) = rhs m c (ix2 (col t s) (mid t k)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S768x1024 .bf16) : V S1024x768 .f32 := fun j =>
  ∑ k : Fin 1024, (a (ix2 (j 0) k) : Ideal .f32) * (b (ix2 (j 1) k) : Ideal .f32)

theorem add_part (acc : V S1024x768 .f32) (a : V S1024x1024 .bf16) (b : V S768x1024 .bf16) (j) :
    k0_pay2 (F := Ideal) acc a b j = acc j + part a b j := by
  idx_vars j; pointwise [k0_pay2, part]

theorem zero_start (j) : k0_pay1 (F := Ideal) j = 0 := by
  pointwise [k0_pay1]

/-- The accumulator after the last point of a block. -/
theorem accumulated (t : Fin cfg0.N) (hr : t.val % 4 = 4 - 1) (j) :
    (outsAt0 m c t.val t.isLt).2 j = (fun _ => 0 : V S1024x768 .f32) j + ∑ s : Fin 4, part (iblk m c 0 ⟨4 * (t.val / 4) + s.val, Pipeline.run_point_lt_of_flush t hr s⟩)
      (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t => part (iblk m c 0 t) (iblk m c 1 t)) (fun t h j => ?_) (fun t h j => ?_) t hr j
  · rw [outsAt0_A m c t h (by omega)]
    frame_out
    rw [add_part, zero_start]
  · by_cases hl : t.val % 4 = 3
    · rw [outsAt0_C m c t h hl]
      frame_out
      rw [add_part]
      exact congrArg (· + _) (congrFun ((Memref.isWhole_whole cc0_scratch0).read_unread _) j)
    · rw [outsAt0_B m c t h hl]
      frame_out
      rw [add_part]
      exact congrArg (· + _) (congrFun ((Memref.isWhole_whole cc0_scratch0).read_unread _) j)

/-- The last point of a block writes the accumulator. -/
theorem written (t : Fin cfg0.N) (hr : t.val % 4 = 3) (j) : (outsAt0 m c t.val t.isLt).1 j = (outsAt0 m c t.val t.isLt).2 j := by
  rw [outsAt0_C m c t (by omega) hr]
  frame_out

theorem final : (dats m 0 c).arrAt 2 cfg0.N = product (lhs m c) (rhs m c) := by
  refine (dats m 0 c).arrAt_eq_of_covers 2 _ (by decide +kernel) fun t hf y => ?_
  have hr : t.val % 4 = 3 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨4 * (t.val / 4) + s.val, Pipeline.run_point_lt_of_flush t hr s⟩ k = ⟨s.val * 1024 + k.val, hl⟩ := Fin.ext (by simp only [mid]; omega)
  have h2 : row ⟨4 * (t.val / 4) + s.val, Pipeline.run_point_lt_of_flush t hr s⟩ y0 = row t y0 := Fin.ext (by simp only [row]; omega)
  have h3 : col ⟨4 * (t.val / 4) + s.val, Pipeline.run_point_lt_of_flush t hr s⟩ y1 = col t y1 := Fin.ext (by simp only [col]; omega)
  rw [h1, h2, h3]
  rfl

/-! ## The claims -/

theorem values : Cert.algebraic_Kernel3Ideal_Reference3Ideal := by
  intro m ρ m' ρ' _ hagree
  refine ⟨fun c => product (lhs m c) (rhs m c), ?_, ?_⟩
  · exact (θ_run _ _ _).mono (fun r h c => ⟨(h c).1.trans (final m c), (h c).2⟩) (Cert.Kernel3Ideal.Value.run_blocks m ρ)
  · refine (θ_run _ _ _).mono (fun r h c => ⟨(h c).1.trans ?_, (h c).2⟩) (Cert.Reference3Ideal.Value.run m' ρ')
    rw [(hagree c).1, (hagree c).2]
    funext j; idx_vars j; pointwise [product]

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proj
-- ==== Proof.DWOut.lean ====
module

public import proofs.«01_k».proof.Defs
public import proofs.«01_k».proof.Proof.Gen.Kernel4Ideal.Value
public import proofs.«01_k».proof.Proof.Gen.Reference4Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The gradient of the output weights: a product with the first factor transposed, summed over four blocks. -/

@[expose] public section

set_option maxRecDepth 16384

noncomputable section

namespace Cert.DWOut

open Idealize.ShloMosaic Idealize.ShloMosaic.TcCoe Idealize.ShloMosaic.Tactic Idealize.ShloMosaic.ValueKit Idealize.SL.Sem
open Cert.Kernel4Ideal Cert.Kernel4Ideal.Gen

/-- An array at the ideal instance. -/
abbrev V (S : Shape) (e : EltTy) := Vec Ideal S e

/-- The product as a sum over the contracted axis. -/
def product (A : V S4096x4096 .bf16) (B : V S4096x4096 .bf16) : V S4096x4096 .bf16 := fun j =>
  ∑ k : Fin 4096, (A (ix2 k (j 0)) : Ideal .f32) * (B (ix2 k (j 1)) : Ideal .f32)

variable (m : (ℓ : Loc nD τ sig) → Buf (Elt Ideal) ℓ) (c : Dev nD)

/-- The two factors as launched. -/
abbrev lhs : V S4096x4096 .bf16 := m ((c : Thread nD τ).loc main_arg0)
abbrev rhs : V S4096x4096 .bf16 := m ((c : Thread nD τ).loc main_arg1)

/-! ## The blocks of a grid point -/

theorem idx0 : ∀ t : Fin cfg0.N, win0_0.index t = ![t.val % 4, t.val / 32] := (by decide +kernel : ∀ t : Fin grid0.N, _)
theorem idx1 : ∀ t : Fin cfg0.N, win0_1.index t = ![t.val % 4, t.val / 4 % 8] := (by decide +kernel : ∀ t : Fin grid0.N, _)
theorem idx2 : ∀ t : Fin cfg0.N, win0_2.index t = ![t.val / 32, t.val / 4 % 8] := (by decide +kernel : ∀ t : Fin grid0.N, _)

theorem points (t : Fin cfg0.N) : t.val < 128 := lt_of_lt_of_eq t.isLt N_0

/-- Row `r` and column `s` of the block that point `t` adds to, and place `k` of its part of the contracted axis. -/
def row (t : Fin cfg0.N) (r : Fin 1024) : Fin 4096 := ⟨t.val / 32 * 1024 + r.val, by have := points t; omega⟩
def col (t : Fin cfg0.N) (s : Fin 512) : Fin 4096 := ⟨t.val / 4 % 8 * 512 + s.val, by have := points t; omega⟩
def mid (t : Fin cfg0.N) (k : Fin 1024) : Fin 4096 := ⟨t.val % 4 * 1024 + k.val, by have := points t; omega⟩

theorem lhs_block (t : Fin cfg0.N) (r : Fin 1024) (k : Fin 1024) :
    (show V S1024x1024 .bf16 from iblk m c 0 t) (ix2 k r) = lhs m c (ix2 (mid t k) (row t r)) := by
  have := points t
  blk_simp [iblk]
  rw [V_main_arg0]
  refine congrArg (lhs m c) ?_
  unfold row mid
  blk_ext [idx0]

theorem rhs_block (t : Fin cfg0.N) (s : Fin 512) (k : Fin 1024) :
    (show V S1024x512 .bf16 from iblk m c 1 t) (ix2 k s) = rhs m c (ix2 (mid t k) (col t s)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S1024x512 .bf16) : V S1024x512 .f32 := fun j =>
  ∑ k : Fin 1024, (a (ix2 k (j 0)) : Ideal .f32) * (b (ix2 k (j 1)) : Ideal .f32)

theorem add_part (acc : V S1024x512 .f32) (a : V S1024x1024 .bf16) (b : V S1024x512 .bf16) (j) :
    k0_pay2 (F := Ideal) acc a b j = acc j + part a b j := by
  idx_vars j; pointwise [k0_pay2, part]

theorem zero_start (j) : k0_pay1 (F := Ideal) j = 0 := by
  pointwise [k0_pay1]

theorem cast_out (acc : V S1024x512 .f32) (j) : k0_pay3 (F := Ideal) acc j = acc j := by
  pointwise [k0_pay3]

/-- The accumulator after the last point of a block. -/
theorem accumulated (t : Fin cfg0.N) (hr : t.val % 4 = 4 - 1) (j) :
    (outsAt0 m c t.val t.isLt).2 j = (fun _ => 0 : V S1024x512 .f32) j + ∑ s : Fin 4, part (iblk m c 0 ⟨4 * (t.val / 4) + s.val, Pipeline.run_point_lt_of_flush t hr s⟩)
      (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t => part (iblk m c 0 t) (iblk m c 1 t)) (fun t h j => ?_) (fun t h j => ?_) t hr j
  · rw [outsAt0_A m c t h (by omega)]
    frame_out
    rw [add_part, zero_start]
  · by_cases hl : t.val % 4 = 3
    · rw [outsAt0_C m c t h hl]
      frame_out
      rw [add_part]
      exact congrArg (· + _) (congrFun ((Memref.isWhole_whole cc0_scratch0).read_unread _) j)
    · rw [outsAt0_B m c t h hl]
      frame_out
      rw [add_part]
      exact congrArg (· + _) (congrFun ((Memref.isWhole_whole cc0_scratch0).read_unread _) j)

/-- The last point of a block writes the accumulator. -/
theorem written (t : Fin cfg0.N) (hr : t.val % 4 = 3) (j) : (outsAt0 m c t.val t.isLt).1 j = (outsAt0 m c t.val t.isLt).2 j := by
  rw [outsAt0_C m c t (by omega) hr]
  frame_out
  rw [cast_out]

theorem final : (dats m 0 c).arrAt 2 cfg0.N = product (lhs m c) (rhs m c) := by
  refine (dats m 0 c).arrAt_eq_of_covers 2 _ (by decide +kernel) fun t hf y => ?_
  have hr : t.val % 4 = 3 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨4 * (t.val / 4) + s.val, Pipeline.run_point_lt_of_flush t hr s⟩ k = ⟨s.val * 1024 + k.val, hl⟩ := Fin.ext (by simp only [mid]; omega)
  have h2 : row ⟨4 * (t.val / 4) + s.val, Pipeline.run_point_lt_of_flush t hr s⟩ y0 = row t y0 := Fin.ext (by simp only [row]; omega)
  have h3 : col ⟨4 * (t.val / 4) + s.val, Pipeline.run_point_lt_of_flush t hr s⟩ y1 = col t y1 := Fin.ext (by simp only [col]; omega)
  rw [h1, h2, h3]
  rfl

/-! ## The claims -/

theorem values : Cert.algebraic_Kernel4Ideal_Reference4Ideal := by
  intro m ρ m' ρ' _ hagree
  refine ⟨fun c => product (lhs m c) (rhs m c), ?_, ?_⟩
  · exact (θ_run _ _ _).mono (fun r h c => ⟨(h c).1.trans (final m c), (h c).2⟩) (Cert.Kernel4Ideal.Value.run_blocks m ρ)
  · refine (θ_run _ _ _).mono (fun r h c => ⟨(h c).1.trans ?_, (h c).2⟩) (Cert.Reference4Ideal.Value.run m' ρ')
    rw [(hagree c).1, (hagree c).2]
    funext j; idx_vars j; pointwise [product]
    exact Finset.sum_congr rfl fun k _ => mul_comm _ _

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.DWOut
-- ==== Proof.DMix.lean ====
module

public import proofs.«01_k».proof.Defs
public import proofs.«01_k».proof.Proof.Gen.Kernel5Ideal.Value
public import proofs.«01_k».proof.Proof.Gen.Reference5Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The gradient of the output projection's input: a product with the second factor transposed, summed over four blocks. -/

@[expose] public section

set_option maxRecDepth 16384

noncomputable section

namespace Cert.DMix

open Idealize.ShloMosaic Idealize.ShloMosaic.TcCoe Idealize.ShloMosaic.Tactic Idealize.ShloMosaic.ValueKit Idealize.SL.Sem
open Cert.Kernel5Ideal Cert.Kernel5Ideal.Gen

/-- An array at the ideal instance. -/
abbrev V (S : Shape) (e : EltTy) := Vec Ideal S e

/-- The product as a sum over the contracted axis. -/
def product (A : V S4096x4096 .bf16) (B : V S4096x4096 .bf16) : V S4096x4096 .f32 := fun j =>
  ∑ k : Fin 4096, (A (ix2 (j 0) k) : Ideal .f32) * (B (ix2 (j 1) k) : Ideal .f32)

variable (m : (ℓ : Loc nD τ sig) → Buf (Elt Ideal) ℓ) (c : Dev nD)

/-- The two factors as launched. -/
abbrev lhs : V S4096x4096 .bf16 := m ((c : Thread nD τ).loc main_arg0)
abbrev rhs : V S4096x4096 .bf16 := m ((c : Thread nD τ).loc main_arg1)

/-! ## The blocks of a grid point -/

theorem idx0 : ∀ t : Fin cfg0.N, win0_0.index t = ![t.val / 32, t.val % 4] := (by decide +kernel : ∀ t : Fin grid0.N, _)
theorem idx1 : ∀ t : Fin cfg0.N, win0_1.index t = ![t.val / 4 % 8, t.val % 4] := (by decide +kernel : ∀ t : Fin grid0.N, _)
theorem idx2 : ∀ t : Fin cfg0.N, win0_2.index t = ![t.val / 32, t.val / 4 % 8] := (by decide +kernel : ∀ t : Fin grid0.N, _)

theorem points (t : Fin cfg0.N) : t.val < 128 := lt_of_lt_of_eq t.isLt N_0

/-- Row `r` and column `s` of the block that point `t` adds to, and place `k` of its part of the contracted axis. -/
def row (t : Fin cfg0.N) (r : Fin 1024) : Fin 4096 := ⟨t.val / 32 * 1024 + r.val, by have := points t; omega⟩
def col (t : Fin cfg0.N) (s : Fin 512) : Fin 4096 := ⟨t.val / 4 % 8 * 512 + s.val, by have := points t; omega⟩
def mid (t : Fin cfg0.N) (k : Fin 1024) : Fin 4096 := ⟨t.val % 4 * 1024 + k.val, by have := points t; omega⟩

theorem lhs_block (t : Fin cfg0.N) (r : Fin 1024) (k : Fin 1024) :
    (show V S1024x1024 .bf16 from iblk m c 0 t) (ix2 r k) = lhs m c (ix2 (row t r) (mid t k)) := by
  have := points t
  blk_simp [iblk]
  rw [V_main_arg0]
  refine congrArg (lhs m c) ?_
  unfold row mid
  blk_ext [idx0]

theorem rhs_block (t : Fin cfg0.N) (s : Fin 512) (k : Fin 1024) :
    (show V S512x1024 .bf16 from iblk m c 1 t) (ix2 s k) = rhs m c (ix2 (col t s) (mid t k)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S512x1024 .bf16) : V S1024x512 .f32 := fun j =>
  ∑ k : Fin 1024, (a (ix2 (j 0) k) : Ideal .f32) * (b (ix2 (j 1) k) : Ideal .f32)

theorem add_part (acc : V S1024x512 .f32) (a : V S1024x1024 .bf16) (b : V S512x1024 .bf16) (j) :
    k0_pay2 (F := Ideal) acc a b j = acc j + part a b j := by
  idx_vars j; pointwise [k0_pay2, part]

theorem zero_start (j) : k0_pay1 (F := Ideal) j = 0 := by
  pointwise [k0_pay1]

/-- The accumulator after the last point of a block. -/
theorem accumulated (t : Fin cfg0.N) (hr : t.val % 4 = 4 - 1) (j) :
    (outsAt0 m c t.val t.isLt).2 j = (fun _ => 0 : V S1024x512 .f32) j + ∑ s : Fin 4, part (iblk m c 0 ⟨4 * (t.val / 4) + s.val, Pipeline.run_point_lt_of_flush t hr s⟩)
      (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t => part (iblk m c 0 t) (iblk m c 1 t)) (fun t h j => ?_) (fun t h j => ?_) t hr j
  · rw [outsAt0_A m c t h (by omega)]
    frame_out
    rw [add_part, zero_start]
  · by_cases hl : t.val % 4 = 3
    · rw [outsAt0_C m c t h hl]
      frame_out
      rw [add_part]
      exact congrArg (· + _) (congrFun ((Memref.isWhole_whole cc0_scratch0).read_unread _) j)
    · rw [outsAt0_B m c t h hl]
      frame_out
      rw [add_part]
      exact congrArg (· + _) (congrFun ((Memref.isWhole_whole cc0_scratch0).read_unread _) j)

/-- The last point of a block writes the accumulator. -/
theorem written (t : Fin cfg0.N) (hr : t.val % 4 = 3) (j) : (outsAt0 m c t.val t.isLt).1 j = (outsAt0 m c t.val t.isLt).2 j := by
  rw [outsAt0_C m c t (by omega) hr]
  frame_out

theorem final : (dats m 0 c).arrAt 2 cfg0.N = product (lhs m c) (rhs m c) := by
  refine (dats m 0 c).arrAt_eq_of_covers 2 _ (by decide +kernel) fun t hf y => ?_
  have hr : t.val % 4 = 3 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨4 * (t.val / 4) + s.val, Pipeline.run_point_lt_of_flush t hr s⟩ k = ⟨s.val * 1024 + k.val, hl⟩ := Fin.ext (by simp only [mid]; omega)
  have h2 : row ⟨4 * (t.val / 4) + s.val, Pipeline.run_point_lt_of_flush t hr s⟩ y0 = row t y0 := Fin.ext (by simp only [row]; omega)
  have h3 : col ⟨4 * (t.val / 4) + s.val, Pipeline.run_point_lt_of_flush t hr s⟩ y1 = col t y1 := Fin.ext (by simp only [col]; omega)
  rw [h1, h2, h3]
  rfl

/-! ## The claims -/

theorem values : Cert.algebraic_Kernel5Ideal_Reference5Ideal := by
  intro m ρ m' ρ' _ hagree
  refine ⟨fun c => product (lhs m c) (rhs m c), ?_, ?_⟩
  · exact (θ_run _ _ _).mono (fun r h c => ⟨(h c).1.trans (final m c), (h c).2⟩) (Cert.Kernel5Ideal.Value.run_blocks m ρ)
  · refine (θ_run _ _ _).mono (fun r h c => ⟨(h c).1.trans ?_, (h c).2⟩) (Cert.Reference5Ideal.Value.run m' ρ')
    rw [(hagree c).1, (hagree c).2]
    funext j; idx_vars j; pointwise [product]

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.DMix
-- ==== Proof.OutProj.lean ====
module

public import proofs.«01_k».proof.Defs
public import proofs.«01_k».proof.Proof.Gen.Kernel6Ideal.Value
public import proofs.«01_k».proof.Proof.Gen.Reference6Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The output projection: a plain product, summed over four blocks. -/

@[expose] public section

set_option maxRecDepth 16384

noncomputable section

namespace Cert.OutProj

open Idealize.ShloMosaic Idealize.ShloMosaic.TcCoe Idealize.ShloMosaic.Tactic Idealize.ShloMosaic.ValueKit Idealize.SL.Sem
open Cert.Kernel6Ideal Cert.Kernel6Ideal.Gen

/-- An array at the ideal instance. -/
abbrev V (S : Shape) (e : EltTy) := Vec Ideal S e

/-- The product as a sum over the contracted axis. -/
def product (A : V S4096x4096 .bf16) (B : V S4096x4096 .bf16) : V S4096x4096 .f32 := fun j =>
  ∑ k : Fin 4096, (A (ix2 (j 0) k) : Ideal .f32) * (B (ix2 k (j 1)) : Ideal .f32)

variable (m : (ℓ : Loc nD τ sig) → Buf (Elt Ideal) ℓ) (c : Dev nD)

/-- The two factors as launched. -/
abbrev lhs : V S4096x4096 .bf16 := m ((c : Thread nD τ).loc main_arg0)
abbrev rhs : V S4096x4096 .bf16 := m ((c : Thread nD τ).loc main_arg1)

/-! ## The blocks of a grid point -/

theorem idx0 : ∀ t : Fin cfg0.N, win0_0.index t = ![t.val / 32, t.val % 4] := (by decide +kernel : ∀ t : Fin grid0.N, _)
theorem idx1 : ∀ t : Fin cfg0.N, win0_1.index t = ![t.val % 4, t.val / 4 % 8] := (by decide +kernel : ∀ t : Fin grid0.N, _)
theorem idx2 : ∀ t : Fin cfg0.N, win0_2.index t = ![t.val / 32, t.val / 4 % 8] := (by decide +kernel : ∀ t : Fin grid0.N, _)

theorem points (t : Fin cfg0.N) : t.val < 128 := lt_of_lt_of_eq t.isLt N_0

/-- Row `r` and column `s` of the block that point `t` adds to, and place `k` of its part of the contracted axis. -/
def row (t : Fin cfg0.N) (r : Fin 1024) : Fin 4096 := ⟨t.val / 32 * 1024 + r.val, by have := points t; omega⟩
def col (t : Fin cfg0.N) (s : Fin 512) : Fin 4096 := ⟨t.val / 4 % 8 * 512 + s.val, by have := points t; omega⟩
def mid (t : Fin cfg0.N) (k : Fin 1024) : Fin 4096 := ⟨t.val % 4 * 1024 + k.val, by have := points t; omega⟩

theorem lhs_block (t : Fin cfg0.N) (r : Fin 1024) (k : Fin 1024) :
    (show V S1024x1024 .bf16 from iblk m c 0 t) (ix2 r k) = lhs m c (ix2 (row t r) (mid t k)) := by
  have := points t
  blk_simp [iblk]
  rw [V_main_arg0]
  refine congrArg (lhs m c) ?_
  unfold row mid
  blk_ext [idx0]

theorem rhs_block (t : Fin cfg0.N) (s : Fin 512) (k : Fin 1024) :
    (show V S1024x512 .bf16 from iblk m c 1 t) (ix2 k s) = rhs m c (ix2 (mid t k) (col t s)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S1024x512 .bf16) : V S1024x512 .f32 := fun j =>
  ∑ k : Fin 1024, (a (ix2 (j 0) k) : Ideal .f32) * (b (ix2 k (j 1)) : Ideal .f32)

theorem add_part (acc : V S1024x512 .f32) (a : V S1024x1024 .bf16) (b : V S1024x512 .bf16) (j) :
    k0_pay2 (F := Ideal) acc a b j = acc j + part a b j := by
  idx_vars j; pointwise [k0_pay2, part]

theorem zero_start (j) : k0_pay1 (F := Ideal) j = 0 := by
  pointwise [k0_pay1]

/-- The accumulator after the last point of a block. -/
theorem accumulated (t : Fin cfg0.N) (hr : t.val % 4 = 4 - 1) (j) :
    (outsAt0 m c t.val t.isLt).2 j = (fun _ => 0 : V S1024x512 .f32) j + ∑ s : Fin 4, part (iblk m c 0 ⟨4 * (t.val / 4) + s.val, Pipeline.run_point_lt_of_flush t hr s⟩)
      (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t => part (iblk m c 0 t) (iblk m c 1 t)) (fun t h j => ?_) (fun t h j => ?_) t hr j
  · rw [outsAt0_A m c t h (by omega)]
    frame_out
    rw [add_part, zero_start]
  · by_cases hl : t.val % 4 = 3
    · rw [outsAt0_C m c t h hl]
      frame_out
      rw [add_part]
      exact congrArg (· + _) (congrFun ((Memref.isWhole_whole cc0_scratch0).read_unread _) j)
    · rw [outsAt0_B m c t h hl]
      frame_out
      rw [add_part]
      exact congrArg (· + _) (congrFun ((Memref.isWhole_whole cc0_scratch0).read_unread _) j)

/-- The last point of a block writes the accumulator. -/
theorem written (t : Fin cfg0.N) (hr : t.val % 4 = 3) (j) : (outsAt0 m c t.val t.isLt).1 j = (outsAt0 m c t.val t.isLt).2 j := by
  rw [outsAt0_C m c t (by omega) hr]
  frame_out

theorem final : (dats m 0 c).arrAt 2 cfg0.N = product (lhs m c) (rhs m c) := by
  refine (dats m 0 c).arrAt_eq_of_covers 2 _ (by decide +kernel) fun t hf y => ?_
  have hr : t.val % 4 = 3 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨4 * (t.val / 4) + s.val, Pipeline.run_point_lt_of_flush t hr s⟩ k = ⟨s.val * 1024 + k.val, hl⟩ := Fin.ext (by simp only [mid]; omega)
  have h2 : row ⟨4 * (t.val / 4) + s.val, Pipeline.run_point_lt_of_flush t hr s⟩ y0 = row t y0 := Fin.ext (by simp only [row]; omega)
  have h3 : col ⟨4 * (t.val / 4) + s.val, Pipeline.run_point_lt_of_flush t hr s⟩ y1 = col t y1 := Fin.ext (by simp only [col]; omega)
  rw [h1, h2, h3]
  rfl

/-! ## The claims -/

theorem values : Cert.algebraic_Kernel6Ideal_Reference6Ideal := by
  intro m ρ m' ρ' _ hagree
  refine ⟨fun c => product (lhs m c) (rhs m c), ?_, ?_⟩
  · exact (θ_run _ _ _).mono (fun r h c => ⟨(h c).1.trans (final m c), (h c).2⟩) (Cert.Kernel6Ideal.Value.run_blocks m ρ)
  · refine (θ_run _ _ _).mono (fun r h c => ⟨(h c).1.trans ?_, (h c).2⟩) (Cert.Reference6Ideal.Value.run m' ρ')
    rw [(hagree c).1, (hagree c).2]
    funext j; idx_vars j; pointwise [product]

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.OutProj
-- ==== Proof.DWPw2.lean ====
module

public import proofs.«01_k».proof.Defs
public import proofs.«01_k».proof.Proof.Gen.Kernel7Ideal.Value
public import proofs.«01_k».proof.Proof.Gen.Reference7Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The gradient of the pointwise weights: a product with the first factor transposed, summed over four blocks. -/

@[expose] public section

set_option maxRecDepth 16384

noncomputable section

namespace Cert.DWPw2

open Idealize.ShloMosaic Idealize.ShloMosaic.TcCoe Idealize.ShloMosaic.Tactic Idealize.ShloMosaic.ValueKit Idealize.SL.Sem
open Cert.Kernel7Ideal Cert.Kernel7Ideal.Gen

/-- An array at the ideal instance. -/
abbrev V (S : Shape) (e : EltTy) := Vec Ideal S e

/-- The product as a sum over the contracted axis. -/
def product (A : V S4096x2048 .bf16) (B : V S4096x2048 .bf16) : V S2048x2048 .bf16 := fun j =>
  ∑ k : Fin 4096, (A (ix2 k (j 0)) : Ideal .f32) * (B (ix2 k (j 1)) : Ideal .f32)

variable (m : (ℓ : Loc nD τ sig) → Buf (Elt Ideal) ℓ) (c : Dev nD)

/-- The two factors as launched. -/
abbrev lhs : V S4096x2048 .bf16 := m ((c : Thread nD τ).loc main_arg0)
abbrev rhs : V S4096x2048 .bf16 := m ((c : Thread nD τ).loc main_arg1)

/-! ## The blocks of a grid point -/

theorem idx0 : ∀ t : Fin cfg0.N, win0_0.index t = ![t.val % 4, t.val / 16] := (by decide +kernel : ∀ t : Fin grid0.N, _)
theorem idx1 : ∀ t : Fin cfg0.N, win0_1.index t = ![t.val % 4, t.val / 4 % 4] := (by decide +kernel : ∀ t : Fin grid0.N, _)
theorem idx2 : ∀ t : Fin cfg0.N, win0_2.index t = ![t.val / 16, t.val / 4 % 4] := (by decide +kernel : ∀ t : Fin grid0.N, _)

theorem points (t : Fin cfg0.N) : t.val < 32 := lt_of_lt_of_eq t.isLt N_0

/-- Row `r` and column `s` of the block that point `t` adds to, and place `k` of its part of the contracted axis. -/
def row (t : Fin cfg0.N) (r : Fin 1024) : Fin 2048 := ⟨t.val / 16 * 1024 + r.val, by have := points t; omega⟩
def col (t : Fin cfg0.N) (s : Fin 512) : Fin 2048 := ⟨t.val / 4 % 4 * 512 + s.val, by have := points t; omega⟩
def mid (t : Fin cfg0.N) (k : Fin 1024) : Fin 4096 := ⟨t.val % 4 * 1024 + k.val, by have := points t; omega⟩

theorem lhs_block (t : Fin cfg0.N) (r : Fin 1024) (k : Fin 1024) :
    (show V S1024x1024 .bf16 from iblk m c 0 t) (ix2 k r) = lhs m c (ix2 (mid t k) (row t r)) := by
  have := points t
  blk_simp [iblk]
  rw [V_main_arg0]
  refine congrArg (lhs m c) ?_
  unfold row mid
  blk_ext [idx0]

theorem rhs_block (t : Fin cfg0.N) (s : Fin 512) (k : Fin 1024) :
    (show V S1024x512 .bf16 from iblk m c 1 t) (ix2 k s) = rhs m c (ix2 (mid t k) (col t s)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S1024x512 .bf16) : V S1024x512 .f32 := fun j =>
  ∑ k : Fin 1024, (a (ix2 k (j 0)) : Ideal .f32) * (b (ix2 k (j 1)) : Ideal .f32)

theorem add_part (acc : V S1024x512 .f32) (a : V S1024x1024 .bf16) (b : V S1024x512 .bf16) (j) :
    k0_pay2 (F := Ideal) acc a b j = acc j + part a b j := by
  idx_vars j; pointwise [k0_pay2, part]

theorem zero_start (j) : k0_pay1 (F := Ideal) j = 0 := by
  pointwise [k0_pay1]

theorem cast_out (acc : V S1024x512 .f32) (j) : k0_pay3 (F := Ideal) acc j = acc j := by
  pointwise [k0_pay3]

/-- The accumulator after the last point of a block. -/
theorem accumulated (t : Fin cfg0.N) (hr : t.val % 4 = 4 - 1) (j) :
    (outsAt0 m c t.val t.isLt).2 j = (fun _ => 0 : V S1024x512 .f32) j + ∑ s : Fin 4, part (iblk m c 0 ⟨4 * (t.val / 4) + s.val, Pipeline.run_point_lt_of_flush t hr s⟩)
      (iblk m c 1 ⟨4 * (t.val / 4) + s.val, Pipeline.run_point_lt_of_flush t hr s⟩) j := by
  refine Pipeline.eq_sum_fin_of_reset_step_apply_of_flush (fun n h => (outsAt0 m c n h).2) 4 (fun _ => 0)
    (fun t => part (iblk m c 0 t) (iblk m c 1 t)) (fun t h j => ?_) (fun t h j => ?_) t hr j
  · rw [outsAt0_A m c t h (by omega)]
    frame_out
    rw [add_part, zero_start]
  · by_cases hl : t.val % 4 = 3
    · rw [outsAt0_C m c t h hl]
      frame_out
      rw [add_part]
      exact congrArg (· + _) (congrFun ((Memref.isWhole_whole cc0_scratch0).read_unread _) j)
    · rw [outsAt0_B m c t h hl]
      frame_out
      rw [add_part]
      exact congrArg (· + _) (congrFun ((Memref.isWhole_whole cc0_scratch0).read_unread _) j)

/-- The last point of a block writes the accumulator. -/
theorem written (t : Fin cfg0.N) (hr : t.val % 4 = 3) (j) : (outsAt0 m c t.val t.isLt).1 j = (outsAt0 m c t.val t.isLt).2 j := by
  rw [outsAt0_C m c t (by omega) hr]
  frame_out
  rw [cast_out]

theorem final : (dats m 0 c).arrAt 2 cfg0.N = product (lhs m c) (rhs m c) := by
  refine (dats m 0 c).arrAt_eq_of_covers 2 _ (by decide +kernel) fun t hf y => ?_
  have hr : t.val % 4 = 3 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨4 * (t.val / 4) + s.val, Pipeline.run_point_lt_of_flush t hr s⟩ k = ⟨s.val * 1024 + k.val, hl⟩ := Fin.ext (by simp only [mid]; omega)
  have h2 : row ⟨4 * (t.val / 4) + s.val, Pipeline.run_point_lt_of_flush t hr s⟩ y0 = row t y0 := Fin.ext (by simp only [row]; omega)
  have h3 : col ⟨4 * (t.val / 4) + s.val, Pipeline.run_point_lt_of_flush t hr s⟩ y1 = col t y1 := Fin.ext (by simp only [col]; omega)
  rw [h1, h2, h3]
  rfl

/-! ## The claims -/

theorem values : Cert.algebraic_Kernel7Ideal_Reference7Ideal := by
  intro m ρ m' ρ' _ hagree
  refine ⟨fun c => product (lhs m c) (rhs m c), ?_, ?_⟩
  · exact (θ_run _ _ _).mono (fun r h c => ⟨(h c).1.trans (final m c), (h c).2⟩) (Cert.Kernel7Ideal.Value.run_blocks m ρ)
  · refine (θ_run _ _ _).mono (fun r h c => ⟨(h c).1.trans ?_, (h c).2⟩) (Cert.Reference7Ideal.Value.run m' ρ')
    rw [(hagree c).1, (hagree c).2]
    funext j; idx_vars j; pointwise [product]
    exact Finset.sum_congr rfl fun k _ => mul_comm _ _

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.DWPw2
-- ==== Proof.DCAct.lean ====
module

public import proofs.«01_k».proof.Defs
public import proofs.«01_k».proof.Proof.Gen.Kernel8Ideal.Value
public import proofs.«01_k».proof.Proof.Gen.Reference8Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The gradient of the pointwise projection's input: a product with the second factor transposed, summed over two blocks. -/

@[expose] public section

set_option maxRecDepth 16384

noncomputable section

namespace Cert.DCAct

open Idealize.ShloMosaic Idealize.ShloMosaic.TcCoe Idealize.ShloMosaic.Tactic Idealize.ShloMosaic.ValueKit Idealize.SL.Sem
open Cert.Kernel8Ideal Cert.Kernel8Ideal.Gen

/-- An array at the ideal instance. -/
abbrev V (S : Shape) (e : EltTy) := Vec Ideal S e

/-- The product as a sum over the contracted axis. -/
def product (A : V S4096x2048 .bf16) (B : V S2048x2048 .bf16) : V S4096x2048 .f32 := fun j =>
  ∑ k : Fin 2048, (A (ix2 (j 0) k) : Ideal .f32) * (B (ix2 (j 1) k) : Ideal .f32)

variable (m : (ℓ : Loc nD τ sig) → Buf (Elt Ideal) ℓ) (c : Dev nD)

/-- The two factors as launched. -/
abbrev lhs : V S4096x2048 .bf16 := m ((c : Thread nD τ).loc main_arg0)
abbrev rhs : V S2048x2048 .bf16 := m ((c : Thread nD τ).loc main_arg1)

/-! ## The blocks of a grid point -/

theorem idx0 : ∀ t : Fin cfg0.N, win0_0.index t = ![t.val / 8, t.val % 2] := (by decide +kernel : ∀ t : Fin grid0.N, _)
theorem idx1 : ∀ t : Fin cfg0.N, win0_1.index t = ![t.val / 2 % 4, t.val % 2] := (by decide +kernel : ∀ t : Fin grid0.N, _)
theorem idx2 : ∀ t : Fin cfg0.N, win0_2.index t = ![t.val / 8, t.val / 2 % 4] := (by decide +kernel : ∀ t : Fin grid0.N, _)

theorem points (t : Fin cfg0.N) : t.val < 32 := lt_of_lt_of_eq t.isLt N_0

/-- Row `r` and column `s` of the block that point `t` adds to, and place `k` of its part of the contracted axis. -/
def row (t : Fin cfg0.N) (r : Fin 1024) : Fin 4096 := ⟨t.val / 8 * 1024 + r.val, by have := points t; omega⟩
def col (t : Fin cfg0.N) (s : Fin 512) : Fin 2048 := ⟨t.val / 2 % 4 * 512 + s.val, by have := points t; omega⟩
def mid (t : Fin cfg0.N) (k : Fin 1024) : Fin 2048 := ⟨t.val % 2 * 1024 + k.val, by have := points t; omega⟩

theorem lhs_block (t : Fin cfg0.N) (r : Fin 1024) (k : Fin 1024) :
    (show V S1024x1024 .bf16 from iblk m c 0 t) (ix2 r k) = lhs m c (ix2 (row t r) (mid t k)) := by
  have := points t
  blk_simp [iblk]
  rw [V_main_arg0]
  refine congrArg (lhs m c) ?_
  unfold row mid
  blk_ext [idx0]

theorem rhs_block (t : Fin cfg0.N) (s : Fin 512) (k : Fin 1024) :
    (show V S512x1024 .bf16 from iblk m c 1 t) (ix2 s k) = rhs m c (ix2 (col t s) (mid t k)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S512x1024 .bf16) : V S1024x512 .f32 := fun j =>
  ∑ k : Fin 1024, (a (ix2 (j 0) k) : Ideal .f32) * (b (ix2 (j 1) k) : Ideal .f32)

theorem add_part (acc : V S1024x512 .f32) (a : V S1024x1024 .bf16) (b : V S512x1024 .bf16) (j) :
    k0_pay2 (F := Ideal) acc a b j = acc j + part a b j := by
  idx_vars j; pointwise [k0_pay2, part]

theorem zero_start (j) : k0_pay1 (F := Ideal) j = 0 := by
  pointwise [k0_pay1]

/-- The accumulator after the last point of a block. -/
theorem accumulated (t : Fin cfg0.N) (hr : t.val % 2 = 2 - 1) (j) :
    (outsAt0 m c t.val t.isLt).2 j = (fun _ => 0 : V S1024x512 .f32) j + ∑ s : Fin 2, part (iblk m c 0 ⟨2 * (t.val / 2) + s.val, Pipeline.run_point_lt_of_flush t hr s⟩)
      (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t => part (iblk m c 0 t) (iblk m c 1 t)) (fun t h j => ?_) (fun t h j => ?_) t hr j
  · rw [outsAt0_A m c t h (by omega)]
    frame_out
    rw [add_part, zero_start]
  · rw [outsAt0_B m c t h (by omega)]
    frame_out
    rw [add_part]
    exact congrArg (· + _) (congrFun ((Memref.isWhole_whole cc0_scratch0).read_unread _) j)

/-- The last point of a block writes the accumulator. -/
theorem written (t : Fin cfg0.N) (hr : t.val % 2 = 1) (j) : (outsAt0 m c t.val t.isLt).1 j = (outsAt0 m c t.val t.isLt).2 j := by
  rw [outsAt0_B m c t (by omega) hr]
  frame_out

theorem final : (dats m 0 c).arrAt 2 cfg0.N = product (lhs m c) (rhs m c) := by
  refine (dats m 0 c).arrAt_eq_of_covers 2 _ (by decide +kernel) fun t hf y => ?_
  have hr : t.val % 2 = 1 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨2 * (t.val / 2) + s.val, Pipeline.run_point_lt_of_flush t hr s⟩ k = ⟨s.val * 1024 + k.val, hl⟩ := Fin.ext (by simp only [mid]; omega)
  have h2 : row ⟨2 * (t.val / 2) + s.val, Pipeline.run_point_lt_of_flush t hr s⟩ y0 = row t y0 := Fin.ext (by simp only [row]; omega)
  have h3 : col ⟨2 * (t.val / 2) + s.val, Pipeline.run_point_lt_of_flush t hr s⟩ y1 = col t y1 := Fin.ext (by simp only [col]; omega)
  rw [h1, h2, h3]
  rfl

/-! ## The claims -/

theorem values : Cert.algebraic_Kernel8Ideal_Reference8Ideal := by
  intro m ρ m' ρ' _ hagree
  refine ⟨fun c => product (lhs m c) (rhs m c), ?_, ?_⟩
  · exact (θ_run _ _ _).mono (fun r h c => ⟨(h c).1.trans (final m c), (h c).2⟩) (Cert.Kernel8Ideal.Value.run_blocks m ρ)
  · refine (θ_run _ _ _).mono (fun r h c => ⟨(h c).1.trans ?_, (h c).2⟩) (Cert.Reference8Ideal.Value.run m' ρ')
    rw [(hagree c).1, (hagree c).2]
    funext j; idx_vars j; pointwise [product]

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.DCAct
-- ==== Proof.Pw2.lean ====
module

public import proofs.«01_k».proof.Defs
public import proofs.«01_k».proof.Proof.Gen.Kernel9Ideal.Value
public import proofs.«01_k».proof.Proof.Gen.Reference9Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The pointwise projection after the convolution: a plain product, summed over two blocks. -/

@[expose] public section

set_option maxRecDepth 16384

noncomputable section

namespace Cert.Pw2

open Idealize.ShloMosaic Idealize.ShloMosaic.TcCoe Idealize.ShloMosaic.Tactic Idealize.ShloMosaic.ValueKit Idealize.SL.Sem
open Cert.Kernel9Ideal Cert.Kernel9Ideal.Gen

/-- An array at the ideal instance. -/
abbrev V (S : Shape) (e : EltTy) := Vec Ideal S e

/-- The product as a sum over the contracted axis. -/
def product (A : V S4096x2048 .bf16) (B : V S2048x2048 .bf16) : V S4096x2048 .f32 := fun j =>
  ∑ k : Fin 2048, (A (ix2 (j 0) k) : Ideal .f32) * (B (ix2 k (j 1)) : Ideal .f32)

variable (m : (ℓ : Loc nD τ sig) → Buf (Elt Ideal) ℓ) (c : Dev nD)

/-- The two factors as launched. -/
abbrev lhs : V S4096x2048 .bf16 := m ((c : Thread nD τ).loc main_arg0)
abbrev rhs : V S2048x2048 .bf16 := m ((c : Thread nD τ).loc main_arg1)

/-! ## The blocks of a grid point -/

theorem idx0 : ∀ t : Fin cfg0.N, win0_0.index t = ![t.val / 8, t.val % 2] := (by decide +kernel : ∀ t : Fin grid0.N, _)
theorem idx1 : ∀ t : Fin cfg0.N, win0_1.index t = ![t.val % 2, t.val / 2 % 4] := (by decide +kernel : ∀ t : Fin grid0.N, _)
theorem idx2 : ∀ t : Fin cfg0.N, win0_2.index t = ![t.val / 8, t.val / 2 % 4] := (by decide +kernel : ∀ t : Fin grid0.N, _)

theorem points (t : Fin cfg0.N) : t.val < 32 := lt_of_lt_of_eq t.isLt N_0

/-- Row `r` and column `s` of the block that point `t` adds to, and place `k` of its part of the contracted axis. -/
def row (t : Fin cfg0.N) (r : Fin 1024) : Fin 4096 := ⟨t.val / 8 * 1024 + r.val, by have := points t; omega⟩
def col (t : Fin cfg0.N) (s : Fin 512) : Fin 2048 := ⟨t.val / 2 % 4 * 512 + s.val, by have := points t; omega⟩
def mid (t : Fin cfg0.N) (k : Fin 1024) : Fin 2048 := ⟨t.val % 2 * 1024 + k.val, by have := points t; omega⟩

theorem lhs_block (t : Fin cfg0.N) (r : Fin 1024) (k : Fin 1024) :
    (show V S1024x1024 .bf16 from iblk m c 0 t) (ix2 r k) = lhs m c (ix2 (row t r) (mid t k)) := by
  have := points t
  blk_simp [iblk]
  rw [V_main_arg0]
  refine congrArg (lhs m c) ?_
  unfold row mid
  blk_ext [idx0]

theorem rhs_block (t : Fin cfg0.N) (s : Fin 512) (k : Fin 1024) :
    (show V S1024x512 .bf16 from iblk m c 1 t) (ix2 k s) = rhs m c (ix2 (mid t k) (col t s)) := by
  have := points t
  blk_simp [iblk]
  rw [V_main_arg1]
  refine congrArg (rhs m c) ?_
  unfold col mid
  blk_ext [idx1]

/-! ## What a point adds, and the whole product -/

/-- The part of the product that a point adds. -/
def part (a : V S1024x1024 .bf16) (b : V S1024x512 .bf16) : V S1024x512 .f32 := fun j =>
  ∑ k : Fin 1024, (a (ix2 (j 0) k) : Ideal .f32) * (b (ix2 k (j 1)) : Ideal .f32)

theorem add_part (acc : V S1024x512 .f32) (a : V S1024x1024 .bf16) (b : V S1024x512 .bf16) (j) :
    k0_pay2 (F := Ideal) acc a b j = acc j + part a b j := by
  idx_vars j; pointwise [k0_pay2, part]

theorem zero_start (j) : k0_pay1 (F := Ideal) j = 0 := by
  pointwise [k0_pay1]

/-- The accumulator after the last point of a block. -/
theorem accumulated (t : Fin cfg0.N) (hr : t.val % 2 = 2 - 1) (j) :
    (outsAt0 m c t.val t.isLt).2 j = (fun _ => 0 : V S1024x512 .f32) j + ∑ s : Fin 2, part (iblk m c 0 ⟨2 * (t.val / 2) + s.val, Pipeline.run_point_lt_of_flush t hr s⟩)
      (iblk m c 1 ⟨2 * (t.val / 2) + s.val, Pipeline.run_point_lt_of_flush t hr s⟩) j := by
  refine Pipeline.eq_sum_fin_of_reset_step_apply_of_flush (fun n h => (outsAt0 m c n h).2) 2 (fun _ => 0)
    (fun t => part (iblk m c 0 t) (iblk m c 1 t)) (fun t h j => ?_) (fun t h j => ?_) t hr j
  · rw [outsAt0_A m c t h (by omega)]
    frame_out
    rw [add_part, zero_start]
  · rw [outsAt0_B m c t h (by omega)]
    frame_out
    rw [add_part]
    exact congrArg (· + _) (congrFun ((Memref.isWhole_whole cc0_scratch0).read_unread _) j)

/-- The last point of a block writes the accumulator. -/
theorem written (t : Fin cfg0.N) (hr : t.val % 2 = 1) (j) : (outsAt0 m c t.val t.isLt).1 j = (outsAt0 m c t.val t.isLt).2 j := by
  rw [outsAt0_B m c t (by omega) hr]
  frame_out

theorem final : (dats m 0 c).arrAt 2 cfg0.N = product (lhs m c) (rhs m c) := by
  refine (dats m 0 c).arrAt_eq_of_covers 2 _ (by decide +kernel) fun t hf y => ?_
  have hr : t.val % 2 = 1 := (flush0_2 t).mp hf
  blk_simp
  rw [after0_2]
  have := points t
  idx_vars y
  have e : (win0_2.blk t).view.emb (ix2 y0 y1) = ix2 (row t y0) (col t y1) := by
    unfold row col; blk_ext [idx2]
  rw [e]
  refine (written m c t hr _).trans ((accumulated m c t hr _).trans ((zero_add _).trans ?_))
  refine Fin.sum_mul_add_congr fun s k hl => ?_
  refine (congrArg₂ (· * ·) (lhs_block m c _ y0 k) (rhs_block m c _ y1 k)).trans ?_
  have h1 : mid ⟨2 * (t.val / 2) + s.val, Pipeline.run_point_lt_of_flush t hr s⟩ k = ⟨s.val * 1024 + k.val, hl⟩ := Fin.ext (by simp only [mid]; omega)
  have h2 : row ⟨2 * (t.val / 2) + s.val, Pipeline.run_point_lt_of_flush t hr s⟩ y0 = row t y0 := Fin.ext (by simp only [row]; omega)
  have h3 : col ⟨2 * (t.val / 2) + s.val, Pipeline.run_point_lt_of_flush t hr s⟩ y1 = col t y1 := Fin.ext (by simp only [col]; omega)
  rw [h1, h2, h3]
  rfl

/-! ## The claims -/

theorem values : Cert.algebraic_Kernel9Ideal_Reference9Ideal := by
  intro m ρ m' ρ' _ hagree
  refine ⟨fun c => product (lhs m c) (rhs m c), ?_, ?_⟩
  · exact (θ_run _ _ _).mono (fun r h c => ⟨(h c).1.trans (final m c), (h c).2⟩) (Cert.Kernel9Ideal.Value.run_blocks m ρ)
  · refine (θ_run _ _ _).mono (fun r h c => ⟨(h c).1.trans ?_, (h c).2⟩) (Cert.Reference9Ideal.Value.run m' ρ')
    rw [(hagree c).1, (hagree c).2]
    funext j; idx_vars j; pointwise [product]

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Pw2
-- ==== Proof.AdamwWIn.lean ====
module

public import proofs.«01_k».proof.Defs
public import proofs.«01_k».proof.Proof.Gen.Kernel10Ideal.Value
public import proofs.«01_k».proof.Proof.Gen.Reference10Ideal.Run
public import Idealize.ShloMosaic.Lib.Tactic
public import Idealize.ShloMosaic.Lib.Pointwise
public import Idealize.ShloMosaic.Lib.Pipeline.ValueKit
public import Idealize.ShloMosaic.Lib.Quiescent

/-! The optimiser's update of the projection weights, which the step keeps transposed: each element of the three
    results from the elements at the transposed place and the gradient's at its own. -/

@[expose] public section

set_option maxRecDepth 16384

noncomputable section

namespace Cert.AdamwWIn

open Idealize.ShloMosaic Idealize.ShloMosaic.TcCoe Idealize.ShloMosaic.Tactic Idealize.ShloMosaic.ValueKit Idealize.SL.Sem
open Cert.Kernel10Ideal Cert.Kernel10Ideal.Gen

/-- An array at the ideal instance. -/
abbrev A (S : Shape) := FVec Ideal S .f32

/-! ## One element -/

def mean (g m : Ideal .f32) : Ideal .f32 :=
  (Scalar.ofBits .f32 0x3F666666#32 : Ideal .f32) * m + (Scalar.ofBits .f32 0x3DCCCCCD#32 : Ideal .f32) * g

def square (g v : Ideal .f32) : Ideal .f32 :=
  (Scalar.ofBits .f32 0x3F7FBE77#32 : Ideal .f32) * v + (Scalar.ofBits .f32 0x3A83126F#32 : Ideal .f32) * (g * g)

def step (w g m v : Ideal .f32) : Ideal .f32 :=
  FloatOps.mulf (Scalar.ofBits .f32 0xBA83126F#32)
    (FloatOps.addf
      (FloatOps.divf (FloatOps.divf (mean g m) (Scalar.ofBits .f32 0x3F26BD02#32))
        (FloatOps.addf (FloatOps.sqrt (FloatOps.divf (square g v) (Scalar.ofBits .f32 0x3C231ACC#32)))
          (Scalar.ofBits .f32 0x322BCC77#32)))
      (FloatOps.mulf (Scalar.ofBits .f32 0x3C23D70A#32) w))

/-! ## The three results -/

def meanOut (g : A S3632x4096) (m : A S4096x3632) : A S3632x4096 := fun j => mean (g (ix2 (j 0) (j 1))) (m (ix2 (j 1) (j 0)))
def squareOut (g : A S3632x4096) (v : A S4096x3632) : A S3632x4096 := fun j => square (g (ix2 (j 0) (j 1))) (v (ix2 (j 1) (j 0)))
def stepOut (w : A S4096x3632) (g : A S3632x4096) (m v : A S4096x3632) : A S3632x4096 := fun j =>
  step (w (ix2 (j 1) (j 0))) (g (ix2 (j 0) (j 1))) (m (ix2 (j 1) (j 0))) (v (ix2 (j 1) (j 0)))

variable (m : (ℓ : Loc nD τ sig) → Buf (Elt Ideal) ℓ) (c : Dev nD)

abbrev w0 : A S4096x3632 := m ((c : Thread nD τ).loc main_arg0)
abbrev g0 : A S3632x4096 := m ((c : Thread nD τ).loc main_arg1)
abbrev m0 : A S4096x3632 := m ((c : Thread nD τ).loc main_arg2)
abbrev v0 : A S4096x3632 := m ((c : Thread nD τ).loc main_arg3)

/-- What the transposes before the region leave. -/
theorem w_entry : V m c main_v0 = transpose S3632x4096 [1, 0] (w0 m c) transposes_S4096x3632_S3632x4096_1_0 := by
  unfold V hostOps0; after_results_simp
theorem m_entry : V m c main_v1 = transpose S3632x4096 [1, 0] (m0 m c) transposes_S4096x3632_S3632x4096_1_0 := by
  unfold V hostOps0; after_results_simp
theorem v_entry : V m c main_v2 = transpose S3632x4096 [1, 0] (v0 m c) transposes_S4096x3632_S3632x4096_1_0 := by
  unfold V hostOps0; after_results_simp

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem points (t : Fin cfg0.N) : t.val < 227 := lt_of_lt_of_eq t.isLt N_0

/-- Row `r` of the block that point `t` updates. -/
def row (t : Fin cfg0.N) (r : Fin 16) : Fin 3632 := ⟨t.val * 16 + r.val, by have := points t; omega⟩

theorem w_block (t : Fin cfg0.N) (r : Fin 16) (s : Fin 4096) :
    (show A S16x4096 from iblk m c 0 t) (ix2 r s) = w0 m c (ix2 s (row t r)) := by
  have := points t
  blk_simp [iblk]
  rw [w_entry]
  have e : (win0_0.blk t).view.emb (ix2 r s) = ix2 (row t r) s := by
    unfold row; blk_ext [idx0]
  rw [e]; pointwise []

theorem g_block (t : Fin cfg0.N) (r : Fin 16) (s : Fin 4096) :
    (show A S16x4096 from iblk m c 1 t) (ix2 r s) = g0 m c (ix2 (row t r) s) := by
  have := points t
  blk_simp [iblk]
  rw [V_main_arg1]
  refine congrArg (g0 m c) ?_
  unfold row; blk_ext [idx1]

theorem m_block (t : Fin cfg0.N) (r : Fin 16) (s : Fin 4096) :
    (show A S16x4096 from iblk m c 2 t) (ix2 r s) = m0 m c (ix2 s (row t r)) := by
  have := points t
  blk_simp [iblk]
  rw [m_entry]
  have e : (win0_2.blk t).view.emb (ix2 r s) = ix2 (row t r) s := by
    unfold row; blk_ext [idx2]
  rw [e]; pointwise []

theorem v_block (t : Fin cfg0.N) (r : Fin 16) (s : Fin 4096) :
    (show A S16x4096 from iblk m c 3 t) (ix2 r s) = v0 m c (ix2 s (row t r)) := by
  have := points t
  blk_simp [iblk]
  rw [v_entry]
  have e : (win0_3.blk t).view.emb (ix2 r s) = ix2 (row t r) s := by
    unfold row; blk_ext [idx3]
  rw [e]; pointwise []

/-! ## What a point leaves -/

theorem out4 (w g m' v : A S16x4096) (r : Fin 16) (s : Fin 4096) :
    out0_4 (F := Ideal) w g m' v (ix2 r s) = step (w (ix2 r s)) (g (ix2 r s)) (m' (ix2 r s)) (v (ix2 r s)) := by
  unfold out0_4
  simp (disch := decide) only [View.canon_cons_unit_lit', View.ld_unit_lit']
  pointwise [k0_pay3, k0_pay1, k0_pay2, step, mean, square]

theorem out5 (w g m' v : A S16x4096) (r : Fin 16) (s : Fin 4096) :
    out0_5 (F := Ideal) w g m' v (ix2 r s) = mean (g (ix2 r s)) (m' (ix2 r s)) := by
  unfold out0_5
  simp (disch := decide) only [View.canon_cons_unit_lit', View.ld_unit_lit']
  pointwise [k0_pay1, mean]

theorem out6 (w g m' v : A S16x4096) (r : Fin 16) (s : Fin 4096) :
    out0_6 (F := Ideal) w g m' v (ix2 r s) = square (g (ix2 r s)) (v (ix2 r s)) := by
  unfold out0_6
  simp (disch := decide) only [View.canon_cons_unit_lit', View.ld_unit_lit']
  pointwise [k0_pay2, square]

/-! ## The final arrays -/

theorem final4 : (dats m 0 c).arrAt 4 cfg0.N = stepOut (w0 m c) (g0 m c) (m0 m c) (v0 m c) := by
  refine (dats m 0 c).arrAt_eq_of_covers 4 _ (by decide +kernel) fun t hf y => ?_
  blk_simp
  rw [after0_4]
  have := points t
  idx_vars y
  have e : (win0_4.blk t).view.emb (ix2 y0 y1) = ix2 (row t y0) y1 := by
    unfold row; blk_ext [idx4]
  rw [e]
  refine (out4 _ _ _ _ y0 y1).trans ?_
  show _ = step (w0 m c (ix2 y1 (row t y0))) (g0 m c (ix2 (row t y0) y1)) (m0 m c (ix2 y1 (row t y0))) (v0 m c (ix2 y1 (row t y0)))
  rw [← w_block, ← g_block, ← m_block, ← v_block]

theorem final5 : (dats m 0 c).arrAt 5 cfg0.N = meanOut (g0 m c) (m0 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) y1 := by
    unfold row; blk_ext [idx5]
  rw [e]
  refine (out5 _ _ _ _ y0 y1).trans ?_
  show _ = mean (g0 m c (ix2 (row t y0) y1)) (m0 m c (ix2 y1 (row t y0)))
  rw [← g_block, ← m_block]

theorem final6 : (dats m 0 c).arrAt 6 cfg0.N = squareOut (g0 m c) (v0 m c) := by
  refine (dats m 0 c).arrAt_eq_of_covers 6 _ (by decide +kernel) fun t hf y => ?_
  blk_simp
  rw [after0_6]
  have := points t
  idx_vars y
  have e : (win0_6.blk t).view.emb (ix2 y0 y1) = ix2 (row t y0) y1 := by
    unfold row; blk_ext [idx6]
  rw [e]
  refine (out6 _ _ _ _ y0 y1).trans ?_
  show _ = square (g0 m c (ix2 (row t y0) y1)) (v0 m c (ix2 y1 (row t y0)))
  rw [← g_block, ← v_block]

/-! ## The claims -/

theorem values : Cert.algebraic_Kernel10Ideal_Reference10Ideal := by
  intro m ρ m' ρ' _ hagree
  refine ⟨fun c => stepOut (w0 m c) (g0 m c) (m0 m c) (v0 m c), fun c => meanOut (g0 m c) (m0 m c),
    fun c => squareOut (g0 m c) (v0 m c), ?_, ?_⟩
  · exact (θ_run _ _ _).mono (fun r h c => ⟨(h c).1.trans (final4 m c), (h c).2.1.trans (final5 m c),
      (h c).2.2.1.trans (final6 m c), (h c).2.2.2⟩) (Cert.Kernel10Ideal.Value.run_blocks m ρ)
  · refine (θ_run _ _ _).mono (fun r h c => ⟨(h c).1.trans ?_, (h c).2.1.trans ?_, (h c).2.2.1.trans ?_, (h c).2.2.2⟩)
      (Cert.Reference10Ideal.Value.run m' ρ')
    all_goals obtain ⟨e0, e1, e2, e3⟩ := hagree c
    · rw [e0, e1, e2, e3]
      funext j; idx_vars j; pointwise [stepOut, step, mean, square]
    · rw [e1, e2]
      funext j; idx_vars j; pointwise [meanOut, mean]
    · rw [e1, e3]
      funext j; idx_vars j; pointwise [squareOut, square]

theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

end Cert.AdamwWIn
-- ==== Proof.Silu.lean ====
module

public import proofs.«01_k».proof.Defs
public import Idealize.ShloMosaic.Lib.Pointwise

/-! The derivative of `z ↦ z * s z` with the logistic function `s`, in the two forms that automatic
differentiation gives: from `1 / (1 + exp (-z))`, and from the logistic function's own rule. -/

@[expose] public section

noncomputable section

namespace Cert.Silu

open Idealize.ShloMosaic

/-- The logistic function. -/
def sg (z : EReal) : EReal := Ideal.div 1 (1 + Ideal.exp (0 - z))

/-- The quotient's derivative times the exponential is the logistic function's derivative. -/
theorem slope (z : EReal) :
    Ideal.div 1 ((1 + Ideal.exp (0 - z)) * (1 + Ideal.exp (0 - z))) * Ideal.exp (0 - z) = sg z * (1 - sg z) := by
  unfold sg
  induction z with
  | bot =>
    have h : (0 : EReal) - ⊥ = ⊤ := by simp
    have h1 : (1 : EReal) + ⊤ = ⊤ := by rw [← EReal.coe_one, EReal.coe_add_top]
    rw [h, Ideal.exp_top, h1]
    simp [Ideal.div]
  | top =>
    have h : (0 : EReal) - ⊤ = ⊥ := by simp
    have h1 : (1 : EReal) - 1 = 0 := by rw [← EReal.coe_one, ← EReal.coe_sub, sub_self, EReal.coe_zero]
    rw [h, Ideal.exp_bot]
    simp [Ideal.div, h1]
  | coe x =>
    have h : (0 : EReal) - (x : EReal) = ((0 - x : ℝ) : EReal) := by push_cast; rfl
    rw [h, Ideal.exp_coe]
    have hp : (0 : ℝ) < 1 + Real.exp (0 - x) := by positivity
    have e1 : (1 : EReal) + (Real.exp (0 - x) : EReal) = ((1 + Real.exp (0 - x) : ℝ) : EReal) := by push_cast; rfl
    rw [e1, ← EReal.coe_mul, Ideal.div_coe (mul_pos hp hp).ne', Ideal.div_coe hp.ne', one_mul, one_mul]
    rw [← EReal.coe_one, ← EReal.coe_sub, ← EReal.coe_mul, ← EReal.coe_mul]
    congr 1
    field_simp
    ring

/-- The gradient of `z * s z` against `a`, in the two forms. -/
theorem grad (z a : EReal) :
    a * sg z + (0 - (0 - z * a * Ideal.div 1 ((1 + Ideal.exp (0 - z)) * (1 + Ideal.exp (0 - z)))) * Ideal.exp (0 - z))
      = a * sg z + z * a * (sg z * (1 - sg z)) := by
  rw [← slope, zero_sub, zero_sub (z * a * _), EReal.neg_mul, neg_neg, mul_assoc (z * a)]

end Cert.Silu
-- ==== Proof.ConvGate.lean ====
module

public import proofs.«01_k».proof.Defs
public import proofs.«01_k».proof.Proof.Gen.Kernel11Ideal.Value
public import proofs.«01_k».proof.Proof.Gen.Reference11Ideal.Run
public import proofs.«01_k».proof.Proof.Silu
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The backward pass of the convolution branch's last step: the bias, and the gate with `z * s z`. -/

@[expose] public section

set_option maxRecDepth 16384

noncomputable section

namespace Cert.ConvGate

open Idealize.ShloMosaic Idealize.ShloMosaic.TcCoe Idealize.ShloMosaic.Tactic Idealize.ShloMosaic.ValueKit Idealize.SL.Sem
open Cert.Silu Cert.Kernel11Ideal Cert.Kernel11Ideal.Gen

/-- An array at the ideal instance. -/
abbrev V (S : Shape) (e : EltTy) := Vec Ideal S e

/-! ## The three results, element by element -/

/-- The gradient of the convolution's output, from that of the gated output `d` and the gate `g`. -/
def dcAt (g d : Ideal .f32) : Ideal .f32 := d * (g * sg g)

/-- The gradient of the gate, from the biased output `a`. -/
def dgAt (a g d : Ideal .f32) : Ideal .f32 := a * d * sg g + g * (a * d) * (sg g * (1 - sg g))

/-- The columns of the gate in the projection, and of the branch in the mixed output's gradient. -/
def gateCol (q : Fin 2048) : Fin 14592 := ⟨12288 + q.val, by omega⟩
def mixCol (q : Fin 2048) : Fin 4096 := ⟨2048 + q.val, by omega⟩

/-- The three results over the whole arrays. -/
def dcOut (P : V S4096x14592 .f32) (D : V S4096x4096 .f32) : V S4096x2048 .f32 := fun j =>
  dcAt (P (ix2 (j 0) (gateCol (j 1)))) (D (ix2 (j 0) (mixCol (j 1))))
def dgOut (B : V S2048 .f32) (C : V S4096x2048 .f32) (P : V S4096x14592 .f32) (D : V S4096x4096 .f32) : V S4096x2048 .f32 := fun j =>
  dgAt (C (ix2 (j 0) (j 1)) + B (ix1 (j 1))) (P (ix2 (j 0) (gateCol (j 1)))) (D (ix2 (j 0) (mixCol (j 1))))
def dbOut (P : V S4096x14592 .f32) (D : V S4096x4096 .f32) : V S1x2048 .f32 := fun j =>
  ∑ p : Fin 4096, dcAt (P (ix2 p (gateCol (j 1)))) (D (ix2 p (mixCol (j 1))))

variable (m : (ℓ : Loc nD τ sig) → Buf (Elt Ideal) ℓ) (c : Dev nD)

/-- The arguments as launched. -/
abbrev arg0 : V S2048 .f32 := m ((c : Thread nD τ).loc main_arg0)
abbrev arg1 : V S4096x2048 .f32 := m ((c : Thread nD τ).loc main_arg1)
abbrev arg2 : V S4096x14592 .f32 := m ((c : Thread nD τ).loc main_arg2)
abbrev arg3 : V S4096x4096 .f32 := m ((c : Thread nD τ).loc main_arg3)

/-! ## The blocks of a grid point -/

theorem idx0 : ∀ t : Fin cfg0.N, win0_0.index t = ![0, t.val / 16] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![t.val % 16, 24 + t.val / 16] := (by decide +kernel : ∀ t : Fin grid0.N, _)
theorem idx3 : ∀ t : Fin cfg0.N, win0_3.index t = ![t.val % 16, 4 + t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![0, t.val / 16] := (by decide +kernel : ∀ t : Fin grid0.N, _)

theorem points (t : Fin cfg0.N) : t.val < 64 := lt_of_lt_of_eq t.isLt N_0

/-- Row `r` of the block of rows that point `t` works on, and column `q` of its block of columns. -/
def row (t : Fin cfg0.N) (r : Fin 256) : Fin 4096 := ⟨t.val % 16 * 256 + r.val, by omega⟩
def col (t : Fin cfg0.N) (q : Fin 512) : Fin 2048 := ⟨t.val / 16 * 512 + q.val, by have := points t; omega⟩

theorem b_entry : Gen.V m c main_v0 = shapeCast S1x2048 (arg0 m c) shapeCasts_S2048_S1x2048 := by
  unfold Gen.V hostOps0; after_results_simp; rfl

theorem blk0 (t : Fin cfg0.N) (q : Fin 512) : (show V S1x512 .f32 from iblk m c 0 t) (ix2 0 q) = arg0 m c (ix1 (col t q)) := by
  have := points t
  blk_simp [iblk]
  rw [b_entry]
  have e : (win0_0.blk t).view.emb (ix2 0 q) = ix2 0 (col t q) := by unfold col; blk_ext [idx0]
  rw [e]
  pointwise []

theorem blk1 (t : Fin cfg0.N) (r : Fin 256) (q : Fin 512) : (show V S256x512 .f32 from iblk m c 1 t) (ix2 r q) = arg1 m c (ix2 (row t r) (col t q)) := by
  have := points t
  blk_simp [iblk]
  rw [V_main_arg1]
  refine congrArg (arg1 m c) ?_
  unfold row col
  blk_ext [idx1]

theorem blk2 (t : Fin cfg0.N) (r : Fin 256) (q : Fin 512) : (show V S256x512 .f32 from X0_2 m c t) (ix2 r q) = arg2 m c (ix2 (row t r) (gateCol (col t q))) := by
  have := points t
  show X0_2 m c t (ix2 r q) = _
  unfold X0_2 Pipeline.Window.fill; rw [dif_pos (moved0_2 t _)]
  blk_simp [iblk]
  rw [V_main_arg2]
  refine congrArg (arg2 m c) ?_
  unfold row gateCol col
  blk_ext [idx2]

theorem blk3 (t : Fin cfg0.N) (r : Fin 256) (q : Fin 512) : (show V S256x512 .f32 from iblk m c 3 t) (ix2 r q) = arg3 m c (ix2 (row t r) (mixCol (col t q))) := by
  have := points t
  blk_simp [iblk]
  rw [V_main_arg3]
  refine congrArg (arg3 m c) ?_
  unfold row mixCol col
  blk_ext [idx3]

/-! ## What a point computes -/

theorem pay8_at (g d : V S256x512 .f32) (r : Fin 256) (q : Fin 512) :
    k0_pay8 (F := Ideal) g d (ix2 r q) = dcAt (g (ix2 r q)) (d (ix2 r q)) := by
  pointwise [k0_pay8, k0_pay3, k0_pay4, k0_pay5, k0_pay6, dcAt, sg]

theorem pay9_at (b : V S1x512 .f32) (u g d : V S256x512 .f32) (r : Fin 256) (q : Fin 512) :
    k0_pay9 (F := Ideal) b u g d (ix2 r q) = dgAt (u (ix2 r q) + b (ix2 0 q)) (g (ix2 r q)) (d (ix2 r q)) := by
  unfold dgAt
  rw [← grad]
  pointwise [k0_pay9, k0_pay3, k0_pay4, k0_pay5, k0_pay6, sg]

theorem pay7_at (g d : V S256x512 .f32) (q : Fin 512) :
    k0_pay7 (F := Ideal) g d (ix2 0 q) = ∑ r : Fin 256, dcAt (g (ix2 r q)) (d (ix2 r q)) := by
  pointwise [k0_pay7, k0_pay3, k0_pay4, k0_pay5, k0_pay6, dcAt, sg]

theorem outs4 (t : Fin cfg0.N) : (outsAt0 m c t.val t.isLt).1 = k0_pay8 (F := Ideal) (X0_2 m c t) (iblk m c 3 t) := by
  by_cases h0 : t.val % 16 = 0
  · rw [outsAt0_A m c t h0]; dsimp only; unfold out0_A_4; frame_open
    simp (disch := decide) only [View.readCov_unit_lit', View.read_writes_junk_eq_canon, View.canon_cons_unit_lit', View.ld_unit_lit', View.readAt_eq_ld, Memref.IsWhole.read_unread]
  · rw [outsAt0_B m c t h0]; dsimp only; unfold out0_B_4; frame_open
    simp (disch := decide) only [View.readCov_unit_lit', View.read_writes_junk_eq_canon, View.canon_cons_unit_lit', View.ld_unit_lit', View.readAt_eq_ld, Memref.IsWhole.read_unread]

theorem outs5 (t : Fin cfg0.N) : (outsAt0 m c t.val t.isLt).2.1 = k0_pay9 (F := Ideal) (iblk m c 0 t) (iblk m c 1 t) (X0_2 m c t) (iblk m c 3 t) := by
  by_cases h0 : t.val % 16 = 0
  · rw [outsAt0_A m c t h0]; dsimp only; unfold out0_A_5; frame_open
    simp (disch := decide) only [View.readCov_unit_lit', View.read_writes_junk_eq_canon, View.canon_cons_unit_lit', View.ld_unit_lit', View.readAt_eq_ld, Memref.IsWhole.read_unread]
  · rw [outsAt0_B m c t h0]; dsimp only; unfold out0_B_5; frame_open
    simp (disch := decide) only [View.readCov_unit_lit', View.read_writes_junk_eq_canon, View.canon_cons_unit_lit', View.ld_unit_lit', View.readAt_eq_ld, Memref.IsWhole.read_unread]

/-- What point `t` adds to the gradient of the bias. -/
def dbTerm (t : Fin cfg0.N) : V S1x512 .f32 := fun y =>
  ∑ r : Fin 256, dcAt (arg2 m c (ix2 (row t r) (gateCol (col t (y 1))))) (arg3 m c (ix2 (row t r) (mixCol (col t (y 1)))))

theorem dbTerm_at (t : Fin cfg0.N) (B : V S1x512 .f32) (y : S1x512.Idx) :
    k0_pay2 (F := Ideal) (k0_pay7 (X0_2 m c t) (iblk m c 3 t)) B y = B y + dbTerm m c t y := by
  idx_vars y
  have e : k0_pay2 (F := Ideal) (k0_pay7 (X0_2 m c t) (iblk m c 3 t)) B (ix2 y0 y1)
      = B (ix2 y0 y1) + k0_pay7 (F := Ideal) (X0_2 m c t) (iblk m c 3 t) (ix2 y0 y1) := by
    pointwise [k0_pay2]
  rw [e]
  refine congrArg (B (ix2 y0 y1) + ·) ?_
  obtain rfl : y0 = 0 := Subsingleton.elim _ _
  refine (pay7_at _ _ y1).trans ?_
  exact Finset.sum_congr rfl fun r _ => congrArg₂ dcAt (blk2 m c t r y1) (blk3 m c t r y1)

theorem outs6_A (t : Fin cfg0.N) (h0 : t.val % 16 = 0) (y) : (outsAt0 m c t.val t.isLt).2.2 y = 0 + dbTerm m c t y := by
  rw [outsAt0_A m c t h0]; dsimp only; unfold out0_A_6; frame_open
  simp (disch := decide) only [View.readCov_unit_lit', View.read_writes_junk_eq_canon, View.canon_cons_unit_lit', View.ld_unit_lit', View.readAt_eq_ld, Memref.IsWhole.read_unread]
  refine (dbTerm_at m c t _ y).trans (congrArg (· + dbTerm m c t y) ?_)
  idx_vars y; pointwise [k0_pay1]

theorem outs6_B (t : Fin cfg0.N) (h0 : ¬t.val % 16 = 0) (y) : (outsAt0 m c t.val t.isLt).2.2 y
    = (outsAt0 m c (t.val - 1) (Nat.lt_of_le_of_lt (Nat.sub_le _ _) t.isLt)).2.2 y + dbTerm m c t y := by
  rw [outsAt0_B m c t h0]; dsimp only; unfold out0_B_6; frame_open
  simp (disch := decide) only [View.readCov_unit_lit', View.read_writes_junk_eq_canon, View.canon_cons_unit_lit', View.ld_unit_lit', View.readAt_eq_ld, Memref.IsWhole.read_unread]
  exact dbTerm_at m c t _ y

/-! ## The three results -/

theorem final4 : (dats m 0 c).arrAt 4 cfg0.N = dcOut (arg2 m c) (arg3 m c) := by
  refine (dats m 0 c).arrAt_eq_of_covers 4 _ (by decide +kernel) fun t hf y => ?_
  blk_simp
  rw [after0_4]
  have := points t
  idx_vars y
  have e : (win0_4.blk t).view.emb (ix2 y0 y1) = ix2 (row t y0) (col t y1) := by
    unfold row col; blk_ext [idx4]
  rw [e, outs4]
  exact (pay8_at _ _ y0 y1).trans (congrArg₂ dcAt (blk2 m c t y0 y1) (blk3 m c t y0 y1))

theorem final5 : (dats m 0 c).arrAt 5 cfg0.N = dgOut (arg0 m c) (arg1 m c) (arg2 m c) (arg3 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) (col t y1) := by
    unfold row col; blk_ext [idx5]
  rw [e, outs5]
  refine (pay9_at _ _ _ _ y0 y1).trans ?_
  unfold dgOut
  congr 1
  · exact congrArg₂ (fun a b : EReal => a + b) (blk1 m c t y0 y1) (blk0 m c t y1)
  · exact blk2 m c t y0 y1
  · exact blk3 m c t y0 y1

theorem final6 : (dats m 0 c).arrAt 6 cfg0.N = dbOut (arg2 m c) (arg3 m c) := by
  refine (dats m 0 c).arrAt_eq_of_covers 6 _ (by decide +kernel) fun t hf y => ?_
  blk_simp
  rw [after0_6]
  have hN := points t
  have hl := (flush0_6 t).mp hf
  idx_vars y
  have e : (win0_6.blk t).view.emb (ix2 y0 y1) = ix2 y0 (col t y1) := by unfold col; blk_ext [idx6]
  rw [e]
  refine (Pipeline.eq_sum_fin_of_reset_step_apply_of_flush (fun n h => (outsAt0 m c n h).2.2) 16 (fun _ => 0) (dbTerm m c) (outs6_A m c) (outs6_B m c) t hl (ix2 y0 y1)).trans ?_
  rw [zero_add]
  refine Fin.sum_mul_add_congr fun s k hk => ?_
  have hs := s.isLt
  have e1 : row (⟨16 * (t.val / 16) + s.val, lt_of_lt_of_eq (by omega) N_0.symm⟩ : Fin cfg0.N) k = ⟨s.val * 256 + k.val, hk⟩ := Fin.ext (by
    show (16 * (t.val / 16) + s.val) % 16 * 256 + k.val = s.val * 256 + k.val; omega)
  have e2 : col (⟨16 * (t.val / 16) + s.val, lt_of_lt_of_eq (by omega) N_0.symm⟩ : Fin cfg0.N) y1 = col t y1 := Fin.ext (by
    show (16 * (t.val / 16) + s.val) / 16 * 512 + y1.val = t.val / 16 * 512 + y1.val; omega)
  show dcAt (arg2 m c (ix2 (row _ k) (gateCol (col _ y1)))) (arg3 m c (ix2 (row _ k) (mixCol (col _ y1)))) = _
  rw [e1, e2]; rfl

/-! ## The claims -/

theorem values : Cert.algebraic_Kernel11Ideal_Reference11Ideal := by
  intro m ρ m' ρ' _ hagree
  refine ⟨fun c => dcOut (arg2 m c) (arg3 m c), fun c => dgOut (arg0 m c) (arg1 m c) (arg2 m c) (arg3 m c), fun c => dbOut (arg2 m c) (arg3 m c), ?_, ?_⟩
  · refine (θ_run _ _ _).mono (fun r h c => ?_) (Cert.Kernel11Ideal.Value.run_blocks m ρ)
    obtain ⟨h0, h1, h2, hk⟩ := h c
    exact ⟨h0.trans (final4 m c), h1.trans (final5 m c), h2.trans (final6 m c), hk⟩
  · refine (θ_run _ _ _).mono (fun r h c => ?_) (Cert.Reference11Ideal.Value.run m' ρ')
    obtain ⟨h0, h1, h2, hk⟩ := h c
    obtain ⟨e0, e1, e2, e3⟩ := hagree c
    refine ⟨h0.trans ?_, h1.trans ?_, h2.trans ?_, hk⟩ <;> clear h h0 h1 h2 hk
    · rw [e2, e3]
      funext j; idx_vars j; pointwise [dcOut, dcAt, sg, gateCol, mixCol]; simp only [zero_sub]
    · rw [e0, e1, e2, e3]
      funext j; idx_vars j; pointwise [dgOut, dgAt, sg, gateCol, mixCol]; simp only [zero_sub]
    · rw [e2, e3]
      funext j; idx_vars j; pointwise [dbOut, dcAt, sg, gateCol, mixCol]; simp only [zero_sub, Fin.sum_univ_one]

theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

end Cert.ConvGate
-- ==== Proof.ConvNorm.lean ====
module

public import proofs.«01_k».proof.Defs
public import proofs.«01_k».proof.Proof.Gen.Kernel12Ideal.Value
public import proofs.«01_k».proof.Proof.Gen.Reference12Ideal.Run
public import proofs.«01_k».proof.Proof.Silu
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The backward pass of the layer norm after the convolution and of `z * s z` after it. -/

@[expose] public section

set_option maxRecDepth 16384

noncomputable section

namespace Cert.ConvNorm

open Idealize.ShloMosaic Idealize.ShloMosaic.TcCoe Idealize.ShloMosaic.Tactic Idealize.ShloMosaic.ValueKit Idealize.SL.Sem
open Cert.Silu Cert.Kernel12Ideal Cert.Kernel12Ideal.Gen

/-- An array at the ideal instance. -/
abbrev V (S : Shape) (e : EltTy) := Vec Ideal S e

/-! ## The gradient, row by row -/

/-- A row. -/
abbrev Row := Fin 2048 → Ideal .f32

/-- The row's width as the programs write it. -/
abbrev width : Ideal .f32 := Ideal.ofBits .f32 0x45000000#32

/-- The row's mean, the distance from it, and the variance with the small constant. -/
def mean (u : Row) : Ideal .f32 := Ideal.div (∑ q, u q) width
def dev (u : Row) (q : Fin 2048) : Ideal .f32 := u q - mean u
def vr (u : Row) : Ideal .f32 := Ideal.div (∑ q, dev u q * dev u q) width + Ideal.ofBits .f32 0x3727C5AC#32

/-- The normed row, without and with its weights and biases. -/
def nrm (u : Row) (q : Fin 2048) : Ideal .f32 := dev u q * Ideal.rsqrt (vr u)
def pre (g b u : Row) (q : Fin 2048) : Ideal .f32 := nrm u q * g q + b q

/-- The gradient of the normed row, as the logistic function's own rule gives it. -/
def dpre (g b u d : Row) (q : Fin 2048) : Ideal .f32 :=
  d q * sg (pre g b u q) + pre g b u q * d q * (sg (pre g b u q) * (1 - sg (pre g b u q)))

/-- The same, as the quotient's rule gives it. -/
def dpreQ (g b u d : Row) (q : Fin 2048) : Ideal .f32 :=
  d q * sg (pre g b u q) + (0 - (0 - pre g b u q * d q * Ideal.div 1 ((1 + Ideal.exp (0 - pre g b u q)) * (1 + Ideal.exp (0 - pre g b u q)))) * Ideal.exp (0 - pre g b u q))

theorem dpreQ_eq (g b u d : Row) : dpreQ g b u d = dpre g b u d := funext fun q => grad (pre g b u q) (d q)

/-- What each element of the row carries through the variance, from the gradient `p` of the normed row. -/
def back (g u p : Row) : Ideal .f32 :=
  ∑ _x : Fin 1, Ideal.div ((∑ q, dev u q * (p q * g q)) * (Ideal.ofBits .f32 0xBF000000#32 * Ideal.div (Ideal.rsqrt (vr u)) (vr u))) width

/-- The gradient of the distance from the mean, and that of the row. -/
def ddev (g u p : Row) (q : Fin 2048) : Ideal .f32 := p q * g q * Ideal.rsqrt (vr u) + dev u q * back g u p + back g u p * dev u q
def duRow (g u p : Row) (q : Fin 2048) : Ideal .f32 := ddev g u p q + ∑ _x : Fin 1, Ideal.div (∑ q, (0 - ddev g u p q)) width

theorem two_eq : Ideal.ofBits .f32 0x40000000#32 = ((2 : ℝ) : EReal) := by simp [Ideal.ofBits, Ideal.ieee, -EReal.coe_mul]; norm_num

theorem two_mul' (z : EReal) : ((2 : ℝ) : EReal) * z = z + z := by
  induction z with
  | bot => rw [EReal.coe_mul_bot_of_pos (by norm_num)]; rfl
  | top => rw [EReal.coe_mul_top_of_pos (by norm_num)]; rfl
  | coe x => rw [← EReal.coe_mul, ← EReal.coe_add, two_mul]

/-- Twice a factor, split over the product's two factors. -/
theorem twice (a k x : EReal) : a + k * (Ideal.ofBits .f32 0x40000000#32 * x) = a + x * k + k * x := by
  rw [two_eq, mul_left_comm, two_mul', ← add_assoc, mul_comm x k]

/-- An array of one axis as a row, and row `p` of an array. -/
def vec (G : V S2048 .f32) : Row := fun q => G (ix1 q)
def arrRow (X : V S4096x2048 .f32) (p : Fin 4096) : Row := fun q => X (ix2 p q)

/-- The three results over the whole arrays. -/
def duOut (G B : V S2048 .f32) (U D : V S4096x2048 .f32) : V S4096x2048 .f32 := fun j =>
  duRow (vec G) (arrRow U (j 0)) (dpre (vec G) (vec B) (arrRow U (j 0)) (arrRow D (j 0))) (j 1)
def dgOut (G B : V S2048 .f32) (U D : V S4096x2048 .f32) : V S1x2048 .f32 := fun j =>
  ∑ p : Fin 4096, nrm (arrRow U p) (j 1) * dpre (vec G) (vec B) (arrRow U p) (arrRow D p) (j 1)
def dbOut (G B : V S2048 .f32) (U D : V S4096x2048 .f32) : V S1x2048 .f32 := fun j =>
  ∑ p : Fin 4096, dpre (vec G) (vec B) (arrRow U p) (arrRow D p) (j 1)

variable (m : (ℓ : Loc nD τ sig) → Buf (Elt Ideal) ℓ) (c : Dev nD)

/-- The arguments as launched. -/
abbrev arg0 : V S2048 .f32 := m ((c : Thread nD τ).loc main_arg0)
abbrev arg1 : V S2048 .f32 := m ((c : Thread nD τ).loc main_arg1)
abbrev arg2 : V S4096x2048 .f32 := m ((c : Thread nD τ).loc main_arg2)
abbrev arg3 : V S4096x2048 .f32 := m ((c : Thread nD τ).loc main_arg3)

/-! ## The blocks of a grid point -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem points (t : Fin cfg0.N) : t.val < 16 := lt_of_lt_of_eq t.isLt N_0

/-- Row `r` of the block of rows that point `t` works on. -/
def row (t : Fin cfg0.N) (r : Fin 256) : Fin 4096 := ⟨t.val * 256 + r.val, by have := points t; omega⟩

theorem entry0 : Gen.V m c main_v0 = shapeCast S1x2048 (arg0 m c) shapeCasts_S2048_S1x2048 := by
  unfold Gen.V hostOps0; after_results_simp; rfl

theorem blk0 (t : Fin cfg0.N) (q : Fin 2048) : (show V S1x2048 .f32 from iblk m c 0 t) (ix2 0 q) = vec (arg0 m c) q := by
  blk_simp [iblk]
  rw [entry0]
  have e : (win0_0.blk t).view.emb (ix2 0 q) = ix2 0 q := by blk_ext [idx0]
  rw [e]
  pointwise [vec]

theorem entry1 : Gen.V m c main_v1 = shapeCast S1x2048 (arg1 m c) shapeCasts_S2048_S1x2048 := by
  unfold Gen.V hostOps0; after_results_simp; rfl

theorem blk1 (t : Fin cfg0.N) (q : Fin 2048) : (show V S1x2048 .f32 from iblk m c 1 t) (ix2 0 q) = vec (arg1 m c) q := by
  blk_simp [iblk]
  rw [entry1]
  have e : (win0_1.blk t).view.emb (ix2 0 q) = ix2 0 q := by blk_ext [idx1]
  rw [e]
  pointwise [vec]

theorem blk2 (t : Fin cfg0.N) (r : Fin 256) (q : Fin 2048) : (show V S256x2048 .f32 from iblk m c 2 t) (ix2 r q) = arrRow (arg2 m c) (row t r) q := by
  have := points t
  blk_simp [iblk]
  rw [V_main_arg2]
  refine congrArg (arg2 m c) ?_
  unfold row
  blk_ext [idx2]

theorem blk3 (t : Fin cfg0.N) (r : Fin 256) (q : Fin 2048) : (show V S256x2048 .f32 from iblk m c 3 t) (ix2 r q) = arrRow (arg3 m c) (row t r) q := by
  have := points t
  blk_simp [iblk]
  rw [V_main_arg3]
  refine congrArg (arg3 m c) ?_
  unfold row
  blk_ext [idx3]

/-! ## What a point computes -/

theorem pay20_at (g b : V S1x2048 .f32) (u d : V S256x2048 .f32) (r : Fin 256) (q : Fin 2048) :
    k0_pay20 (F := Ideal) (k0_pay5 g) d (k0_pay6 u) (k0_pay8 u) (k0_pay9 u) (k0_pay12 g b u) (k0_pay14 g b u) (k0_pay15 g b u) (k0_pay16 g b u d) (ix2 r q)
      = duRow (fun q => g (ix2 0 q)) (fun q => u (ix2 r q)) (dpre (fun q => g (ix2 0 q)) (fun q => b (ix2 0 q)) (fun q => u (ix2 r q)) (fun q => d (ix2 r q))) q := by
  rw [← dpreQ_eq]
  pointwise [k0_pay20, k0_pay5, k0_pay6, k0_pay7, k0_pay8, k0_pay9, k0_pay10, k0_pay11, k0_pay12, k0_pay13, k0_pay14, k0_pay15, k0_pay16, k0_pay17, k0_pay18, k0_pay19, duRow, ddev, back, dpreQ, pre, nrm, vr, dev, mean, sg]

theorem pay19_at (g b : V S1x2048 .f32) (u d : V S256x2048 .f32) (q : Fin 2048) :
    k0_pay19 (F := Ideal) d (k0_pay10 u) (k0_pay12 g b u) (k0_pay14 g b u) (k0_pay15 g b u) (k0_pay16 g b u d) (ix2 0 q)
      = ∑ r : Fin 256, nrm (fun q => u (ix2 r q)) q * dpre (fun q => g (ix2 0 q)) (fun q => b (ix2 0 q)) (fun q => u (ix2 r q)) (fun q => d (ix2 r q)) q := by
  simp only [← dpreQ_eq]
  pointwise [k0_pay5, k0_pay6, k0_pay7, k0_pay8, k0_pay9, k0_pay10, k0_pay11, k0_pay12, k0_pay13, k0_pay14, k0_pay15, k0_pay16, k0_pay17, k0_pay18, k0_pay19, dpreQ, pre, nrm, vr, dev, mean, sg]

theorem pay18_at (g b : V S1x2048 .f32) (u d : V S256x2048 .f32) (q : Fin 2048) :
    k0_pay18 (F := Ideal) d (k0_pay12 g b u) (k0_pay14 g b u) (k0_pay15 g b u) (k0_pay16 g b u d) (ix2 0 q)
      = ∑ r : Fin 256, dpre (fun q => g (ix2 0 q)) (fun q => b (ix2 0 q)) (fun q => u (ix2 r q)) (fun q => d (ix2 r q)) q := by
  simp only [← dpreQ_eq]
  pointwise [k0_pay5, k0_pay6, k0_pay7, k0_pay8, k0_pay9, k0_pay10, k0_pay11, k0_pay12, k0_pay13, k0_pay14, k0_pay15, k0_pay16, k0_pay17, k0_pay18, k0_pay19, dpreQ, pre, nrm, vr, dev, mean, sg]

theorem outs4 (t : Fin cfg0.N) : (outsAt0 m c t.val t.isLt).1 = k0_pay20 (F := Ideal) (k0_pay5 (iblk m c 0 t)) (iblk m c 3 t) (k0_pay6 (iblk m c 2 t)) (k0_pay8 (iblk m c 2 t)) (k0_pay9 (iblk m c 2 t)) (k0_pay12 (iblk m c 0 t) (iblk m c 1 t) (iblk m c 2 t)) (k0_pay14 (iblk m c 0 t) (iblk m c 1 t) (iblk m c 2 t)) (k0_pay15 (iblk m c 0 t) (iblk m c 1 t) (iblk m c 2 t)) (k0_pay16 (iblk m c 0 t) (iblk m c 1 t) (iblk m c 2 t) (iblk m c 3 t)) := by
  by_cases h0 : t.val % 16 = 0
  · rw [outsAt0_A m c t h0 h0]; dsimp only; unfold out0_A_4; frame_open
    simp (disch := decide) only [View.readCov_unit_lit', View.read_writes_junk_eq_canon, View.canon_cons_unit_lit', View.ld_unit_lit', View.readAt_eq_ld, Memref.IsWhole.read_unread]
  · rw [outsAt0_B m c t h0 h0]; dsimp only; unfold out0_B_4; frame_open
    simp (disch := decide) only [View.readCov_unit_lit', View.read_writes_junk_eq_canon, View.canon_cons_unit_lit', View.ld_unit_lit', View.readAt_eq_ld, Memref.IsWhole.read_unread]

/-- What point `t` adds to the gradients of the weights and of the biases. -/
def dgTerm (t : Fin cfg0.N) : V S1x2048 .f32 := fun y => ∑ r : Fin 256, nrm (arrRow (arg2 m c) (row t r)) (y 1) * dpre (vec (arg0 m c)) (vec (arg1 m c)) (arrRow (arg2 m c) (row t r)) (arrRow (arg3 m c) (row t r)) (y 1)
def dbTerm (t : Fin cfg0.N) : V S1x2048 .f32 := fun y => ∑ r : Fin 256, dpre (vec (arg0 m c)) (vec (arg1 m c)) (arrRow (arg2 m c) (row t r)) (arrRow (arg3 m c) (row t r)) (y 1)

/-- The blocks' rows are the arguments'. -/
theorem rows (t : Fin cfg0.N) (r : Fin 256) {α : Type} (f : Row → Row → Row → Row → α) :
    f (fun q => (show V S1x2048 .f32 from iblk m c 0 t) (ix2 0 q)) (fun q => (show V S1x2048 .f32 from iblk m c 1 t) (ix2 0 q))
        (fun q => (show V S256x2048 .f32 from iblk m c 2 t) (ix2 r q)) (fun q => (show V S256x2048 .f32 from iblk m c 3 t) (ix2 r q))
      = f (vec (arg0 m c)) (vec (arg1 m c)) (arrRow (arg2 m c) (row t r)) (arrRow (arg3 m c) (row t r)) := by
  congr 1 <;> funext q
  · exact blk0 m c t q
  · exact blk1 m c t q
  · exact blk2 m c t r q
  · exact blk3 m c t r q

theorem dgTerm_at (t : Fin cfg0.N) (B : V S1x2048 .f32) (y : S1x2048.Idx) :
    k0_pay2 (F := Ideal) (k0_pay19 (iblk m c 3 t) (k0_pay10 (iblk m c 2 t)) (k0_pay12 (iblk m c 0 t) (iblk m c 1 t) (iblk m c 2 t)) (k0_pay14 (iblk m c 0 t) (iblk m c 1 t) (iblk m c 2 t)) (k0_pay15 (iblk m c 0 t) (iblk m c 1 t) (iblk m c 2 t)) (k0_pay16 (iblk m c 0 t) (iblk m c 1 t) (iblk m c 2 t) (iblk m c 3 t))) B y = B y + dgTerm m c t y := by
  idx_vars y
  have e : ∀ A : V S1x2048 .f32, k0_pay2 (F := Ideal) A B (ix2 y0 y1) = B (ix2 y0 y1) + A (ix2 y0 y1) := fun A => by
    pointwise [k0_pay2]
  rw [e]
  refine congrArg (B (ix2 y0 y1) + ·) ?_
  obtain rfl : y0 = 0 := Subsingleton.elim _ _
  refine (pay19_at _ _ _ _ y1).trans ?_
  exact Finset.sum_congr rfl fun r _ => rows m c t r fun g b u d => nrm u y1 * dpre g b u d y1

theorem dbTerm_at (t : Fin cfg0.N) (B : V S1x2048 .f32) (y : S1x2048.Idx) :
    k0_pay4 (F := Ideal) (k0_pay18 (iblk m c 3 t) (k0_pay12 (iblk m c 0 t) (iblk m c 1 t) (iblk m c 2 t)) (k0_pay14 (iblk m c 0 t) (iblk m c 1 t) (iblk m c 2 t)) (k0_pay15 (iblk m c 0 t) (iblk m c 1 t) (iblk m c 2 t)) (k0_pay16 (iblk m c 0 t) (iblk m c 1 t) (iblk m c 2 t) (iblk m c 3 t))) B y = B y + dbTerm m c t y := by
  idx_vars y
  have e : ∀ A : V S1x2048 .f32, k0_pay4 (F := Ideal) A B (ix2 y0 y1) = B (ix2 y0 y1) + A (ix2 y0 y1) := fun A => by
    pointwise [k0_pay4]
  rw [e]
  refine congrArg (B (ix2 y0 y1) + ·) ?_
  obtain rfl : y0 = 0 := Subsingleton.elim _ _
  refine (pay18_at _ _ _ _ y1).trans ?_
  exact Finset.sum_congr rfl fun r _ => rows m c t r fun g b u d => dpre g b u d y1

theorem outs5_A (t : Fin cfg0.N) (h0 : t.val % 16 = 0) (y) : (outsAt0 m c t.val t.isLt).2.1 y = 0 + dgTerm m c t y := by
  rw [outsAt0_A m c t h0 h0]; dsimp only; unfold out0_A_5; frame_open
  simp (disch := decide) only [View.readCov_unit_lit', View.read_writes_junk_eq_canon, View.canon_cons_unit_lit', View.ld_unit_lit', View.readAt_eq_ld, Memref.IsWhole.read_unread]
  refine (dgTerm_at m c t _ y).trans (congrArg (· + dgTerm m c t y) ?_)
  idx_vars y; pointwise [k0_pay1]

theorem outs5_B (t : Fin cfg0.N) (h0 : ¬t.val % 16 = 0) (y) : (outsAt0 m c t.val t.isLt).2.1 y
    = (outsAt0 m c (t.val - 1) (Nat.lt_of_le_of_lt (Nat.sub_le _ _) t.isLt)).2.1 y + dgTerm m c t y := by
  rw [outsAt0_B m c t h0 h0]; dsimp only; unfold out0_B_5; frame_open
  simp (disch := decide) only [View.readCov_unit_lit', View.read_writes_junk_eq_canon, View.canon_cons_unit_lit', View.ld_unit_lit', View.readAt_eq_ld, Memref.IsWhole.read_unread]
  exact dgTerm_at m c t _ y

theorem outs6_A (t : Fin cfg0.N) (h0 : t.val % 16 = 0) (y) : (outsAt0 m c t.val t.isLt).2.2 y = 0 + dbTerm m c t y := by
  rw [outsAt0_A m c t h0 h0]; dsimp only; unfold out0_A_6; frame_open
  simp (disch := decide) only [View.readCov_unit_lit', View.read_writes_junk_eq_canon, View.canon_cons_unit_lit', View.ld_unit_lit', View.readAt_eq_ld, Memref.IsWhole.read_unread]
  refine (dbTerm_at m c t _ y).trans (congrArg (· + dbTerm m c t y) ?_)
  idx_vars y; pointwise [k0_pay3]

theorem outs6_B (t : Fin cfg0.N) (h0 : ¬t.val % 16 = 0) (y) : (outsAt0 m c t.val t.isLt).2.2 y
    = (outsAt0 m c (t.val - 1) (Nat.lt_of_le_of_lt (Nat.sub_le _ _) t.isLt)).2.2 y + dbTerm m c t y := by
  rw [outsAt0_B m c t h0 h0]; dsimp only; unfold out0_B_6; frame_open
  simp (disch := decide) only [View.readCov_unit_lit', View.read_writes_junk_eq_canon, View.canon_cons_unit_lit', View.ld_unit_lit', View.readAt_eq_ld, Memref.IsWhole.read_unread]
  exact dbTerm_at m c t _ y

/-! ## The three results -/

theorem final4 : (dats m 0 c).arrAt 4 cfg0.N = duOut (arg0 m c) (arg1 m c) (arg2 m c) (arg3 m c) := by
  refine (dats m 0 c).arrAt_eq_of_covers 4 _ (by decide +kernel) fun t hf y => ?_
  blk_simp
  rw [after0_4]
  have := points t
  idx_vars y
  have e : (win0_4.blk t).view.emb (ix2 y0 y1) = ix2 (row t y0) y1 := by
    unfold row; blk_ext [idx4]
  rw [e, outs4]
  exact (pay20_at _ _ _ _ y0 y1).trans (rows m c t y0 fun g b u d => duRow g u (dpre g b u d) y1)

theorem final5 : (dats m 0 c).arrAt 5 cfg0.N = dgOut (arg0 m c) (arg1 m c) (arg2 m c) (arg3 m c) := by
  refine (dats m 0 c).arrAt_eq_of_covers 5 _ (by decide +kernel) fun t hf y => ?_
  blk_simp
  rw [after0_5]
  have hN := points t
  idx_vars y
  have e : (win0_5.blk t).view.emb (ix2 y0 y1) = ix2 y0 y1 := by blk_ext [idx5]
  rw [e]
  refine (Pipeline.eq_sum_fin_of_reset_step_apply_of_flush (fun n h => (outsAt0 m c n h).2.1) 16 (fun _ => 0) (dgTerm m c) (outs5_A m c) (outs5_B m c) t ((flush0_5 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show (16 * (t.val / 16) + s.val) * 256 + k.val = s.val * 256 + k.val; have := s.isLt; omega)
  show nrm (arrRow (arg2 m c) (row _ k)) y1 * dpre (vec (arg0 m c)) (vec (arg1 m c)) (arrRow (arg2 m c) (row _ k)) (arrRow (arg3 m c) (row _ k)) y1 = _
  rw [e1]; rfl

theorem final6 : (dats m 0 c).arrAt 6 cfg0.N = dbOut (arg0 m c) (arg1 m c) (arg2 m c) (arg3 m c) := by
  refine (dats m 0 c).arrAt_eq_of_covers 6 _ (by decide +kernel) fun t hf y => ?_
  blk_simp
  rw [after0_6]
  have hN := points t
  idx_vars y
  have e : (win0_6.blk t).view.emb (ix2 y0 y1) = ix2 y0 y1 := by blk_ext [idx6]
  rw [e]
  refine (Pipeline.eq_sum_fin_of_reset_step_apply_of_flush (fun n h => (outsAt0 m c n h).2.2) 16 (fun _ => 0) (dbTerm m c) (outs6_A m c) (outs6_B m c) t ((flush0_6 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show (16 * (t.val / 16) + s.val) * 256 + k.val = s.val * 256 + k.val; have := s.isLt; omega)
  show dpre (vec (arg0 m c)) (vec (arg1 m c)) (arrRow (arg2 m c) (row _ k)) (arrRow (arg3 m c) (row _ k)) y1 = _
  rw [e1]; rfl

/-! ## The claims -/

theorem values : Cert.algebraic_Kernel12Ideal_Reference12Ideal := by
  intro m ρ m' ρ' _ hagree
  refine ⟨fun c => duOut (arg0 m c) (arg1 m c) (arg2 m c) (arg3 m c), fun c => dgOut (arg0 m c) (arg1 m c) (arg2 m c) (arg3 m c), fun c => dbOut (arg0 m c) (arg1 m c) (arg2 m c) (arg3 m c), ?_, ?_⟩
  · refine (θ_run _ _ _).mono (fun r h c => ?_) (Cert.Kernel12Ideal.Value.run_blocks m ρ)
    obtain ⟨h0, h1, h2, hk⟩ := h c
    exact ⟨h0.trans (final4 m c), h1.trans (final5 m c), h2.trans (final6 m c), hk⟩
  · refine (θ_run _ _ _).mono (fun r h c => ?_) (Cert.Reference12Ideal.Value.run m' ρ')
    obtain ⟨h0, h1, h2, hk⟩ := h c
    obtain ⟨e0, e1, e2, e3⟩ := hagree c
    refine ⟨h0.trans ?_, h1.trans ?_, h2.trans ?_, hk⟩ <;> clear h h0 h1 h2 hk
    · unfold Cert.Reference12Ideal.Value.res_main_v57
      rw [e0, e1, e2, e3]
      funext j; idx_vars j; pointwise [duOut, duRow, ddev, back, dpre, pre, nrm, vr, dev, mean, sg, vec, arrRow]
      simp only [zero_sub, twice]
    · unfold Cert.Reference12Ideal.Value.res_main_v58
      rw [e0, e1, e2, e3]
      funext j; idx_vars j; pointwise [dgOut, dpre, pre, nrm, vr, dev, mean, sg, vec, arrRow]
      simp only [zero_sub, Fin.sum_univ_one]
    · unfold Cert.Reference12Ideal.Value.res_main_v59
      rw [e0, e1, e2, e3]
      funext j; idx_vars j; pointwise [dbOut, dpre, pre, nrm, vr, dev, mean, sg, vec, arrRow]
      simp only [zero_sub, Fin.sum_univ_one]

theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

end Cert.ConvNorm
-- ==== Proof.RmsPre.lean ====
module

public import proofs.«01_k».proof.Defs
public import proofs.«01_k».proof.Proof.Gen.Kernel13Ideal.Value
public import proofs.«01_k».proof.Proof.Gen.Reference13Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The backward pass of the norm before the input projection, with the residual's gradient added. -/

@[expose] public section

set_option maxRecDepth 16384

noncomputable section

namespace Cert.RmsPre

open Idealize.ShloMosaic Idealize.ShloMosaic.TcCoe Idealize.ShloMosaic.Tactic Idealize.ShloMosaic.ValueKit Idealize.SL.Sem
open Cert.Kernel13Ideal Cert.Kernel13Ideal.Gen

/-- An array at the ideal instance. -/
abbrev V (S : Shape) (e : EltTy) := Vec Ideal S e

/-! ## The norm's gradient, row by row -/

/-- A row. -/
abbrev Row := Fin 4096 → Ideal .f32

/-- The row's width as the programs write it. -/
abbrev width : Ideal .f32 := Ideal.ofBits .f32 0x45800000#32

/-- The mean of the row's squares and the small constant. -/
def ms (u : Row) : Ideal .f32 := Ideal.div (∑ q, u q * u q) width + Ideal.ofBits .f32 0x358637BD#32

/-- What each element of the row carries through the mean of the squares. -/
def back (g u d : Row) : Ideal .f32 :=
  ∑ _x : Fin 1, Ideal.div ((∑ q, u q * (d q * g q)) * (Ideal.ofBits .f32 0xBF000000#32 * Ideal.div (Ideal.rsqrt (ms u)) (ms u))) width

/-- The gradient of the row, with the residual's gradient `y` added. -/
def dxRow (g u d y : Row) (q : Fin 4096) : Ideal .f32 :=
  d q * g q * Ideal.rsqrt (ms u) + u q * back g u d + back g u d * u q + y q

/-- The row's part of the gradient of the norm's weights. -/
def dgRow (u d : Row) (q : Fin 4096) : Ideal .f32 := u q * Ideal.rsqrt (ms u) * d q

/-- An array of one axis as a row. -/
def vec (G : V S4096 .f32) : Row := fun q => G (ix1 q)

/-- The two results over the whole arrays. -/
def dxOut (G : V S4096 .f32) (X : V S4096x4096 .f32) (D : V S4096x4096 .bf16) (Y : V S4096x4096 .f32) : V S4096x4096 .f32 := fun j =>
  dxRow (vec G) (fun q => X (ix2 (j 0) q)) (fun q => D (ix2 (j 0) q)) (fun q => Y (ix2 (j 0) q)) (j 1)
def dgOut (X : V S4096x4096 .f32) (D : V S4096x4096 .bf16) : V S1x4096 .f32 := fun j =>
  ∑ p : Fin 4096, dgRow (fun q => X (ix2 p q)) (fun q => D (ix2 p q)) (j 1)

variable (m : (ℓ : Loc nD τ sig) → Buf (Elt Ideal) ℓ) (c : Dev nD)

/-- The arguments as launched. -/
abbrev arg0 : V S4096 .f32 := m ((c : Thread nD τ).loc main_arg0)
abbrev arg1 : V S4096x4096 .f32 := m ((c : Thread nD τ).loc main_arg1)
abbrev arg2 : V S4096x4096 .bf16 := m ((c : Thread nD τ).loc main_arg2)
abbrev arg3 : V S4096x4096 .f32 := m ((c : Thread nD τ).loc main_arg3)

/-! ## The blocks of a grid point -/

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

theorem points (t : Fin cfg0.N) : t.val < 32 := lt_of_lt_of_eq t.isLt N_0

/-- Row `r` of the block of rows that point `t` works on. -/
def row (t : Fin cfg0.N) (r : Fin 128) : Fin 4096 := ⟨t.val * 128 + r.val, by have := points t; omega⟩

theorem g_entry : Gen.V m c main_v0 = shapeCast S1x4096 (arg0 m c) shapeCasts_S4096_S1x4096 := by
  unfold Gen.V hostOps0; after_results_simp; rfl

theorem blk0 (t : Fin cfg0.N) (q : Fin 4096) : (show V S1x4096 .f32 from iblk m c 0 t) (ix2 0 q) = vec (arg0 m c) q := by
  blk_simp [iblk]
  rw [g_entry]
  have e : (win0_0.blk t).view.emb (ix2 0 q) = ix2 0 q := by blk_ext [idx0]
  rw [e]
  pointwise [vec]

theorem blk1 (t : Fin cfg0.N) (r : Fin 128) (q : Fin 4096) : (show V S128x4096 .f32 from iblk m c 1 t) (ix2 r q) = arg1 m c (ix2 (row t r) q) := by
  have := points t
  blk_simp [iblk]
  rw [V_main_arg1]
  refine congrArg (arg1 m c) ?_
  unfold row
  blk_ext [idx1]

theorem blk2 (t : Fin cfg0.N) (r : Fin 128) (q : Fin 4096) : (show V S128x4096 .bf16 from iblk m c 2 t) (ix2 r q) = arg2 m c (ix2 (row t r) q) := by
  have := points t
  blk_simp [iblk]
  rw [V_main_arg2]
  refine congrArg (arg2 m c) ?_
  unfold row
  blk_ext [idx2]

theorem blk3 (t : Fin cfg0.N) (r : Fin 128) (q : Fin 4096) : (show V S128x4096 .f32 from iblk m c 3 t) (ix2 r q) = arg3 m c (ix2 (row t r) q) := by
  have := points t
  blk_simp [iblk]
  rw [V_main_arg3]
  refine congrArg (arg3 m c) ?_
  unfold row
  blk_ext [idx3]

/-! ## What a point computes -/

theorem pay7_at (g : V S1x4096 .f32) (x : V S128x4096 .f32) (d : V S128x4096 .bf16) (y : V S128x4096 .f32) (r : Fin 128) (q : Fin 4096) :
    k0_pay7 (F := Ideal) g x d y (ix2 r q)
      = dxRow (fun q => g (ix2 0 q)) (fun q => x (ix2 r q)) (fun q => d (ix2 r q)) (fun q => y (ix2 r q)) q := by
  pointwise [k0_pay7, k0_pay5, k0_pay4, k0_pay3, dxRow, back, ms]

theorem pay6_at (x : V S128x4096 .f32) (d : V S128x4096 .bf16) (q : Fin 4096) :
    k0_pay6 (F := Ideal) x d (ix2 0 q) = ∑ r : Fin 128, dgRow (fun q => x (ix2 r q)) (fun q => d (ix2 r q)) q := by
  pointwise [k0_pay6, k0_pay5, k0_pay4, k0_pay3, dgRow, ms]

theorem outs4 (t : Fin cfg0.N) : (outsAt0 m c t.val t.isLt).1 = k0_pay7 (F := Ideal) (iblk m c 0 t) (iblk m c 1 t) (iblk m c 2 t) (iblk m c 3 t) := by
  by_cases h0 : t.val % 32 = 0
  · rw [outsAt0_A m c t h0]; dsimp only; unfold out0_A_4; frame_open
    simp (disch := decide) only [View.readCov_unit_lit', View.read_writes_junk_eq_canon, View.canon_cons_unit_lit', View.ld_unit_lit', View.readAt_eq_ld, Memref.IsWhole.read_unread]
  · rw [outsAt0_B m c t h0]; dsimp only; unfold out0_B_4; frame_open
    simp (disch := decide) only [View.readCov_unit_lit', View.read_writes_junk_eq_canon, View.canon_cons_unit_lit', View.ld_unit_lit', View.readAt_eq_ld, Memref.IsWhole.read_unread]

/-- What point `t` adds to the gradient of the norm's weights. -/
def dgTerm (t : Fin cfg0.N) : V S1x4096 .f32 := fun y =>
  ∑ r : Fin 128, dgRow (fun q => arg1 m c (ix2 (row t r) q)) (fun q => arg2 m c (ix2 (row t r) q)) (y 1)

theorem dgTerm_at (t : Fin cfg0.N) (B : V S1x4096 .f32) (y : S1x4096.Idx) :
    k0_pay2 (F := Ideal) (k0_pay6 (iblk m c 1 t) (iblk m c 2 t)) B y = B y + dgTerm m c t y := by
  idx_vars y
  have e : k0_pay2 (F := Ideal) (k0_pay6 (iblk m c 1 t) (iblk m c 2 t)) B (ix2 y0 y1)
      = B (ix2 y0 y1) + k0_pay6 (F := Ideal) (iblk m c 1 t) (iblk m c 2 t) (ix2 y0 y1) := by
    pointwise [k0_pay2]
  rw [e]
  refine congrArg (B (ix2 y0 y1) + ·) ?_
  obtain rfl : y0 = 0 := Subsingleton.elim _ _
  refine (pay6_at _ _ y1).trans ?_
  refine Finset.sum_congr rfl fun r _ => ?_
  refine congrArg₂ (fun a b => dgRow a b y1) ?_ ?_
  · funext q; exact blk1 m c t r q
  · funext q; exact blk2 m c t r q

theorem outs5_A (t : Fin cfg0.N) (h0 : t.val % 32 = 0) (y) : (outsAt0 m c t.val t.isLt).2 y = 0 + dgTerm m c t y := by
  rw [outsAt0_A m c t h0]; dsimp only; unfold out0_A_5; frame_open
  simp (disch := decide) only [View.readCov_unit_lit', View.read_writes_junk_eq_canon, View.canon_cons_unit_lit', View.ld_unit_lit', View.readAt_eq_ld, Memref.IsWhole.read_unread]
  refine (dgTerm_at m c t _ y).trans (congrArg (· + dgTerm m c t y) ?_)
  idx_vars y; pointwise [k0_pay1]

theorem outs5_B (t : Fin cfg0.N) (h0 : ¬t.val % 32 = 0) (y) : (outsAt0 m c t.val t.isLt).2 y
    = (outsAt0 m c (t.val - 1) (Nat.lt_of_le_of_lt (Nat.sub_le _ _) t.isLt)).2 y + dgTerm m c t y := by
  rw [outsAt0_B m c t h0]; dsimp only; unfold out0_B_5; frame_open
  simp (disch := decide) only [View.readCov_unit_lit', View.read_writes_junk_eq_canon, View.canon_cons_unit_lit', View.ld_unit_lit', View.readAt_eq_ld, Memref.IsWhole.read_unread]
  exact dgTerm_at m c t _ y

/-! ## The two results -/

theorem final4 : (dats m 0 c).arrAt 4 cfg0.N = dxOut (arg0 m c) (arg1 m c) (arg2 m c) (arg3 m c) := by
  refine (dats m 0 c).arrAt_eq_of_covers 4 _ (by decide +kernel) fun t hf y => ?_
  blk_simp
  rw [after0_4]
  have := points t
  idx_vars y
  have e : (win0_4.blk t).view.emb (ix2 y0 y1) = ix2 (row t y0) y1 := by
    unfold row; blk_ext [idx4]
  rw [e, outs4]
  refine (pay7_at _ _ _ _ y0 y1).trans ?_
  unfold dxOut
  congr 1 <;> funext q
  · exact blk0 m c t q
  · exact blk1 m c t y0 q
  · exact blk2 m c t y0 q
  · exact blk3 m c t y0 q

theorem final5 : (dats m 0 c).arrAt 5 cfg0.N = dgOut (arg1 m c) (arg2 m c) := by
  refine (dats m 0 c).arrAt_eq_of_covers 5 _ (by decide +kernel) fun t hf y => ?_
  blk_simp
  rw [after0_5]
  have hN := points t
  idx_vars y
  have e : (win0_5.blk t).view.emb (ix2 y0 y1) = ix2 y0 y1 := by blk_ext [idx5]
  rw [e]
  refine (Pipeline.eq_sum_fin_of_reset_step_apply_of_flush (fun n h => (outsAt0 m c n h).2) 32 (fun _ => 0) (dgTerm m c) (outs5_A m c) (outs5_B m c) t ((flush0_5 t).mp hf) (ix2 y0 y1)).trans ?_
  rw [zero_add]
  refine Fin.sum_mul_add_congr fun s k hl => ?_
  have e1 : row (⟨32 * (t.val / 32) + s.val, lt_of_lt_of_eq (by have := s.isLt; omega) N_0.symm⟩ : Fin cfg0.N) k = ⟨s.val * 128 + k.val, hl⟩ := Fin.ext (by
    show (32 * (t.val / 32) + s.val) * 128 + k.val = s.val * 128 + k.val; have := s.isLt; omega)
  show dgRow (fun q => arg1 m c (ix2 (row _ k) q)) (fun q => arg2 m c (ix2 (row _ k) q)) y1 = _
  rw [e1]; rfl

/-! ## The claims -/

theorem values : Cert.algebraic_Kernel13Ideal_Reference13Ideal := by
  intro m ρ m' ρ' _ hagree
  refine ⟨fun c => dxOut (arg0 m c) (arg1 m c) (arg2 m c) (arg3 m c), fun c => dgOut (arg1 m c) (arg2 m c), ?_, ?_⟩
  · refine (θ_run _ _ _).mono (fun r h c => ?_) (Cert.Kernel13Ideal.Value.run_blocks m ρ)
    obtain ⟨h0, h1, hk⟩ := h c
    exact ⟨h0.trans (final4 m c), h1.trans (final5 m c), hk⟩
  · refine (θ_run _ _ _).mono (fun r h c => ?_) (Cert.Reference13Ideal.Value.run m' ρ')
    obtain ⟨h0, h1, hk⟩ := h c
    obtain ⟨e0, e1, e2, e3⟩ := hagree c
    refine ⟨h0.trans ?_, h1.trans ?_, hk⟩ <;> clear h h0 h1 hk
    · rw [e0, e1, e2, e3]
      funext j; idx_vars j; pointwise [dxOut, dxRow, back, ms, vec]
      exact add_comm _ _
    · rw [e1, e2]
      funext j; idx_vars j; pointwise [dgOut, dgRow, ms]
      exact Fin.sum_univ_one _

theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

end Cert.RmsPre
-- ==== Proof.PostLoss.lean ====
module

public import proofs.«01_k».proof.Defs
public import proofs.«01_k».proof.Proof.Gen.Kernel14Ideal.Value
public import proofs.«01_k».proof.Proof.Gen.Reference14Ideal.Run
public import proofs.«01_k».proof.Proof.RmsPre
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The loss of one device's example and its gradient through the norm after the output projection. -/

@[expose] public section

set_option maxRecDepth 16384

noncomputable section

namespace Cert.PostLoss

open Idealize.ShloMosaic Idealize.ShloMosaic.TcCoe Idealize.ShloMosaic.Tactic Idealize.ShloMosaic.ValueKit Idealize.SL.Sem
open Cert.RmsPre (Row width ms back dgRow vec)
open Cert.Kernel14Ideal Cert.Kernel14Ideal.Gen

/-- An array at the ideal instance. -/
abbrev V (S : Shape) (e : EltTy) := Vec Ideal S e

/-! ## Constants and sums -/

theorem width_eq : width = ((4096 : ℝ) : EReal) := by simp [width, Ideal.ofBits, Ideal.ieee, -EReal.coe_mul]; norm_num
theorem half_eq : Ideal.ofBits .f32 0x3F000000#32 = ((1 / 2 : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num
theorem inv_eq : Ideal.ofBits .f32 0x39800000#32 = ((1 / 4096 : ℝ) : EReal) := by simp [Ideal.ofBits, Ideal.ieee, -EReal.coe_mul]; norm_num
theorem halfInv_eq : Ideal.ofBits .f32 0x39000000#32 = ((1 / 8192 : ℝ) : EReal) := by simp [Ideal.ofBits, Ideal.ieee, -EReal.coe_mul]; norm_num

/-- Half the mean's weight, times two: what the loss passes back to each element's error. -/
theorem weight (e : EReal) :
    Ideal.div (Ideal.ofBits .f32 0x3F000000#32) width * (Ideal.ofBits .f32 0x40000000#32 * e) = e * Ideal.ofBits .f32 0x39800000#32 := by
  rw [half_eq, width_eq, two_eq, inv_eq, Ideal.div_coe (by norm_num), ← mul_assoc, ← EReal.coe_mul, ← EReal.coe_mul, mul_comm]
  norm_num

/-- A real factor that isn't negative goes under a sum. -/
theorem mul_sum {ι : Type} (k : ℝ) (hk : 0 ≤ k) (s : Finset ι) (f : ι → EReal) : (k : EReal) * ∑ i ∈ s, f i = ∑ i ∈ s, (k : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hk) (EReal.coe_ne_top k) _ _

/-- Half the sum of the rows' means is the sum over blocks of rows with the weight taken out. -/
theorem total (f : Fin 4096 → EReal) :
    Ideal.ofBits .f32 0x3F000000#32 * ∑ p, Ideal.div (f p) width = ∑ p, f p * Ideal.ofBits .f32 0x39000000#32 := by
  rw [half_eq, mul_sum _ (by norm_num)]
  refine Finset.sum_congr rfl fun p _ => ?_
  rw [width_eq, halfInv_eq, Ideal.div_coe (by norm_num), mul_comm (f p), ← mul_assoc, ← EReal.coe_mul, mul_comm]
  norm_num

theorem sum_weight {n : ℕ} (f : Fin n → EReal) : (∑ p, f p) * Ideal.ofBits .f32 0x39000000#32 = ∑ p, f p * Ideal.ofBits .f32 0x39000000#32 := by
  rw [halfInv_eq, mul_comm, mul_sum _ (by norm_num)]
  exact Finset.sum_congr rfl fun p _ => mul_comm _ _

/-! ## The loss and its gradient, row by row -/

/-- The row's error: the residual and the normed output less the target. -/
def err (g u x y : Row) (q : Fin 4096) : Ideal .f32 := x q + u q * Ideal.rsqrt (ms u) * g q - y q

/-- The gradient of the loss at the row. -/
def dy (g u x y : Row) (q : Fin 4096) : Ideal .f32 := err g u x y q * Ideal.ofBits .f32 0x39800000#32

/-- The gradient of the output before its norm. -/
def duRow (g u x y : Row) (q : Fin 4096) : Ideal .f32 :=
  dy g u x y q * g q * Ideal.rsqrt (ms u) + u q * back g u (dy g u x y) + back g u (dy g u x y) * u q

/-- The row's part of the loss. -/
def lossRow (g u x y : Row) : Ideal .f32 := (∑ q, err g u x y q * err g u x y q) * Ideal.ofBits .f32 0x39000000#32

/-- Row `p` of an array. -/
def arrRow (X : V S4096x4096 .f32) (p : Fin 4096) : Row := fun q => X (ix2 p q)

/-- The four results over the whole arrays. -/
def duOut (G : V S4096 .f32) (U X Y : V S4096x4096 .f32) : V S4096x4096 .bf16 := fun j =>
  duRow (vec G) (arrRow U (j 0)) (arrRow X (j 0)) (arrRow Y (j 0)) (j 1)
def dyOut (G : V S4096 .f32) (U X Y : V S4096x4096 .f32) : V S4096x4096 .f32 := fun j =>
  dy (vec G) (arrRow U (j 0)) (arrRow X (j 0)) (arrRow Y (j 0)) (j 1)
def lossOut (G : V S4096 .f32) (U X Y : V S4096x4096 .f32) : V S1x1 .f32 := fun _ =>
  ∑ p : Fin 4096, lossRow (vec G) (arrRow U p) (arrRow X p) (arrRow Y p)
def dgOut (G : V S4096 .f32) (U X Y : V S4096x4096 .f32) : V S1x4096 .f32 := fun j =>
  ∑ p : Fin 4096, dgRow (arrRow U p) (dy (vec G) (arrRow U p) (arrRow X p) (arrRow Y p)) (j 1)

variable (m : (ℓ : Loc nD τ sig) → Buf (Elt Ideal) ℓ) (c : Dev nD)

/-- The arguments as launched. -/
abbrev arg0 : V S4096 .f32 := m ((c : Thread nD τ).loc main_arg0)
abbrev arg1 : V S4096x4096 .f32 := m ((c : Thread nD τ).loc main_arg1)
abbrev arg2 : V S4096x4096 .f32 := m ((c : Thread nD τ).loc main_arg2)
abbrev arg3 : V S4096x4096 .f32 := m ((c : Thread nD τ).loc main_arg3)

/-! ## The blocks of a grid point -/

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem points (t : Fin cfg0.N) : t.val < 32 := lt_of_lt_of_eq t.isLt N_0

/-- Row `r` of the block of rows that point `t` works on. -/
def row (t : Fin cfg0.N) (r : Fin 128) : Fin 4096 := ⟨t.val * 128 + r.val, by have := points t; omega⟩

theorem g_entry : Gen.V m c main_v0 = shapeCast S1x4096 (arg0 m c) shapeCasts_S4096_S1x4096 := by
  unfold Gen.V hostOps0; after_results_simp; rfl

theorem blk0 (t : Fin cfg0.N) (q : Fin 4096) : (show V S1x4096 .f32 from iblk m c 0 t) (ix2 0 q) = vec (arg0 m c) q := by
  blk_simp [iblk]
  rw [g_entry]
  have e : (win0_0.blk t).view.emb (ix2 0 q) = ix2 0 q := by blk_ext [idx0]
  rw [e]
  pointwise [vec]

theorem blk1 (t : Fin cfg0.N) (r : Fin 128) (q : Fin 4096) : (show V S128x4096 .f32 from iblk m c 1 t) (ix2 r q) = arrRow (arg1 m c) (row t r) q := by
  have := points t
  blk_simp [iblk]
  rw [V_main_arg1]
  refine congrArg (arg1 m c) ?_
  unfold row
  blk_ext [idx1]

theorem blk2 (t : Fin cfg0.N) (r : Fin 128) (q : Fin 4096) : (show V S128x4096 .f32 from iblk m c 2 t) (ix2 r q) = arrRow (arg2 m c) (row t r) q := by
  have := points t
  blk_simp [iblk]
  rw [V_main_arg2]
  refine congrArg (arg2 m c) ?_
  unfold row
  blk_ext [idx2]

theorem blk3 (t : Fin cfg0.N) (r : Fin 128) (q : Fin 4096) : (show V S128x4096 .f32 from iblk m c 3 t) (ix2 r q) = arrRow (arg3 m c) (row t r) q := by
  have := points t
  blk_simp [iblk]
  rw [V_main_arg3]
  refine congrArg (arg3 m c) ?_
  unfold row
  blk_ext [idx3]

/-! ## What a point computes -/

theorem pay1_at (g : V S1x4096 .f32) (u x y : V S128x4096 .f32) (r : Fin 128) (q : Fin 4096) :
    k0_pay1 (F := Ideal) u (k0_pay14 g u x y) (k0_pay15 g u x y) (ix2 r q) = duRow (fun q => g (ix2 0 q)) (fun q => u (ix2 r q)) (fun q => x (ix2 r q)) (fun q => y (ix2 r q)) q := by
  pointwise [k0_pay1, k0_pay6, k0_pay7, k0_pay8, k0_pay9, k0_pay10, k0_pay11, k0_pay12, k0_pay13, k0_pay14, k0_pay15, duRow, dy, err, back, ms]

theorem pay11_at (g : V S1x4096 .f32) (u x y : V S128x4096 .f32) (r : Fin 128) (q : Fin 4096) :
    k0_pay11 (F := Ideal) g u x y (ix2 r q) = dy (fun q => g (ix2 0 q)) (fun q => u (ix2 r q)) (fun q => x (ix2 r q)) (fun q => y (ix2 r q)) q := by
  pointwise [k0_pay6, k0_pay7, k0_pay8, k0_pay9, k0_pay10, k0_pay11, k0_pay12, k0_pay13, k0_pay14, k0_pay15, dy, err, ms]

theorem pay4_at (g : V S1x4096 .f32) (u x y : V S128x4096 .f32) (B : V S1x1 .f32) :
    k0_pay4 (F := Ideal) (k0_pay10 g u x y) B (ix2 0 0) = B (ix2 0 0) + ∑ r : Fin 128, lossRow (fun q => g (ix2 0 q)) (fun q => u (ix2 r q)) (fun q => x (ix2 r q)) (fun q => y (ix2 r q)) := by
  unfold lossRow
  rw [← sum_weight]
  pointwise [k0_pay4, k0_pay6, k0_pay7, k0_pay8, k0_pay9, k0_pay10, k0_pay11, k0_pay12, k0_pay13, k0_pay14, k0_pay15, err, ms]

theorem pay12_at (g : V S1x4096 .f32) (u x y : V S128x4096 .f32) (q : Fin 4096) :
    k0_pay12 (F := Ideal) g u x y (ix2 0 q) = ∑ r : Fin 128, dgRow (fun q => u (ix2 r q)) (dy (fun q => g (ix2 0 q)) (fun q => u (ix2 r q)) (fun q => x (ix2 r q)) (fun q => y (ix2 r q))) q := by
  pointwise [k0_pay6, k0_pay7, k0_pay8, k0_pay9, k0_pay10, k0_pay11, k0_pay12, k0_pay13, k0_pay14, k0_pay15, dgRow, dy, err, ms]

theorem outs4 (t : Fin cfg0.N) : (outsAt0 m c t.val t.isLt).1 = k0_pay1 (F := Ideal) (iblk m c 1 t) (k0_pay14 (iblk m c 0 t) (iblk m c 1 t) (iblk m c 2 t) (iblk m c 3 t)) (k0_pay15 (iblk m c 0 t) (iblk m c 1 t) (iblk m c 2 t) (iblk m c 3 t)) := by
  by_cases h0 : t.val % 32 = 0
  · rw [outsAt0_A m c t h0]; dsimp only; unfold out0_A_4; frame_open
    simp (disch := decide) only [View.readCov_unit_lit', View.read_writes_junk_eq_canon, View.canon_cons_unit_lit', View.ld_unit_lit', View.readAt_eq_ld, Memref.IsWhole.read_unread]
  · rw [outsAt0_B m c t h0]; dsimp only; unfold out0_B_4; frame_open
    simp (disch := decide) only [View.readCov_unit_lit', View.read_writes_junk_eq_canon, View.canon_cons_unit_lit', View.ld_unit_lit', View.readAt_eq_ld, Memref.IsWhole.read_unread]

theorem outs5 (t : Fin cfg0.N) : (outsAt0 m c t.val t.isLt).2.1 = k0_pay11 (F := Ideal) (iblk m c 0 t) (iblk m c 1 t) (iblk m c 2 t) (iblk m c 3 t) := by
  by_cases h0 : t.val % 32 = 0
  · rw [outsAt0_A m c t h0]; dsimp only; unfold out0_A_5; frame_open
    simp (disch := decide) only [View.readCov_unit_lit', View.read_writes_junk_eq_canon, View.canon_cons_unit_lit', View.ld_unit_lit', View.readAt_eq_ld, Memref.IsWhole.read_unread]
  · rw [outsAt0_B m c t h0]; dsimp only; unfold out0_B_5; frame_open
    simp (disch := decide) only [View.readCov_unit_lit', View.read_writes_junk_eq_canon, View.canon_cons_unit_lit', View.ld_unit_lit', View.readAt_eq_ld, Memref.IsWhole.read_unread]

/-- What point `t` adds to the loss, and to the gradient of the norm's weights. -/
def lossTerm (t : Fin cfg0.N) : V S1x1 .f32 := fun _ => ∑ r : Fin 128, lossRow (vec (arg0 m c)) (arrRow (arg1 m c) (row t r)) (arrRow (arg2 m c) (row t r)) (arrRow (arg3 m c) (row t r))
def dgTerm (t : Fin cfg0.N) : V S1x4096 .f32 := fun y => ∑ r : Fin 128, dgRow (arrRow (arg1 m c) (row t r)) (dy (vec (arg0 m c)) (arrRow (arg1 m c) (row t r)) (arrRow (arg2 m c) (row t r)) (arrRow (arg3 m c) (row t r))) (y 1)

/-- The blocks' rows are the arguments'. -/
theorem rows (t : Fin cfg0.N) (r : Fin 128) {α : Type} (f : Row → Row → Row → Row → α) :
    f (fun q => (show V S1x4096 .f32 from iblk m c 0 t) (ix2 0 q)) (fun q => (show V S128x4096 .f32 from iblk m c 1 t) (ix2 r q))
        (fun q => (show V S128x4096 .f32 from iblk m c 2 t) (ix2 r q)) (fun q => (show V S128x4096 .f32 from iblk m c 3 t) (ix2 r q))
      = f (vec (arg0 m c)) (arrRow (arg1 m c) (row t r)) (arrRow (arg2 m c) (row t r)) (arrRow (arg3 m c) (row t r)) := by
  congr 1 <;> funext q
  · exact blk0 m c t q
  · exact blk1 m c t r q
  · exact blk2 m c t r q
  · exact blk3 m c t r q

theorem lossTerm_at (t : Fin cfg0.N) (B : V S1x1 .f32) (y : S1x1.Idx) :
    k0_pay4 (F := Ideal) (k0_pay10 (iblk m c 0 t) (iblk m c 1 t) (iblk m c 2 t) (iblk m c 3 t)) B y = B y + lossTerm m c t y := by
  idx_vars y
  obtain rfl : y0 = 0 := Subsingleton.elim _ _
  obtain rfl : y1 = 0 := Subsingleton.elim _ _
  refine (pay4_at _ _ _ _ B).trans (congrArg (B (ix2 0 0) + ·) ?_)
  exact Finset.sum_congr rfl fun r _ => rows m c t r lossRow

theorem dgTerm_at (t : Fin cfg0.N) (B : V S1x4096 .f32) (y : S1x4096.Idx) :
    k0_pay5 (F := Ideal) (k0_pay12 (iblk m c 0 t) (iblk m c 1 t) (iblk m c 2 t) (iblk m c 3 t)) B y = B y + dgTerm m c t y := by
  idx_vars y
  have e : k0_pay5 (F := Ideal) (k0_pay12 (iblk m c 0 t) (iblk m c 1 t) (iblk m c 2 t) (iblk m c 3 t)) B (ix2 y0 y1) = B (ix2 y0 y1) + k0_pay12 (F := Ideal) (iblk m c 0 t) (iblk m c 1 t) (iblk m c 2 t) (iblk m c 3 t) (ix2 y0 y1) := by
    pointwise [k0_pay5]
  rw [e]
  refine congrArg (B (ix2 y0 y1) + ·) ?_
  obtain rfl : y0 = 0 := Subsingleton.elim _ _
  refine (pay12_at _ _ _ _ y1).trans ?_
  exact Finset.sum_congr rfl fun r _ => rows m c t r fun g u x y => dgRow u (dy g u x y) y1

theorem outs6_A (t : Fin cfg0.N) (h0 : t.val % 32 = 0) (y) : (outsAt0 m c t.val t.isLt).2.2.1 y = 0 + lossTerm m c t y := by
  rw [outsAt0_A m c t h0]; dsimp only; unfold out0_A_6; frame_open
  simp (disch := decide) only [View.readCov_unit_lit', View.read_writes_junk_eq_canon, View.canon_cons_unit_lit', View.ld_unit_lit', View.readAt_eq_ld, Memref.IsWhole.read_unread]
  refine (lossTerm_at m c t _ y).trans (congrArg (· + lossTerm m c t y) ?_)
  idx_vars y; pointwise [k0_pay2]

theorem outs6_B (t : Fin cfg0.N) (h0 : ¬t.val % 32 = 0) (y) : (outsAt0 m c t.val t.isLt).2.2.1 y
    = (outsAt0 m c (t.val - 1) (Nat.lt_of_le_of_lt (Nat.sub_le _ _) t.isLt)).2.2.1 y + lossTerm m c t y := by
  rw [outsAt0_B m c t h0]; dsimp only; unfold out0_B_6; frame_open
  simp (disch := decide) only [View.readCov_unit_lit', View.read_writes_junk_eq_canon, View.canon_cons_unit_lit', View.ld_unit_lit', View.readAt_eq_ld, Memref.IsWhole.read_unread]
  exact lossTerm_at m c t _ y

theorem outs7_A (t : Fin cfg0.N) (h0 : t.val % 32 = 0) (y) : (outsAt0 m c t.val t.isLt).2.2.2 y = 0 + dgTerm m c t y := by
  rw [outsAt0_A m c t h0]; dsimp only; unfold out0_A_7; frame_open
  simp (disch := decide) only [View.readCov_unit_lit', View.read_writes_junk_eq_canon, View.canon_cons_unit_lit', View.ld_unit_lit', View.readAt_eq_ld, Memref.IsWhole.read_unread]
  refine (dgTerm_at m c t _ y).trans (congrArg (· + dgTerm m c t y) ?_)
  idx_vars y; pointwise [k0_pay3]

theorem outs7_B (t : Fin cfg0.N) (h0 : ¬t.val % 32 = 0) (y) : (outsAt0 m c t.val t.isLt).2.2.2 y
    = (outsAt0 m c (t.val - 1) (Nat.lt_of_le_of_lt (Nat.sub_le _ _) t.isLt)).2.2.2 y + dgTerm m c t y := by
  rw [outsAt0_B m c t h0]; dsimp only; unfold out0_B_7; frame_open
  simp (disch := decide) only [View.readCov_unit_lit', View.read_writes_junk_eq_canon, View.canon_cons_unit_lit', View.ld_unit_lit', View.readAt_eq_ld, Memref.IsWhole.read_unread]
  exact dgTerm_at m c t _ y

/-! ## The four results -/

theorem final4 : (dats m 0 c).arrAt 4 cfg0.N = duOut (arg0 m c) (arg1 m c) (arg2 m c) (arg3 m c) := by
  refine (dats m 0 c).arrAt_eq_of_covers 4 _ (by decide +kernel) fun t hf y => ?_
  blk_simp
  rw [after0_4]
  have := points t
  idx_vars y
  have e : (win0_4.blk t).view.emb (ix2 y0 y1) = ix2 (row t y0) y1 := by
    unfold row; blk_ext [idx4]
  rw [e, outs4]
  exact (pay1_at _ _ _ _ y0 y1).trans (rows m c t y0 fun g u x y => duRow g u x y y1)

theorem final5 : (dats m 0 c).arrAt 5 cfg0.N = dyOut (arg0 m c) (arg1 m c) (arg2 m c) (arg3 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) y1 := by
    unfold row; blk_ext [idx5]
  rw [e, outs5]
  exact (pay11_at _ _ _ _ y0 y1).trans (rows m c t y0 fun g u x y => dy g u x y y1)

theorem final6 : (dats m 0 c).arrAt 6 cfg0.N = lossOut (arg0 m c) (arg1 m c) (arg2 m c) (arg3 m c) := by
  refine (dats m 0 c).arrAt_eq_of_covers 6 _ (by decide +kernel) fun t hf y => ?_
  blk_simp
  rw [after0_6]
  have hN := points t
  idx_vars y
  have e : (win0_6.blk t).view.emb (ix2 y0 y1) = ix2 y0 y1 := by blk_ext [idx6]
  rw [e]
  refine (Pipeline.eq_sum_fin_of_reset_step_apply_of_flush (fun n h => (outsAt0 m c n h).2.2.1) 32 (fun _ => 0) (lossTerm m c) (outs6_A m c) (outs6_B m c) t ((flush0_6 t).mp hf) (ix2 y0 y1)).trans ?_
  rw [zero_add]
  refine Fin.sum_mul_add_congr fun s k hl => ?_
  have e1 : row (⟨32 * (t.val / 32) + s.val, lt_of_lt_of_eq (by have := s.isLt; omega) N_0.symm⟩ : Fin cfg0.N) k = ⟨s.val * 128 + k.val, hl⟩ := Fin.ext (by
    show (32 * (t.val / 32) + s.val) * 128 + k.val = s.val * 128 + k.val; have := s.isLt; omega)
  show lossRow (vec (arg0 m c)) (arrRow (arg1 m c) (row _ k)) (arrRow (arg2 m c) (row _ k)) (arrRow (arg3 m c) (row _ k)) = _
  rw [e1]

theorem final7 : (dats m 0 c).arrAt 7 cfg0.N = dgOut (arg0 m c) (arg1 m c) (arg2 m c) (arg3 m c) := by
  refine (dats m 0 c).arrAt_eq_of_covers 7 _ (by decide +kernel) fun t hf y => ?_
  blk_simp
  rw [after0_7]
  have hN := points t
  idx_vars y
  have e : (win0_7.blk t).view.emb (ix2 y0 y1) = ix2 y0 y1 := by blk_ext [idx7]
  rw [e]
  refine (Pipeline.eq_sum_fin_of_reset_step_apply_of_flush (fun n h => (outsAt0 m c n h).2.2.2) 32 (fun _ => 0) (dgTerm m c) (outs7_A m c) (outs7_B m c) t ((flush0_7 t).mp hf) (ix2 y0 y1)).trans ?_
  rw [zero_add]
  refine Fin.sum_mul_add_congr fun s k hl => ?_
  have e1 : row (⟨32 * (t.val / 32) + s.val, lt_of_lt_of_eq (by have := s.isLt; omega) N_0.symm⟩ : Fin cfg0.N) k = ⟨s.val * 128 + k.val, hl⟩ := Fin.ext (by
    show (32 * (t.val / 32) + s.val) * 128 + k.val = s.val * 128 + k.val; have := s.isLt; omega)
  show dgRow (arrRow (arg1 m c) (row _ k)) (dy (vec (arg0 m c)) (arrRow (arg1 m c) (row _ k)) (arrRow (arg2 m c) (row _ k)) (arrRow (arg3 m c) (row _ k))) y1 = _
  rw [e1]; rfl

/-! ## The claims -/

theorem values : Cert.algebraic_Kernel14Ideal_Reference14Ideal := by
  intro m ρ m' ρ' _ hagree
  refine ⟨fun c => duOut (arg0 m c) (arg1 m c) (arg2 m c) (arg3 m c), fun c => dyOut (arg0 m c) (arg1 m c) (arg2 m c) (arg3 m c), fun c => lossOut (arg0 m c) (arg1 m c) (arg2 m c) (arg3 m c), fun c => dgOut (arg0 m c) (arg1 m c) (arg2 m c) (arg3 m c), ?_, ?_⟩
  · refine (θ_run _ _ _).mono (fun r h c => ?_) (Cert.Kernel14Ideal.Value.run_blocks m ρ)
    obtain ⟨h0, h1, h2, h3, hk⟩ := h c
    exact ⟨h0.trans (final4 m c), h1.trans (final5 m c), h2.trans (final6 m c), h3.trans (final7 m c), hk⟩
  · refine (θ_run _ _ _).mono (fun r h c => ?_) (Cert.Reference14Ideal.Value.run m' ρ')
    obtain ⟨h0, h1, h2, h3, hk⟩ := h c
    obtain ⟨e0, e1, e2, e3⟩ := hagree c
    refine ⟨h0.trans ?_, h1.trans ?_, h2.trans ?_, h3.trans ?_, hk⟩ <;> clear h h0 h1 h2 h3 hk
    · unfold Cert.Reference14Ideal.Value.res_main_v52
      rw [e0, e1, e2, e3]
      funext j; idx_vars j; pointwise [duOut, duRow, dy, err, back, ms, vec, arrRow]
      simp only [weight]
    · rw [e0, e1, e2, e3]
      funext j; idx_vars j; pointwise [dyOut, dy, err, ms, vec, arrRow]
      exact weight _
    · rw [e0, e1, e2, e3]
      funext j; idx_vars j; pointwise [lossOut, lossRow, err, ms, vec, arrRow]
      exact total _
    · rw [e0, e1, e2, e3]
      funext j; idx_vars j; pointwise [dgOut, dgRow, dy, err, ms, vec, arrRow]
      simp only [weight, Fin.sum_univ_one]

theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

end Cert.PostLoss
-- ==== Proof.LoraUp.lean ====
module

public import proofs.«01_k».proof.Defs
public import proofs.«01_k».proof.Proof.Gen.Kernel15Ideal.Value
public import proofs.«01_k».proof.Proof.Gen.Reference15Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The backward pass of the two low-rank expansions: of `tanh xl` for the decay, of `xl` for the in-context rate. -/

@[expose] public section

set_option maxRecDepth 16384

noncomputable section

namespace Cert.LoraUp

open Idealize.ShloMosaic Idealize.ShloMosaic.TcCoe Idealize.ShloMosaic.Tactic Idealize.ShloMosaic.ValueKit Idealize.SL.Sem
open Cert.Kernel15Ideal Cert.Kernel15Ideal.Gen

/-- An array at the ideal instance. -/
abbrev V (S : Shape) (e : EltTy) := Vec Ideal S e

/-! ## The five results -/

/-- The gradient of the low-rank row, from the rows of the two gradients and of the two weights. -/
def dxAt (w a p q : Fin 2048 → Ideal .f32) (x : Ideal .f32) : Ideal .f32 :=
  ∑ l, q l * a l + (∑ l, p l * w l) * ((1 + Ideal.tanh x) * (1 - Ideal.tanh x))

def dxOut (W A : V S256x2048 .f32) (X : V S4096x256 .f32) (P Q : V S4096x2048 .f32) : V S4096x256 .f32 := fun j =>
  dxAt (fun l => W (ix2 (j 1) l)) (fun l => A (ix2 (j 1) l)) (fun l => P (ix2 (j 0) l)) (fun l => Q (ix2 (j 0) l)) (X (ix2 (j 0) (j 1)))
def dbOut (P : V S4096x2048 .f32) : V S1x2048 .f32 := fun j => ∑ p : Fin 4096, P (ix2 p (j 1))
def dwOut (X : V S4096x256 .f32) (P : V S4096x2048 .f32) : V S256x2048 .f32 := fun j =>
  ∑ p : Fin 4096, Ideal.tanh (X (ix2 p (j 0))) * P (ix2 p (j 1))
def daOut (X : V S4096x256 .f32) (Q : V S4096x2048 .f32) : V S256x2048 .f32 := fun j =>
  ∑ p : Fin 4096, X (ix2 p (j 0)) * Q (ix2 p (j 1))

variable (m : (ℓ : Loc nD τ sig) → Buf (Elt Ideal) ℓ) (c : Dev nD)

/-- The arguments as launched. -/
abbrev arg1 : V S256x2048 .f32 := m ((c : Thread nD τ).loc main_arg1)
abbrev arg3 : V S256x2048 .f32 := m ((c : Thread nD τ).loc main_arg3)
abbrev arg4 : V S4096x256 .f32 := m ((c : Thread nD τ).loc main_arg4)
abbrev arg5 : V S4096x2048 .f32 := m ((c : Thread nD τ).loc main_arg5)
abbrev arg6 : V S4096x2048 .f32 := m ((c : Thread nD τ).loc main_arg6)

/-! ## The blocks of a grid point -/

theorem idx1 : ∀ t : Fin cfg0.N, win0_1.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem points (t : Fin cfg0.N) : t.val < 16 := lt_of_lt_of_eq t.isLt N_0

/-- Row `r` of the block of rows that point `t` works on. -/
def row (t : Fin cfg0.N) (r : Fin 256) : Fin 4096 := ⟨t.val * 256 + r.val, by have := points t; omega⟩

theorem blk1 (t : Fin cfg0.N) (r : Fin 256) (q : Fin 2048) : (show V S256x2048 .f32 from iblk m c 1 t) (ix2 r q) = arg1 m c (ix2 r q) := by
  blk_simp [iblk]
  rw [V_main_arg1]
  refine congrArg (arg1 m c) ?_
  blk_ext [idx1]

theorem blk3 (t : Fin cfg0.N) (r : Fin 256) (q : Fin 2048) : (show V S256x2048 .f32 from iblk m c 3 t) (ix2 r q) = arg3 m c (ix2 r q) := by
  blk_simp [iblk]
  rw [V_main_arg3]
  refine congrArg (arg3 m c) ?_
  blk_ext [idx3]

theorem blk4 (t : Fin cfg0.N) (r : Fin 256) (q : Fin 256) : (show V S256x256 .f32 from iblk m c 4 t) (ix2 r q) = arg4 m c (ix2 (row t r) q) := by
  have := points t
  blk_simp [iblk]
  rw [V_main_arg4]
  refine congrArg (arg4 m c) ?_
  unfold row
  blk_ext [idx4]

theorem blk5 (t : Fin cfg0.N) (r : Fin 256) (q : Fin 2048) : (show V S256x2048 .f32 from iblk m c 5 t) (ix2 r q) = arg5 m c (ix2 (row t r) q) := by
  have := points t
  blk_simp [iblk]
  rw [V_main_arg5]
  refine congrArg (arg5 m c) ?_
  unfold row
  blk_ext [idx5]

theorem blk6 (t : Fin cfg0.N) (r : Fin 256) (q : Fin 2048) : (show V S256x2048 .f32 from iblk m c 6 t) (ix2 r q) = arg6 m c (ix2 (row t r) q) := by
  have := points t
  blk_simp [iblk]
  rw [V_main_arg6]
  refine congrArg (arg6 m c) ?_
  unfold row
  blk_ext [idx6]

/-! ## What a point computes -/

theorem pay9_at (w a : V S256x2048 .f32) (x : V S256x256 .f32) (p q : V S256x2048 .f32) (r s : Fin 256) :
    k0_pay9 (F := Ideal) w a x p q (ix2 r s)
      = dxAt (fun l => w (ix2 s l)) (fun l => a (ix2 s l)) (fun l => p (ix2 r l)) (fun l => q (ix2 r l)) (x (ix2 r s)) := by
  pointwise [k0_pay9, k0_pay2, k0_pay3, k0_pay4, k0_pay5, k0_pay6, k0_pay7, k0_pay8, dxAt]

theorem pay6_at (p : V S256x2048 .f32) (q : Fin 2048) : k0_pay6 (F := Ideal) p (ix2 0 q) = ∑ r : Fin 256, p (ix2 r q) := by
  pointwise [k0_pay2, k0_pay3, k0_pay4, k0_pay5, k0_pay6, k0_pay7, k0_pay8]
theorem pay3_at (p : V S256x2048 .f32) (q : Fin 2048) : k0_pay3 (F := Ideal) p (ix2 0 q) = ∑ r : Fin 256, p (ix2 r q) := by
  pointwise [k0_pay2, k0_pay3, k0_pay4, k0_pay5, k0_pay6, k0_pay7, k0_pay8]
theorem pay8_at (x : V S256x256 .f32) (p : V S256x2048 .f32) (s : Fin 256) (q : Fin 2048) :
    k0_pay8 (F := Ideal) x p (ix2 s q) = ∑ r : Fin 256, Ideal.tanh (x (ix2 r s)) * p (ix2 r q) := by
  pointwise [k0_pay2, k0_pay3, k0_pay4, k0_pay5, k0_pay6, k0_pay7, k0_pay8]
theorem pay5_at (x : V S256x256 .f32) (p : V S256x2048 .f32) (s : Fin 256) (q : Fin 2048) :
    k0_pay5 (F := Ideal) x p (ix2 s q) = ∑ r : Fin 256, x (ix2 r s) * p (ix2 r q) := by
  pointwise [k0_pay2, k0_pay3, k0_pay4, k0_pay5, k0_pay6, k0_pay7, k0_pay8]

theorem outs7 (t : Fin cfg0.N) : (outsAt0 m c t.val t.isLt).1 = k0_pay9 (F := Ideal) (iblk m c 1 t) (iblk m c 3 t) (iblk m c 4 t) (iblk m c 5 t) (iblk m c 6 t) := by
  by_cases h0 : t.val % 16 = 0
  · rw [outsAt0_A m c t h0 h0 h0 h0]; dsimp only; unfold out0_A_7; frame_open
    simp (disch := decide) only [View.readCov_unit_lit', View.read_writes_junk_eq_canon, View.canon_cons_unit_lit', View.ld_unit_lit', View.readAt_eq_ld, Memref.IsWhole.read_unread]
  · rw [outsAt0_B m c t h0 h0 h0 h0]; dsimp only; unfold out0_B_7; frame_open
    simp (disch := decide) only [View.readCov_unit_lit', View.read_writes_junk_eq_canon, View.canon_cons_unit_lit', View.ld_unit_lit', View.readAt_eq_ld, Memref.IsWhole.read_unread]

/-- What point `t` adds to the gradients of the two biases and of the two weights. -/
def dw0Term (t : Fin cfg0.N) : V S1x2048 .f32 := fun y => ∑ r : Fin 256, arg5 m c (ix2 (row t r) (y 1))
def da0Term (t : Fin cfg0.N) : V S1x2048 .f32 := fun y => ∑ r : Fin 256, arg6 m c (ix2 (row t r) (y 1))
def dwTerm (t : Fin cfg0.N) : V S256x2048 .f32 := fun y =>
  ∑ r : Fin 256, Ideal.tanh (arg4 m c (ix2 (row t r) (y 0))) * arg5 m c (ix2 (row t r) (y 1))
def daTerm (t : Fin cfg0.N) : V S256x2048 .f32 := fun y =>
  ∑ r : Fin 256, arg4 m c (ix2 (row t r) (y 0)) * arg6 m c (ix2 (row t r) (y 1))

theorem dw0Term_at (t : Fin cfg0.N) (B : V S1x2048 .f32) (y : S1x2048.Idx) :
    k0_pay11 (F := Ideal) (k0_pay6 (iblk m c 5 t)) B y = B y + dw0Term m c t y := by
  idx_vars y
  have e : ∀ A : V S1x2048 .f32, k0_pay11 (F := Ideal) A B (ix2 y0 y1) = B (ix2 y0 y1) + A (ix2 y0 y1) := fun A => by
    pointwise [k0_pay11, k0_pay17]
  rw [e]
  refine congrArg (B (ix2 y0 y1) + ·) ?_
  obtain rfl : y0 = 0 := Subsingleton.elim _ _
  refine (pay6_at _ y1).trans ?_
  exact Finset.sum_congr rfl fun r _ => blk5 m c t r y1

theorem outs8_A (t : Fin cfg0.N) (h0 : t.val % 16 = 0) (y) : (outsAt0 m c t.val t.isLt).2.1 y = 0 + dw0Term m c t y := by
  rw [outsAt0_A m c t h0 h0 h0 h0]; dsimp only; unfold out0_A_8; frame_open
  simp (disch := decide) only [View.readCov_unit_lit', View.read_writes_junk_eq_canon, View.canon_cons_unit_lit', View.ld_unit_lit', View.readAt_eq_ld, Memref.IsWhole.read_unread]
  refine (dw0Term_at m c t _ y).trans (congrArg (· + dw0Term m c t y) ?_)
  idx_vars y; pointwise [k0_pay10]

theorem outs8_B (t : Fin cfg0.N) (h0 : ¬t.val % 16 = 0) (y) : (outsAt0 m c t.val t.isLt).2.1 y
    = (outsAt0 m c (t.val - 1) (Nat.lt_of_le_of_lt (Nat.sub_le _ _) t.isLt)).2.1 y + dw0Term m c t y := by
  rw [outsAt0_B m c t h0 h0 h0 h0]; dsimp only; unfold out0_B_8; frame_open
  simp (disch := decide) only [View.readCov_unit_lit', View.read_writes_junk_eq_canon, View.canon_cons_unit_lit', View.ld_unit_lit', View.readAt_eq_ld, Memref.IsWhole.read_unread]
  exact dw0Term_at m c t _ y

theorem dwTerm_at (t : Fin cfg0.N) (B : V S256x2048 .f32) (y : S256x2048.Idx) :
    k0_pay13 (F := Ideal) (k0_pay8 (iblk m c 4 t) (iblk m c 5 t)) B y = B y + dwTerm m c t y := by
  idx_vars y
  have e : ∀ A : V S256x2048 .f32, k0_pay13 (F := Ideal) A B (ix2 y0 y1) = B (ix2 y0 y1) + A (ix2 y0 y1) := fun A => by
    pointwise [k0_pay13, k0_pay17]
  rw [e]
  refine congrArg (B (ix2 y0 y1) + ·) ?_
  refine (pay8_at _ _ y0 y1).trans ?_
  exact Finset.sum_congr rfl fun r _ => congrArg₂ (fun a b : Ideal .f32 => Ideal.tanh a * b) (blk4 m c t r y0) (blk5 m c t r y1)

theorem outs9_A (t : Fin cfg0.N) (h0 : t.val % 16 = 0) (y) : (outsAt0 m c t.val t.isLt).2.2.1 y = 0 + dwTerm m c t y := by
  rw [outsAt0_A m c t h0 h0 h0 h0]; dsimp only; unfold out0_A_9; frame_open
  simp (disch := decide) only [View.readCov_unit_lit', View.read_writes_junk_eq_canon, View.canon_cons_unit_lit', View.ld_unit_lit', View.readAt_eq_ld, Memref.IsWhole.read_unread]
  refine (dwTerm_at m c t _ y).trans (congrArg (· + dwTerm m c t y) ?_)
  idx_vars y; pointwise [k0_pay12]

theorem outs9_B (t : Fin cfg0.N) (h0 : ¬t.val % 16 = 0) (y) : (outsAt0 m c t.val t.isLt).2.2.1 y
    = (outsAt0 m c (t.val - 1) (Nat.lt_of_le_of_lt (Nat.sub_le _ _) t.isLt)).2.2.1 y + dwTerm m c t y := by
  rw [outsAt0_B m c t h0 h0 h0 h0]; dsimp only; unfold out0_B_9; frame_open
  simp (disch := decide) only [View.readCov_unit_lit', View.read_writes_junk_eq_canon, View.canon_cons_unit_lit', View.ld_unit_lit', View.readAt_eq_ld, Memref.IsWhole.read_unread]
  exact dwTerm_at m c t _ y

theorem da0Term_at (t : Fin cfg0.N) (B : V S1x2048 .f32) (y : S1x2048.Idx) :
    k0_pay15 (F := Ideal) (k0_pay3 (iblk m c 6 t)) B y = B y + da0Term m c t y := by
  idx_vars y
  have e : ∀ A : V S1x2048 .f32, k0_pay15 (F := Ideal) A B (ix2 y0 y1) = B (ix2 y0 y1) + A (ix2 y0 y1) := fun A => by
    pointwise [k0_pay15, k0_pay17]
  rw [e]
  refine congrArg (B (ix2 y0 y1) + ·) ?_
  obtain rfl : y0 = 0 := Subsingleton.elim _ _
  refine (pay3_at _ y1).trans ?_
  exact Finset.sum_congr rfl fun r _ => blk6 m c t r y1

theorem outs10_A (t : Fin cfg0.N) (h0 : t.val % 16 = 0) (y) : (outsAt0 m c t.val t.isLt).2.2.2.1 y = 0 + da0Term m c t y := by
  rw [outsAt0_A m c t h0 h0 h0 h0]; dsimp only; unfold out0_A_10; frame_open
  simp (disch := decide) only [View.readCov_unit_lit', View.read_writes_junk_eq_canon, View.canon_cons_unit_lit', View.ld_unit_lit', View.readAt_eq_ld, Memref.IsWhole.read_unread]
  refine (da0Term_at m c t _ y).trans (congrArg (· + da0Term m c t y) ?_)
  idx_vars y; pointwise [k0_pay14]

theorem outs10_B (t : Fin cfg0.N) (h0 : ¬t.val % 16 = 0) (y) : (outsAt0 m c t.val t.isLt).2.2.2.1 y
    = (outsAt0 m c (t.val - 1) (Nat.lt_of_le_of_lt (Nat.sub_le _ _) t.isLt)).2.2.2.1 y + da0Term m c t y := by
  rw [outsAt0_B m c t h0 h0 h0 h0]; dsimp only; unfold out0_B_10; frame_open
  simp (disch := decide) only [View.readCov_unit_lit', View.read_writes_junk_eq_canon, View.canon_cons_unit_lit', View.ld_unit_lit', View.readAt_eq_ld, Memref.IsWhole.read_unread]
  exact da0Term_at m c t _ y

theorem daTerm_at (t : Fin cfg0.N) (B : V S256x2048 .f32) (y : S256x2048.Idx) :
    k0_pay1 (F := Ideal) (k0_pay5 (iblk m c 4 t) (iblk m c 6 t)) (k0_pay17 B) y = B y + daTerm m c t y := by
  idx_vars y
  have e : ∀ A : V S256x2048 .f32, k0_pay1 (F := Ideal) A (k0_pay17 B) (ix2 y0 y1) = B (ix2 y0 y1) + A (ix2 y0 y1) := fun A => by
    pointwise [k0_pay1, k0_pay17]
  rw [e]
  refine congrArg (B (ix2 y0 y1) + ·) ?_
  refine (pay5_at _ _ y0 y1).trans ?_
  exact Finset.sum_congr rfl fun r _ => congrArg₂ (fun a b : Ideal .f32 => a * b) (blk4 m c t r y0) (blk6 m c t r y1)

theorem outs11_A (t : Fin cfg0.N) (h0 : t.val % 16 = 0) (y) : (outsAt0 m c t.val t.isLt).2.2.2.2 y = 0 + daTerm m c t y := by
  rw [outsAt0_A m c t h0 h0 h0 h0]; dsimp only; unfold out0_A_11; frame_open
  simp (disch := decide) only [View.readCov_unit_lit', View.read_writes_junk_eq_canon, View.canon_cons_unit_lit', View.ld_unit_lit', View.readAt_eq_ld, Memref.IsWhole.read_unread]
  refine (daTerm_at m c t _ y).trans (congrArg (· + daTerm m c t y) ?_)
  idx_vars y; pointwise [k0_pay16]

theorem outs11_B (t : Fin cfg0.N) (h0 : ¬t.val % 16 = 0) (y) : (outsAt0 m c t.val t.isLt).2.2.2.2 y
    = (outsAt0 m c (t.val - 1) (Nat.lt_of_le_of_lt (Nat.sub_le _ _) t.isLt)).2.2.2.2 y + daTerm m c t y := by
  rw [outsAt0_B m c t h0 h0 h0 h0]; dsimp only; unfold out0_B_11; frame_open
  simp (disch := decide) only [View.readCov_unit_lit', View.read_writes_junk_eq_canon, View.canon_cons_unit_lit', View.ld_unit_lit', View.readAt_eq_ld, Memref.IsWhole.read_unread]
  exact daTerm_at m c t _ y

/-! ## The whole arrays -/

theorem final7 : (dats m 0 c).arrAt 7 cfg0.N = dxOut (arg1 m c) (arg3 m c) (arg4 m c) (arg5 m c) (arg6 m c) := by
  refine (dats m 0 c).arrAt_eq_of_covers 7 _ (by decide +kernel) fun t hf y => ?_
  blk_simp
  rw [after0_7]
  have := points t
  idx_vars y
  have e : (win0_7.blk t).view.emb (ix2 y0 y1) = ix2 (row t y0) y1 := by
    unfold row; blk_ext [idx7]
  rw [e, outs7]
  refine (pay9_at _ _ _ _ _ y0 y1).trans ?_
  unfold dxOut
  congr 1
  · funext l; exact blk1 m c t y1 l
  · funext l; exact blk3 m c t y1 l
  · funext l; exact blk5 m c t y0 l
  · funext l; exact blk6 m c t y0 l
  · exact blk4 m c t y0 y1

theorem final8 : (dats m 0 c).arrAt 8 cfg0.N = dbOut (arg5 m c) := by
  refine (dats m 0 c).arrAt_eq_of_covers 8 _ (by decide +kernel) fun t hf y => ?_
  blk_simp
  rw [after0_8]
  have hN := points t
  idx_vars y
  have e : (win0_8.blk t).view.emb (ix2 y0 y1) = ix2 y0 y1 := by blk_ext [idx8]
  rw [e]
  refine (Pipeline.eq_sum_fin_of_reset_step_apply_of_flush (fun n h => (outsAt0 m c n h).2.1) 16 (fun _ => 0) (dw0Term m c) (outs8_A m c) (outs8_B m c) t ((flush0_8 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show (16 * (t.val / 16) + s.val) * 256 + k.val = s.val * 256 + k.val; have := s.isLt; omega)
  show arg5 m c (ix2 (row _ k) y1) = _
  rw [e1]; rfl

theorem final9 : (dats m 0 c).arrAt 9 cfg0.N = dwOut (arg4 m c) (arg5 m c) := by
  refine (dats m 0 c).arrAt_eq_of_covers 9 _ (by decide +kernel) fun t hf y => ?_
  blk_simp
  rw [after0_9]
  have hN := points t
  idx_vars y
  have e : (win0_9.blk t).view.emb (ix2 y0 y1) = ix2 y0 y1 := by blk_ext [idx9]
  rw [e]
  refine (Pipeline.eq_sum_fin_of_reset_step_apply_of_flush (fun n h => (outsAt0 m c n h).2.2.1) 16 (fun _ => 0) (dwTerm m c) (outs9_A m c) (outs9_B m c) t ((flush0_9 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show (16 * (t.val / 16) + s.val) * 256 + k.val = s.val * 256 + k.val; have := s.isLt; omega)
  show Ideal.tanh (arg4 m c (ix2 (row _ k) y0)) * arg5 m c (ix2 (row _ k) y1) = _
  rw [e1]; rfl

theorem final10 : (dats m 0 c).arrAt 10 cfg0.N = dbOut (arg6 m c) := by
  refine (dats m 0 c).arrAt_eq_of_covers 10 _ (by decide +kernel) fun t hf y => ?_
  blk_simp
  rw [after0_10]
  have hN := points t
  idx_vars y
  have e : (win0_10.blk t).view.emb (ix2 y0 y1) = ix2 y0 y1 := by blk_ext [idx10]
  rw [e]
  refine (Pipeline.eq_sum_fin_of_reset_step_apply_of_flush (fun n h => (outsAt0 m c n h).2.2.2.1) 16 (fun _ => 0) (da0Term m c) (outs10_A m c) (outs10_B m c) t ((flush0_10 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show (16 * (t.val / 16) + s.val) * 256 + k.val = s.val * 256 + k.val; have := s.isLt; omega)
  show arg6 m c (ix2 (row _ k) y1) = _
  rw [e1]; rfl

theorem final11 : (dats m 0 c).arrAt 11 cfg0.N = daOut (arg4 m c) (arg6 m c) := by
  refine (dats m 0 c).arrAt_eq_of_covers 11 _ (by decide +kernel) fun t hf y => ?_
  blk_simp
  rw [after0_11]
  have hN := points t
  idx_vars y
  have e : (win0_11.blk t).view.emb (ix2 y0 y1) = ix2 y0 y1 := by blk_ext [idx11]
  rw [e]
  refine (Pipeline.eq_sum_fin_of_reset_step_apply_of_flush (fun n h => (outsAt0 m c n h).2.2.2.2) 16 (fun _ => 0) (daTerm m c) (outs11_A m c) (outs11_B m c) t ((flush0_11 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show (16 * (t.val / 16) + s.val) * 256 + k.val = s.val * 256 + k.val; have := s.isLt; omega)
  show arg4 m c (ix2 (row _ k) y0) * arg6 m c (ix2 (row _ k) y1) = _
  rw [e1]; rfl

/-! ## The claims -/

theorem values : Cert.algebraic_Kernel15Ideal_Reference15Ideal := by
  intro m ρ m' ρ' _ hagree
  refine ⟨fun c => dxOut (arg1 m c) (arg3 m c) (arg4 m c) (arg5 m c) (arg6 m c), fun c => dbOut (arg5 m c), fun c => dwOut (arg4 m c) (arg5 m c), fun c => dbOut (arg6 m c),
    fun c => daOut (arg4 m c) (arg6 m c), ?_, ?_⟩
  · refine (θ_run _ _ _).mono (fun r h c => ?_) (Cert.Kernel15Ideal.Value.run_blocks m ρ)
    obtain ⟨h0, h1, h2, h3, h4, hk⟩ := h c
    exact ⟨h0.trans (final7 m c), h1.trans (final8 m c), h2.trans (final9 m c), h3.trans (final10 m c), h4.trans (final11 m c), hk⟩
  · refine (θ_run _ _ _).mono (fun r h c => ?_) (Cert.Reference15Ideal.Value.run m' ρ')
    obtain ⟨h0, h1, h2, h3, h4, hk⟩ := h c
    obtain ⟨e0, e1, e2, e3, e4, e5, e6⟩ := hagree c
    refine ⟨h0.trans ?_, h1.trans ?_, h2.trans ?_, h3.trans ?_, h4.trans ?_, hk⟩ <;> clear h h0 h1 h2 h3 h4 hk
    · rw [e1, e3, e4, e5, e6]
      funext j; idx_vars j; pointwise [dxOut, dxAt]
    · rw [e5]
      funext j; idx_vars j; pointwise [dbOut]
      exact Fin.sum_univ_one _
    · rw [e4, e5]
      funext j; idx_vars j; pointwise [dwOut]
      exact Finset.sum_congr rfl fun _ _ => mul_comm _ _
    · rw [e6]
      funext j; idx_vars j; pointwise [dbOut]
      exact Fin.sum_univ_one _
    · rw [e4, e6]
      funext j; idx_vars j; pointwise [daOut]
      exact Finset.sum_congr rfl fun _ _ => mul_comm _ _

theorem frame_reference : Cert.quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run (F := Ideal) m ρ)

end Cert.LoraUp
-- ==== Proof.AdamwSmall.lean ====
module

public import proofs.«01_k».proof.Defs
public import proofs.«01_k».proof.Proof.Gen.Kernel16Ideal.Value
public import proofs.«01_k».proof.Proof.Gen.Reference16Ideal.Run
public import Idealize.ShloMosaic.Lib.Tactic
public import Idealize.ShloMosaic.Lib.Pointwise
public import Idealize.ShloMosaic.Lib.Quiescent

/-! The optimiser's update of the seventeen small weights, packed into one array: each element of the three results from the elements at its place. -/

@[expose] public section

set_option maxRecDepth 16384

noncomputable section

namespace Cert.AdamwSmall

open Idealize.ShloMosaic Idealize.ShloMosaic.TcCoe Idealize.ShloMosaic.Tactic Idealize.SL.Sem
open Cert.Kernel16Ideal Cert.Kernel16Ideal.Gen

theorem values : Cert.algebraic_Kernel16Ideal_Reference16Ideal := by
  intro m ρ m' ρ' _ hagree
  refine ⟨_, _, _, Cert.Kernel16Ideal.Value.run m ρ, ?_⟩
  refine (θ_run _ _ _).mono (fun r h c => ⟨(h c).1.trans ?_, (h c).2.1.trans ?_, (h c).2.2.1.trans ?_, (h c).2.2.2⟩) (Cert.Reference16Ideal.Value.run m' ρ')
  all_goals obtain ⟨e0, e1, e2, e3⟩ := hagree c
  · rw [e0, e1, e2, e3]; rfl
  · rw [e1, e2]; rfl
  · rw [e1, e3]; rfl

theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

end Cert.AdamwSmall
-- ==== Proof.AdamwWOut.lean ====
module

public import proofs.«01_k».proof.Defs
public import proofs.«01_k».proof.Proof.Gen.Kernel17Ideal.Value
public import proofs.«01_k».proof.Proof.Gen.Reference17Ideal.Run
public import Idealize.ShloMosaic.Lib.Tactic
public import Idealize.ShloMosaic.Lib.Pointwise
public import Idealize.ShloMosaic.Lib.Quiescent

/-! The optimiser's update of the output weights: each element of the three results from the elements at its place. -/

@[expose] public section

set_option maxRecDepth 16384

noncomputable section

namespace Cert.AdamwWOut

open Idealize.ShloMosaic Idealize.ShloMosaic.TcCoe Idealize.ShloMosaic.Tactic Idealize.SL.Sem
open Cert.Kernel17Ideal Cert.Kernel17Ideal.Gen

theorem values : Cert.algebraic_Kernel17Ideal_Reference17Ideal := by
  intro m ρ m' ρ' _ hagree
  refine ⟨_, _, _, Cert.Kernel17Ideal.Value.run m ρ, ?_⟩
  refine (θ_run _ _ _).mono (fun r h c => ⟨(h c).1.trans ?_, (h c).2.1.trans ?_, (h c).2.2.1.trans ?_, (h c).2.2.2⟩) (Cert.Reference17Ideal.Value.run m' ρ')
  all_goals obtain ⟨e0, e1, e2, e3⟩ := hagree c
  · rw [e0, e1, e2, e3]; rfl
  · rw [e1, e2]; rfl
  · rw [e1, e3]; rfl

theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

end Cert.AdamwWOut
-- ==== Proof.AdamwWPw2.lean ====
module

public import proofs.«01_k».proof.Defs
public import proofs.«01_k».proof.Proof.Gen.Kernel18Ideal.Value
public import proofs.«01_k».proof.Proof.Gen.Reference18Ideal.Run
public import Idealize.ShloMosaic.Lib.Tactic
public import Idealize.ShloMosaic.Lib.Pointwise
public import Idealize.ShloMosaic.Lib.Quiescent

/-! The optimiser's update of the pointwise weights: each element of the three results from the elements at its place. -/

@[expose] public section

set_option maxRecDepth 16384

noncomputable section

namespace Cert.AdamwWPw2

open Idealize.ShloMosaic Idealize.ShloMosaic.TcCoe Idealize.ShloMosaic.Tactic Idealize.SL.Sem
open Cert.Kernel18Ideal Cert.Kernel18Ideal.Gen

theorem values : Cert.algebraic_Kernel18Ideal_Reference18Ideal := by
  intro m ρ m' ρ' _ hagree
  refine ⟨_, _, _, Cert.Kernel18Ideal.Value.run m ρ, ?_⟩
  refine (θ_run _ _ _).mono (fun r h c => ⟨(h c).1.trans ?_, (h c).2.1.trans ?_, (h c).2.2.1.trans ?_, (h c).2.2.2⟩) (Cert.Reference18Ideal.Value.run m' ρ')
  all_goals obtain ⟨e0, e1, e2, e3⟩ := hagree c
  · rw [e0, e1, e2, e3]; rfl
  · rw [e1, e2]; rfl
  · rw [e1, e3]; rfl

theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

end Cert.AdamwWPw2
-- ==== Proof.Shift.lean ====
module

public import Idealize.ShloMosaic.PureOps.Ideal
public import Idealize.ShloMosaic.Lib.Tactic
public import Idealize.ShloMosaic.Lib.Pointwise
public import Idealize.ShloMosaic.Lib.WordCmp

/-! Facts about single numbers that the four backward passes of the token shift use. -/

@[expose] public section

namespace Cert.Shift

open Idealize.ShloMosaic

/-- A choice by the equality of two small words is a choice by the equality of their values. -/
theorem pick {α : Type} (n k : ℕ) (hn : n < 2 ^ 32) (hk : k < 2 ^ 32) (x y : α) :
    Scalar.select (IntOp.cmpi .eq (BitVec.ofNat 32 n) (BitVec.ofNat 32 k)) x y = if n = k then x else y := by
  unfold Scalar.select
  exact if_congr (WordCmp.cmpi_eq_ofNat_eq_one_iff hn hk) rfl rfl

/-- The weight `1 - m` of a finite factor distributes, whatever `m` is. -/
theorem mul_one_sub (x m : EReal) (h1 : x ≠ ⊤) (h2 : x ≠ ⊥) : x * (1 - m) = x + -(x * m) := by
  lift x to ℝ using ⟨h1, h2⟩
  induction m with
  | coe m =>
    norm_cast
    ring
  | bot =>
    have e : (1 : EReal) - ⊥ = ⊤ := by rw [sub_eq_add_neg, EReal.neg_bot, ← EReal.coe_one, EReal.coe_add_top]
    rw [e]
    rcases lt_trichotomy x 0 with h | h | h
    · rw [EReal.coe_mul_top_of_neg h, EReal.coe_mul_bot_of_neg h]; simp
    · subst h; simp
    · rw [EReal.coe_mul_top_of_pos h, EReal.coe_mul_bot_of_pos h]; simp
  | top =>
    have e : (1 : EReal) - ⊤ = ⊥ := by simp
    rw [e]
    rcases lt_trichotomy x 0 with h | h | h
    · rw [EReal.coe_mul_top_of_neg h, EReal.coe_mul_bot_of_neg h]; simp
    · subst h; simp
    · rw [EReal.coe_mul_top_of_pos h, EReal.coe_mul_bot_of_pos h]; simp

/-- The word of the infinity that the precondition compares with. -/
theorem inf_word : Ideal.ofBits .f32 0x7F800000#32 = (⊤ : EReal) := by
  simp [Ideal.ofBits, Ideal.ieee]

/-- A number whose absolute value is below infinity is neither infinity. -/
theorem finite_of_cmp (x : EReal) (h : Ideal.cmp .olt (max x (-x)) (Ideal.ofBits .f32 0x7F800000#32) = 1#1) : x ≠ ⊤ ∧ x ≠ ⊥ := by
  rw [inf_word] at h
  unfold Ideal.cmp at h
  have h' : max x (-x) < ⊤ := by
    by_contra hn
    simp [hn] at h
  constructor
  · rintro rfl; simp at h'
  · rintro rfl; simp at h'

end Cert.Shift
-- ==== Proof.ShiftR.lean ====
module

public import proofs.«01_k».proof.Defs
public import proofs.«01_k».proof.Proof.Gen.Kernel19Ideal.Value
public import proofs.«01_k».proof.Proof.Gen.Reference19Ideal.Run
public import proofs.«01_k».proof.Proof.Gen.Pre_finite_r
public import proofs.«01_k».proof.Proof.Shift
public import Idealize.ShloMosaic.Lib.Tactic
public import Idealize.ShloMosaic.Lib.Pointwise
public import Idealize.ShloMosaic.Lib.Pipeline.ValueKit
public import Idealize.ShloMosaic.Lib.Quiescent

/-! The backward pass of the token shift of the receptance columns. -/

@[expose] public section

set_option maxRecDepth 16384

noncomputable section

namespace Cert.ShiftR

open Idealize.ShloMosaic Idealize.ShloMosaic.TcCoe Idealize.ShloMosaic.Tactic Idealize.ShloMosaic.ValueKit Idealize.SL.Sem
open Cert.Kernel19Ideal Cert.Kernel19Ideal.Gen

/-- An array at the ideal instance. -/
abbrev V (S : Shape) (e : EltTy) := Vec Ideal S e

/-! ## The two results -/

section Results

variable (M : V S2048 .f32) (X : V S4096x14592 .f32) (D : V S4096x2048 .f32)

/-- The projection's entry in row `p` of the shifted columns. -/
def xAt (p : Fin 4096) (q : Fin 2048) : Ideal .f32 := X (ix2 p ⟨q.val, by omega⟩)

/-- The entry one row before, zero before the first row. -/
def prevAt (p : Fin 4096) (q : Fin 2048) : Ideal .f32 := if p.val = 0 then 0 else xAt X ⟨p.val - 1, by omega⟩ q

/-- The gradient one row after, zero after the last row. -/
def nextAt (p : Fin 4096) (q : Fin 2048) : Ideal .f32 := if h : p.val < 4095 then D (ix2 ⟨p.val + 1, by omega⟩ q) else 0

/-- The gradient of the shifted columns. -/
def dxAt (p : Fin 4096) (q : Fin 2048) : Ideal .f32 := D (ix2 p q) * (1 - M (ix1 q)) + nextAt D p q * M (ix1 q)

/-- The gradient of the shifted columns as an array. -/
def dxOut : V S4096x2048 .bf16 := fun j => dxAt M D (j 0) (j 1)

/-- The gradient of the mixing weights. -/
def dmuOut : V S1x2048 .f32 := fun j => ∑ p : Fin 4096, D (ix2 p (j 1)) * (prevAt X p (j 1) - xAt X p (j 1))

/-- The shifted columns' gradient as the reference adds it up, for a finite gradient of the output. -/
theorem dx_ref (hd : ∀ p q, D (ix2 p q) ≠ ⊤ ∧ D (ix2 p q) ≠ ⊥) (p : Fin 4096) (q : Fin 2048) :
    D (ix2 p q) + -(D (ix2 p q) * M (ix1 q)) + (if h : p.val < 4095 then D (ix2 ⟨1 + p.val, by omega⟩ q) * M (ix1 q) else 0) = dxAt M D p q := by
  unfold dxAt nextAt
  refine congrArg₂ (· + ·) (Shift.mul_one_sub _ _ (hd p q).1 (hd p q).2).symm ?_
  by_cases h : p.val < 4095
  · rw [dif_pos h, dif_pos h]
    exact congrArg (fun r => D (ix2 r q) * M (ix1 q)) (Fin.ext (Nat.add_comm 1 p.val))
  · rw [dif_neg h, dif_neg h]
    exact (zero_mul _).symm

/-- The mixing weights' gradient as the reference adds it up. -/
theorem dmu_ref (q : Fin 2048) :
    (0 - X (ix2 0 ⟨q.val, by omega⟩)) * D (ix2 0 q)
        + ∑ x : Fin 4095, (X (ix2 ⟨x.val, by omega⟩ ⟨q.val, by omega⟩) - X (ix2 ⟨1 + x.val, by omega⟩ ⟨q.val, by omega⟩)) * D (ix2 ⟨1 + x.val, by omega⟩ q)
      = ∑ p : Fin 4096, D (ix2 p q) * (prevAt X p q - xAt X p q) := by
  refine Eq.trans ?_ (Fin.sum_univ_succ (n := 4095) _).symm
  refine congrArg₂ (· + ·) ?_ (Finset.sum_congr rfl fun x _ => ?_)
  · have e : prevAt X (0 : Fin 4096) q = 0 := if_pos rfl
    exact (mul_comm _ _).trans (congrArg (fun a => D (ix2 0 q) * (a - xAt X 0 q)) e.symm)
  · have e : (⟨1 + x.val, by omega⟩ : Fin 4096) = x.succ := Fin.ext (Nat.add_comm 1 x.val)
    have e1 : prevAt X (x.succ : Fin 4096) q = xAt X ⟨x.val, by omega⟩ q := if_neg (Nat.succ_ne_zero x.val)
    rw [e]
    exact (mul_comm _ _).trans (congrArg (fun a => D (ix2 x.succ q) * (a - xAt X x.succ q)) e1.symm)

end Results

variable (m : (ℓ : Loc nD τ sig) → Buf (Elt Ideal) ℓ) (c : Dev nD)

/-- The arguments as launched. -/
abbrev arg0 : V S2048 .f32 := m ((c : Thread nD τ).loc main_arg0)
abbrev arg1 : V S4096x14592 .f32 := m ((c : Thread nD τ).loc main_arg1)
abbrev arg2 : V S4096x2048 .f32 := m ((c : Thread nD τ).loc main_arg2)

/-! ## The blocks of a grid point -/

theorem idx0 : ∀ t : Fin cfg0.N, win0_0.index t = ![0, t.val / 16] := (by decide +kernel : ∀ t : Fin grid0.N, _)
theorem idx1 : ∀ t : Fin cfg0.N, win0_1.index t = ![t.val % 16, 0 + t.val / 16] := (by decide +kernel : ∀ t : Fin grid0.N, _)
theorem idx2 : ∀ t : Fin cfg0.N, win0_2.index t = ![32 * (t.val % 16) - 1, 0 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![min (32 * (t.val % 16) + 32) 511, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![0, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 64 := lt_of_lt_of_eq t.isLt N_0

/-- Column `l` of the block of columns that point `t` works on. -/
def col (t : Fin cfg0.N) (l : Fin 512) : Fin 2048 := ⟨512 * (t.val / 16) + l.val, by have := points t; omega⟩

/-- Row `r` of the block of rows that point `t` works on. -/
def row (t : Fin cfg0.N) (r : Fin 256) : Fin 4096 := ⟨256 * (t.val % 16) + r.val, by omega⟩

theorem mu_entry : Gen.V m c main_v0 = shapeCast S1x2048 (arg0 m c) shapeCasts_S2048_S1x2048 := by
  unfold Gen.V hostOps0
  after_results_simp
  rfl

theorem blk0 (t : Fin cfg0.N) (l : Fin 512) : (show V S1x512 .f32 from iblk m c 0 t) (ix2 0 l) = arg0 m c (ix1 (col t l)) := by
  have := points t
  blk_simp [iblk]
  have e : (win0_0.blk t).view.emb (ix2 (0 : Fin 1) l) = ix2 (0 : Fin 1) (col t l) := by
    unfold col
    blk_ext [idx0]
  rw [e, mu_entry]
  pointwise []

theorem blk1 (t : Fin cfg0.N) (r : Fin 256) (l : Fin 512) : (show V S256x512 .f32 from X0_1 m c t) (ix2 r l) = xAt (arg1 m c) (row t r) (col t l) := by
  have := points t
  dsimp only
  unfold X0_1 Pipeline.Window.fill; rw [dif_pos (moved0_1 t _)]
  blk_simp [iblk]
  rw [V_main_arg1]
  refine congrArg (arg1 m c) ?_
  unfold row col
  blk_ext [idx1]

theorem blk2 (t : Fin cfg0.N) (ht : ¬t.val % 16 = 0) (l : Fin 512) :
    (show V S1x512 .f32 from View.ld (X0_2 m c t) (Rect.unit ![7, 0] ![1, 512] inb_S8x512_S1x512_7_0)) (ix2 0 l)
      = xAt (arg1 m c) ⟨256 * (t.val % 16) - 1, by omega⟩ (col t l) := by
  have := points t
  refine Eq.trans (b := (show V S8x512 .f32 from X0_2 m c t) (ix2 7 l)) ?_ ?_
  · exact View.ld_unit_apply_of (X0_2 m c t) _ _ _ _ _ (fun a => by fin_cases a <;> simp)
  dsimp only
  unfold X0_2 Pipeline.Window.fill; rw [dif_pos (moved0_2 t _)]
  blk_simp [iblk]
  rw [V_main_arg1]
  refine congrArg (arg1 m c) ?_
  unfold col
  blk_ext [idx2]

theorem blk3 (t : Fin cfg0.N) (r : Fin 256) (l : Fin 512) : (show V S256x512 .f32 from iblk m c 3 t) (ix2 r l) = arg2 m c (ix2 (row t r) (col t l)) := by
  have := points t
  blk_simp [iblk]
  rw [V_main_arg2]
  refine congrArg (arg2 m c) ?_
  unfold row col
  blk_ext [idx3]

theorem blk4 (t : Fin cfg0.N) (ht : ¬t.val % 16 = 15) (l : Fin 512) :
    (show V S1x512 .f32 from View.ld (iblk m c 4 t) (Rect.unit ![0, 0] ![1, 512] inb_S8x512_S1x512_0_0)) (ix2 0 l)
      = arg2 m c (ix2 ⟨256 * (t.val % 16) + 256, by omega⟩ (col t l)) := by
  have := points t
  refine Eq.trans (b := (show V S8x512 .f32 from iblk m c 4 t) (ix2 0 l)) ?_ ?_
  · exact View.ld_unit_apply_of (iblk m c 4 t) _ _ _ _ _ (fun a => by fin_cases a <;> simp)
  blk_simp [iblk]
  rw [V_main_arg2]
  refine congrArg (arg2 m c) ?_
  unfold col
  blk_ext [idx4]

/-! ## What a point computes -/

/-- The rows that point `t` reads as the previous ones. -/
abbrev prevBlk (t : Fin cfg0.N) : V S256x512 .f32 :=
  k0_pay3 (F := Ideal) (grid0.coords t) (X0_1 m c t) (View.ld (X0_2 m c t) (Rect.unit ![7, 0] ![1, 512] inb_S8x512_S1x512_7_0))

/-- The gradient that point `t` writes. -/
abbrev dxBlk (t : Fin cfg0.N) : V S256x512 .bf16 :=
  k0_pay4 (F := Ideal) (grid0.coords t) (iblk m c 3 t) (View.ld (iblk m c 4 t) (Rect.unit ![0, 0] ![1, 512] inb_S8x512_S1x512_0_0)) (iblk m c 0 t)

theorem prev_at (t : Fin cfg0.N) (r : Fin 256) (l : Fin 512) : prevBlk m c t (ix2 r l) = prevAt (arg1 m c) (row t r) (col t l) := by
  have e : ∀ (x : V S256x512 .f32) (y : V S1x512 .f32), k0_pay3 (F := Ideal) (grid0.coords t) x y (ix2 r l)
      = if r.val = 0 then (if t.val % 16 = 0 then 0 else y (ix2 0 l)) else x (ix2 ⟨(r.val + 256 - 1) % 256, Nat.mod_lt _ (by decide)⟩ l) := fun x y => by
    pointwise [k0_pay3]
    rw [coord1 t]
    refine (Shift.pick r.val 0 (by omega) (by decide) _ _).trans (if_congr Iff.rfl ?_ rfl)
    exact Shift.pick (t.val % 16) 0 (by omega) (by decide) _ _
  refine (e _ _).trans ?_
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem dx_at (t : Fin cfg0.N) (r : Fin 256) (l : Fin 512) : dxBlk m c t (ix2 r l) = dxAt (arg0 m c) (arg2 m c) (row t r) (col t l) := by
  have e : ∀ (x : V S256x512 .f32) (y z : V S1x512 .f32), k0_pay4 (F := Ideal) (grid0.coords t) x y z (ix2 r l)
      = x (ix2 r l) * (1 - z (ix2 0 l)) + (if r.val = 255 then (if t.val % 16 = 15 then 0 else y (ix2 0 l)) else x (ix2 ⟨(r.val + 256 - 255) % 256, Nat.mod_lt _ (by decide)⟩ l)) * z (ix2 0 l) := fun x y z => by
    pointwise [k0_pay4]
    rw [coord1 t]
    refine congrArg (fun a : Ideal .f32 => x (ix2 r l) * (1 - z (ix2 0 l)) + a * z (ix2 0 l)) ?_
    refine (Shift.pick r.val 255 (by omega) (by decide) _ _).trans (if_congr Iff.rfl ?_ rfl)
    exact Shift.pick (t.val % 16) 15 (by omega) (by decide) _ _
  refine (e _ _ _).trans ?_
  unfold dxAt
  have hr : (row t r).val = 256 * (t.val % 16) + r.val := rfl
  have en : (if r.val = 255 then (if t.val % 16 = 15 then 0 else (show V S1x512 .f32 from View.ld (iblk m c 4 t) (Rect.unit ![0, 0] ![1, 512] inb_S8x512_S1x512_0_0)) (ix2 0 l))
      else (show V S256x512 .f32 from iblk m c 3 t) (ix2 ⟨(r.val + 256 - 255) % 256, Nat.mod_lt _ (by decide)⟩ l)) = nextAt (arg2 m c) (row t r) (col t l) := by
    unfold nextAt
    by_cases h : r.val = 255
    · rw [if_pos h]
      by_cases ht : t.val % 16 = 15
      · rw [if_pos ht, dif_neg (by omega)]
      · rw [if_neg ht, dif_pos (by omega)]
        refine (blk4 m c t ht l).trans (congrArg (fun p => arg2 m c (ix2 p (col t l))) (Fin.ext ?_))
        show 256 * (t.val % 16) + 256 = (row t r).val + 1
        omega
    · rw [if_neg h, dif_pos (by omega)]
      refine (blk3 m c t _ l).trans (congrArg (fun p => arg2 m c (ix2 p (col t l))) (Fin.ext ?_))
      show 256 * (t.val % 16) + (r.val + 256 - 255) % 256 = (row t r).val + 1
      omega
  exact congrArg₂ (· + ·) (congrArg₂ (fun a b : Ideal .f32 => a * (1 - b)) (blk3 m c t r l) (blk0 m c t l)) (congrArg₂ (· * ·) en (blk0 m c t l))

theorem outs5 (t : Fin cfg0.N) : (outsAt0 m c t.val t.isLt).1 = dxBlk m c t := by
  by_cases h0 : t.val % 16 = 0
  · rw [outsAt0_A m c t h0]; dsimp only; unfold out0_A_5; frame_open
    simp (disch := decide) only [View.readCov_unit_lit', View.read_writes_junk_eq_canon, View.canon_cons_unit_lit', View.ld_unit_lit', View.readAt_eq_ld, Memref.IsWhole.read_unread]
    rfl
  · rw [outsAt0_B m c t h0]; dsimp only; unfold out0_B_5; frame_open
    simp (disch := decide) only [View.readCov_unit_lit', View.read_writes_junk_eq_canon, View.canon_cons_unit_lit', View.ld_unit_lit', View.readAt_eq_ld, Memref.IsWhole.read_unread]
    rfl

/-- What point `t` adds to the gradient of the mixing weights. -/
def muTerm (t : Fin cfg0.N) : V S1x512 .f32 := fun y =>
  ∑ r : Fin 256, arg2 m c (ix2 (row t r) (col t (y 1))) * (prevAt (arg1 m c) (row t r) (col t (y 1)) - xAt (arg1 m c) (row t r) (col t (y 1)))

theorem muTerm_at (t : Fin cfg0.N) (A : V S1x512 .f32) (y : S1x512.Idx) :
    k0_pay2 (F := Ideal) (X0_1 m c t) (prevBlk m c t) (iblk m c 3 t) A y = A y + muTerm m c t y := by
  idx_vars y
  obtain rfl : y0 = 0 := Subsingleton.elim _ _
  have e : ∀ x p d : V S256x512 .f32, k0_pay2 (F := Ideal) x p d A (ix2 0 y1) = A (ix2 0 y1) + ∑ r : Fin 256, d (ix2 r y1) * (p (ix2 r y1) - x (ix2 r y1)) := fun x p d => by
    pointwise [k0_pay2]
  refine (e _ _ _).trans (congrArg (A (ix2 0 y1) + ·) ?_)
  exact Finset.sum_congr rfl fun r _ => congrArg₂ (· * ·) (blk3 m c t r y1) (congrArg₂ (· - ·) (prev_at m c t r y1) (blk1 m c t r y1))

theorem outs6_A (t : Fin cfg0.N) (h0 : t.val % 16 = 0) (y) : (outsAt0 m c t.val t.isLt).2 y = 0 + muTerm m c t y := by
  rw [outsAt0_A m c t h0]; dsimp only; unfold out0_A_6; frame_open
  simp (disch := decide) only [View.readCov_unit_lit', View.read_writes_junk_eq_canon, View.canon_cons_unit_lit', View.ld_unit_lit', View.readAt_eq_ld, Memref.IsWhole.read_unread]
  refine (muTerm_at m c t _ y).trans (congrArg (· + muTerm m c t y) ?_)
  idx_vars y; pointwise [k0_pay1]

theorem outs6_B (t : Fin cfg0.N) (h0 : ¬t.val % 16 = 0) (y) : (outsAt0 m c t.val t.isLt).2 y
    = (outsAt0 m c (t.val - 1) (Nat.lt_of_le_of_lt (Nat.sub_le _ _) t.isLt)).2 y + muTerm m c t y := by
  rw [outsAt0_B m c t h0]; dsimp only; unfold out0_B_6; frame_open
  simp (disch := decide) only [View.readCov_unit_lit', View.read_writes_junk_eq_canon, View.canon_cons_unit_lit', View.ld_unit_lit', View.readAt_eq_ld, Memref.IsWhole.read_unread]
  exact muTerm_at m c t _ y

/-! ## The whole arrays -/

theorem final5 : (dats m 0 c).arrAt 5 cfg0.N = dxOut (arg0 m c) (arg2 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) (col t y1) := by unfold row col; blk_ext [idx5]
  rw [e, outs5]
  exact dx_at m c t y0 y1

theorem final6 : (dats m 0 c).arrAt 6 cfg0.N = dmuOut (arg1 m c) (arg2 m c) := by
  refine (dats m 0 c).arrAt_eq_of_covers 6 _ (by decide +kernel) fun t hf y => ?_
  blk_simp
  rw [after0_6]
  have hN := points t
  idx_vars y
  obtain rfl : y0 = 0 := Subsingleton.elim _ _
  have e : (win0_6.blk t).view.emb (ix2 (0 : Fin 1) y1) = ix2 (0 : Fin 1) (col t y1) := by unfold col; blk_ext [idx6]
  rw [e]
  refine (Pipeline.eq_sum_fin_of_reset_step_apply_of_flush (fun n h => (outsAt0 m c n h).2) 16 (fun _ => 0) (muTerm m c) (outs6_A m c) (outs6_B m c) t ((flush0_6 t).mp hf) (ix2 0 y1)).trans ?_
  rw [zero_add]
  refine Fin.sum_mul_add_congr fun s k hl => ?_
  have hs := s.isLt
  have e0 : (16 * (t.val / 16) + s.val) % 16 = s.val := by omega
  have e1 : row (⟨16 * (t.val / 16) + s.val, lt_of_lt_of_eq (by omega) N_0.symm⟩ : Fin cfg0.N) k = ⟨s.val * 256 + k.val, hl⟩ := Fin.ext (by
    show 256 * ((16 * (t.val / 16) + s.val) % 16) + k.val = s.val * 256 + k.val; omega)
  have e2 : col (⟨16 * (t.val / 16) + s.val, lt_of_lt_of_eq (by omega) N_0.symm⟩ : Fin cfg0.N) y1 = col t y1 := Fin.ext (by
    show 512 * ((16 * (t.val / 16) + s.val) / 16) + y1.val = 512 * (t.val / 16) + y1.val; omega)
  show arg2 m c (ix2 (row _ k) (col _ y1)) * (prevAt (arg1 m c) (row _ k) (col _ y1) - xAt (arg1 m c) (row _ k) (col _ y1)) = _
  rw [e1, e2]; rfl

/-! ## The claims -/

theorem values : Cert.algebraic_Kernel19Ideal_Reference19Ideal_pre_finite_r := by
  intro m ρ m' ρ' hp hagree
  refine ⟨fun c => dxOut (arg0 m c) (arg2 m c), fun c => dmuOut (arg1 m c) (arg2 m c), ?_, ?_⟩
  · refine (θ_run _ _ _).mono (fun r h c => ?_) (Cert.Kernel19Ideal.Value.run_blocks m ρ)
    obtain ⟨h0, h1, hk⟩ := h c
    exact ⟨h0.trans (final5 m c), h1.trans (final6 m c), hk⟩
  · refine (θ_run _ _ _).mono (fun r h c => ?_) (Cert.Reference19Ideal.Value.run m' ρ')
    obtain ⟨h0, h1, hk⟩ := h c
    obtain ⟨e0, e1, e2⟩ := hagree c
    have hd : ∀ p q, arg2 m c (ix2 p q) ≠ ⊤ ∧ arg2 m c (ix2 p q) ≠ ⊥ := fun p q =>
      Shift.finite_of_cmp _ (congrFun (hp c) (ix2 p q))
    refine ⟨h0.trans ?_, h1.trans ?_, hk⟩ <;> clear h h0 h1 hk
    · rw [e0, e2]
      funext j; idx_vars j; pointwise []
      exact dx_ref _ _ hd j0 j1
    · rw [e1, e2]
      funext j; idx_vars j; pointwise []
      rw [Fin.sum_univ_one, Fin.sum_univ_one]
      exact dmu_ref _ _ j1

theorem frame_reference : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

end Cert.ShiftR
-- ==== Proof.ShiftK.lean ====
module

public import proofs.«01_k».proof.Defs
public import proofs.«01_k».proof.Proof.Gen.Kernel20Ideal.Value
public import proofs.«01_k».proof.Proof.Gen.Reference20Ideal.Run
public import proofs.«01_k».proof.Proof.Gen.Pre_finite_k
public import proofs.«01_k».proof.Proof.Shift
public import Idealize.ShloMosaic.Lib.Tactic
public import Idealize.ShloMosaic.Lib.Pointwise
public import Idealize.ShloMosaic.Lib.Pipeline.ValueKit
public import Idealize.ShloMosaic.Lib.Quiescent

/-! The backward pass of the token shift of the key columns. -/

@[expose] public section

set_option maxRecDepth 16384

noncomputable section

namespace Cert.ShiftK

open Idealize.ShloMosaic Idealize.ShloMosaic.TcCoe Idealize.ShloMosaic.Tactic Idealize.ShloMosaic.ValueKit Idealize.SL.Sem
open Cert.Kernel20Ideal Cert.Kernel20Ideal.Gen

/-- An array at the ideal instance. -/
abbrev V (S : Shape) (e : EltTy) := Vec Ideal S e

/-! ## The two results -/

section Results

variable (M : V S2048 .f32) (X : V S4096x14592 .f32) (D : V S4096x2048 .f32)

/-- The projection's entry in row `p` of the shifted columns. -/
def xAt (p : Fin 4096) (q : Fin 2048) : Ideal .f32 := X (ix2 p ⟨2048 + q.val, by omega⟩)

/-- The entry one row before, zero before the first row. -/
def prevAt (p : Fin 4096) (q : Fin 2048) : Ideal .f32 := if p.val = 0 then 0 else xAt X ⟨p.val - 1, by omega⟩ q

/-- The gradient one row after, zero after the last row. -/
def nextAt (p : Fin 4096) (q : Fin 2048) : Ideal .f32 := if h : p.val < 4095 then D (ix2 ⟨p.val + 1, by omega⟩ q) else 0

/-- The gradient of the shifted columns. -/
def dxAt (p : Fin 4096) (q : Fin 2048) : Ideal .f32 := D (ix2 p q) * (1 - M (ix1 q)) + nextAt D p q * M (ix1 q)

/-- The gradient of the shifted columns as an array. -/
def dxOut : V S4096x2048 .bf16 := fun j => dxAt M D (j 0) (j 1)

/-- The gradient of the mixing weights. -/
def dmuOut : V S1x2048 .f32 := fun j => ∑ p : Fin 4096, D (ix2 p (j 1)) * (prevAt X p (j 1) - xAt X p (j 1))

/-- The shifted columns' gradient as the reference adds it up, for a finite gradient of the output. -/
theorem dx_ref (hd : ∀ p q, D (ix2 p q) ≠ ⊤ ∧ D (ix2 p q) ≠ ⊥) (p : Fin 4096) (q : Fin 2048) :
    D (ix2 p q) + -(D (ix2 p q) * M (ix1 q)) + (if h : p.val < 4095 then D (ix2 ⟨1 + p.val, by omega⟩ q) * M (ix1 q) else 0) = dxAt M D p q := by
  unfold dxAt nextAt
  refine congrArg₂ (· + ·) (Shift.mul_one_sub _ _ (hd p q).1 (hd p q).2).symm ?_
  by_cases h : p.val < 4095
  · rw [dif_pos h, dif_pos h]
    exact congrArg (fun r => D (ix2 r q) * M (ix1 q)) (Fin.ext (Nat.add_comm 1 p.val))
  · rw [dif_neg h, dif_neg h]
    exact (zero_mul _).symm

/-- The mixing weights' gradient as the reference adds it up. -/
theorem dmu_ref (q : Fin 2048) :
    (0 - X (ix2 0 ⟨2048 + q.val, by omega⟩)) * D (ix2 0 q)
        + ∑ x : Fin 4095, (X (ix2 ⟨x.val, by omega⟩ ⟨2048 + q.val, by omega⟩) - X (ix2 ⟨1 + x.val, by omega⟩ ⟨2048 + q.val, by omega⟩)) * D (ix2 ⟨1 + x.val, by omega⟩ q)
      = ∑ p : Fin 4096, D (ix2 p q) * (prevAt X p q - xAt X p q) := by
  refine Eq.trans ?_ (Fin.sum_univ_succ (n := 4095) _).symm
  refine congrArg₂ (· + ·) ?_ (Finset.sum_congr rfl fun x _ => ?_)
  · have e : prevAt X (0 : Fin 4096) q = 0 := if_pos rfl
    exact (mul_comm _ _).trans (congrArg (fun a => D (ix2 0 q) * (a - xAt X 0 q)) e.symm)
  · have e : (⟨1 + x.val, by omega⟩ : Fin 4096) = x.succ := Fin.ext (Nat.add_comm 1 x.val)
    have e1 : prevAt X (x.succ : Fin 4096) q = xAt X ⟨x.val, by omega⟩ q := if_neg (Nat.succ_ne_zero x.val)
    rw [e]
    exact (mul_comm _ _).trans (congrArg (fun a => D (ix2 x.succ q) * (a - xAt X x.succ q)) e1.symm)

end Results

variable (m : (ℓ : Loc nD τ sig) → Buf (Elt Ideal) ℓ) (c : Dev nD)

/-- The arguments as launched. -/
abbrev arg0 : V S2048 .f32 := m ((c : Thread nD τ).loc main_arg0)
abbrev arg1 : V S4096x14592 .f32 := m ((c : Thread nD τ).loc main_arg1)
abbrev arg2 : V S4096x2048 .f32 := m ((c : Thread nD τ).loc main_arg2)

/-! ## The blocks of a grid point -/

theorem idx0 : ∀ t : Fin cfg0.N, win0_0.index t = ![0, t.val / 16] := (by decide +kernel : ∀ t : Fin grid0.N, _)
theorem idx1 : ∀ t : Fin cfg0.N, win0_1.index t = ![t.val % 16, 4 + t.val / 16] := (by decide +kernel : ∀ t : Fin grid0.N, _)
theorem idx2 : ∀ t : Fin cfg0.N, win0_2.index t = ![32 * (t.val % 16) - 1, 4 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![min (32 * (t.val % 16) + 32) 511, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![0, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 64 := lt_of_lt_of_eq t.isLt N_0

/-- Column `l` of the block of columns that point `t` works on. -/
def col (t : Fin cfg0.N) (l : Fin 512) : Fin 2048 := ⟨512 * (t.val / 16) + l.val, by have := points t; omega⟩

/-- Row `r` of the block of rows that point `t` works on. -/
def row (t : Fin cfg0.N) (r : Fin 256) : Fin 4096 := ⟨256 * (t.val % 16) + r.val, by omega⟩

theorem mu_entry : Gen.V m c main_v0 = shapeCast S1x2048 (arg0 m c) shapeCasts_S2048_S1x2048 := by
  unfold Gen.V hostOps0
  after_results_simp
  rfl

theorem blk0 (t : Fin cfg0.N) (l : Fin 512) : (show V S1x512 .f32 from iblk m c 0 t) (ix2 0 l) = arg0 m c (ix1 (col t l)) := by
  have := points t
  blk_simp [iblk]
  have e : (win0_0.blk t).view.emb (ix2 (0 : Fin 1) l) = ix2 (0 : Fin 1) (col t l) := by
    unfold col
    blk_ext [idx0]
  rw [e, mu_entry]
  pointwise []

theorem blk1 (t : Fin cfg0.N) (r : Fin 256) (l : Fin 512) : (show V S256x512 .f32 from X0_1 m c t) (ix2 r l) = xAt (arg1 m c) (row t r) (col t l) := by
  have := points t
  dsimp only
  unfold X0_1 Pipeline.Window.fill; rw [dif_pos (moved0_1 t _)]
  blk_simp [iblk]
  rw [V_main_arg1]
  refine congrArg (arg1 m c) ?_
  unfold row col
  blk_ext [idx1]

theorem blk2 (t : Fin cfg0.N) (ht : ¬t.val % 16 = 0) (l : Fin 512) :
    (show V S1x512 .f32 from View.ld (X0_2 m c t) (Rect.unit ![7, 0] ![1, 512] inb_S8x512_S1x512_7_0)) (ix2 0 l)
      = xAt (arg1 m c) ⟨256 * (t.val % 16) - 1, by omega⟩ (col t l) := by
  have := points t
  refine Eq.trans (b := (show V S8x512 .f32 from X0_2 m c t) (ix2 7 l)) ?_ ?_
  · exact View.ld_unit_apply_of (X0_2 m c t) _ _ _ _ _ (fun a => by fin_cases a <;> simp)
  dsimp only
  unfold X0_2 Pipeline.Window.fill; rw [dif_pos (moved0_2 t _)]
  blk_simp [iblk]
  rw [V_main_arg1]
  refine congrArg (arg1 m c) ?_
  unfold col
  blk_ext [idx2]

theorem blk3 (t : Fin cfg0.N) (r : Fin 256) (l : Fin 512) : (show V S256x512 .f32 from iblk m c 3 t) (ix2 r l) = arg2 m c (ix2 (row t r) (col t l)) := by
  have := points t
  blk_simp [iblk]
  rw [V_main_arg2]
  refine congrArg (arg2 m c) ?_
  unfold row col
  blk_ext [idx3]

theorem blk4 (t : Fin cfg0.N) (ht : ¬t.val % 16 = 15) (l : Fin 512) :
    (show V S1x512 .f32 from View.ld (iblk m c 4 t) (Rect.unit ![0, 0] ![1, 512] inb_S8x512_S1x512_0_0)) (ix2 0 l)
      = arg2 m c (ix2 ⟨256 * (t.val % 16) + 256, by omega⟩ (col t l)) := by
  have := points t
  refine Eq.trans (b := (show V S8x512 .f32 from iblk m c 4 t) (ix2 0 l)) ?_ ?_
  · exact View.ld_unit_apply_of (iblk m c 4 t) _ _ _ _ _ (fun a => by fin_cases a <;> simp)
  blk_simp [iblk]
  rw [V_main_arg2]
  refine congrArg (arg2 m c) ?_
  unfold col
  blk_ext [idx4]

/-! ## What a point computes -/

/-- The rows that point `t` reads as the previous ones. -/
abbrev prevBlk (t : Fin cfg0.N) : V S256x512 .f32 :=
  k0_pay3 (F := Ideal) (grid0.coords t) (X0_1 m c t) (View.ld (X0_2 m c t) (Rect.unit ![7, 0] ![1, 512] inb_S8x512_S1x512_7_0))

/-- The gradient that point `t` writes. -/
abbrev dxBlk (t : Fin cfg0.N) : V S256x512 .bf16 :=
  k0_pay4 (F := Ideal) (grid0.coords t) (iblk m c 3 t) (View.ld (iblk m c 4 t) (Rect.unit ![0, 0] ![1, 512] inb_S8x512_S1x512_0_0)) (iblk m c 0 t)

theorem prev_at (t : Fin cfg0.N) (r : Fin 256) (l : Fin 512) : prevBlk m c t (ix2 r l) = prevAt (arg1 m c) (row t r) (col t l) := by
  have e : ∀ (x : V S256x512 .f32) (y : V S1x512 .f32), k0_pay3 (F := Ideal) (grid0.coords t) x y (ix2 r l)
      = if r.val = 0 then (if t.val % 16 = 0 then 0 else y (ix2 0 l)) else x (ix2 ⟨(r.val + 256 - 1) % 256, Nat.mod_lt _ (by decide)⟩ l) := fun x y => by
    pointwise [k0_pay3]
    rw [coord1 t]
    refine (Shift.pick r.val 0 (by omega) (by decide) _ _).trans (if_congr Iff.rfl ?_ rfl)
    exact Shift.pick (t.val % 16) 0 (by omega) (by decide) _ _
  refine (e _ _).trans ?_
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem dx_at (t : Fin cfg0.N) (r : Fin 256) (l : Fin 512) : dxBlk m c t (ix2 r l) = dxAt (arg0 m c) (arg2 m c) (row t r) (col t l) := by
  have e : ∀ (x : V S256x512 .f32) (y z : V S1x512 .f32), k0_pay4 (F := Ideal) (grid0.coords t) x y z (ix2 r l)
      = x (ix2 r l) * (1 - z (ix2 0 l)) + (if r.val = 255 then (if t.val % 16 = 15 then 0 else y (ix2 0 l)) else x (ix2 ⟨(r.val + 256 - 255) % 256, Nat.mod_lt _ (by decide)⟩ l)) * z (ix2 0 l) := fun x y z => by
    pointwise [k0_pay4]
    rw [coord1 t]
    refine congrArg (fun a : Ideal .f32 => x (ix2 r l) * (1 - z (ix2 0 l)) + a * z (ix2 0 l)) ?_
    refine (Shift.pick r.val 255 (by omega) (by decide) _ _).trans (if_congr Iff.rfl ?_ rfl)
    exact Shift.pick (t.val % 16) 15 (by omega) (by decide) _ _
  refine (e _ _ _).trans ?_
  unfold dxAt
  have hr : (row t r).val = 256 * (t.val % 16) + r.val := rfl
  have en : (if r.val = 255 then (if t.val % 16 = 15 then 0 else (show V S1x512 .f32 from View.ld (iblk m c 4 t) (Rect.unit ![0, 0] ![1, 512] inb_S8x512_S1x512_0_0)) (ix2 0 l))
      else (show V S256x512 .f32 from iblk m c 3 t) (ix2 ⟨(r.val + 256 - 255) % 256, Nat.mod_lt _ (by decide)⟩ l)) = nextAt (arg2 m c) (row t r) (col t l) := by
    unfold nextAt
    by_cases h : r.val = 255
    · rw [if_pos h]
      by_cases ht : t.val % 16 = 15
      · rw [if_pos ht, dif_neg (by omega)]
      · rw [if_neg ht, dif_pos (by omega)]
        refine (blk4 m c t ht l).trans (congrArg (fun p => arg2 m c (ix2 p (col t l))) (Fin.ext ?_))
        show 256 * (t.val % 16) + 256 = (row t r).val + 1
        omega
    · rw [if_neg h, dif_pos (by omega)]
      refine (blk3 m c t _ l).trans (congrArg (fun p => arg2 m c (ix2 p (col t l))) (Fin.ext ?_))
      show 256 * (t.val % 16) + (r.val + 256 - 255) % 256 = (row t r).val + 1
      omega
  exact congrArg₂ (· + ·) (congrArg₂ (fun a b : Ideal .f32 => a * (1 - b)) (blk3 m c t r l) (blk0 m c t l)) (congrArg₂ (· * ·) en (blk0 m c t l))

theorem outs5 (t : Fin cfg0.N) : (outsAt0 m c t.val t.isLt).1 = dxBlk m c t := by
  by_cases h0 : t.val % 16 = 0
  · rw [outsAt0_A m c t h0]; dsimp only; unfold out0_A_5; frame_open
    simp (disch := decide) only [View.readCov_unit_lit', View.read_writes_junk_eq_canon, View.canon_cons_unit_lit', View.ld_unit_lit', View.readAt_eq_ld, Memref.IsWhole.read_unread]
    rfl
  · rw [outsAt0_B m c t h0]; dsimp only; unfold out0_B_5; frame_open
    simp (disch := decide) only [View.readCov_unit_lit', View.read_writes_junk_eq_canon, View.canon_cons_unit_lit', View.ld_unit_lit', View.readAt_eq_ld, Memref.IsWhole.read_unread]
    rfl

/-- What point `t` adds to the gradient of the mixing weights. -/
def muTerm (t : Fin cfg0.N) : V S1x512 .f32 := fun y =>
  ∑ r : Fin 256, arg2 m c (ix2 (row t r) (col t (y 1))) * (prevAt (arg1 m c) (row t r) (col t (y 1)) - xAt (arg1 m c) (row t r) (col t (y 1)))

theorem muTerm_at (t : Fin cfg0.N) (A : V S1x512 .f32) (y : S1x512.Idx) :
    k0_pay2 (F := Ideal) (X0_1 m c t) (prevBlk m c t) (iblk m c 3 t) A y = A y + muTerm m c t y := by
  idx_vars y
  obtain rfl : y0 = 0 := Subsingleton.elim _ _
  have e : ∀ x p d : V S256x512 .f32, k0_pay2 (F := Ideal) x p d A (ix2 0 y1) = A (ix2 0 y1) + ∑ r : Fin 256, d (ix2 r y1) * (p (ix2 r y1) - x (ix2 r y1)) := fun x p d => by
    pointwise [k0_pay2]
  refine (e _ _ _).trans (congrArg (A (ix2 0 y1) + ·) ?_)
  exact Finset.sum_congr rfl fun r _ => congrArg₂ (· * ·) (blk3 m c t r y1) (congrArg₂ (· - ·) (prev_at m c t r y1) (blk1 m c t r y1))

theorem outs6_A (t : Fin cfg0.N) (h0 : t.val % 16 = 0) (y) : (outsAt0 m c t.val t.isLt).2 y = 0 + muTerm m c t y := by
  rw [outsAt0_A m c t h0]; dsimp only; unfold out0_A_6; frame_open
  simp (disch := decide) only [View.readCov_unit_lit', View.read_writes_junk_eq_canon, View.canon_cons_unit_lit', View.ld_unit_lit', View.readAt_eq_ld, Memref.IsWhole.read_unread]
  refine (muTerm_at m c t _ y).trans (congrArg (· + muTerm m c t y) ?_)
  idx_vars y; pointwise [k0_pay1]

theorem outs6_B (t : Fin cfg0.N) (h0 : ¬t.val % 16 = 0) (y) : (outsAt0 m c t.val t.isLt).2 y
    = (outsAt0 m c (t.val - 1) (Nat.lt_of_le_of_lt (Nat.sub_le _ _) t.isLt)).2 y + muTerm m c t y := by
  rw [outsAt0_B m c t h0]; dsimp only; unfold out0_B_6; frame_open
  simp (disch := decide) only [View.readCov_unit_lit', View.read_writes_junk_eq_canon, View.canon_cons_unit_lit', View.ld_unit_lit', View.readAt_eq_ld, Memref.IsWhole.read_unread]
  exact muTerm_at m c t _ y

/-! ## The whole arrays -/

theorem final5 : (dats m 0 c).arrAt 5 cfg0.N = dxOut (arg0 m c) (arg2 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) (col t y1) := by unfold row col; blk_ext [idx5]
  rw [e, outs5]
  exact dx_at m c t y0 y1

theorem final6 : (dats m 0 c).arrAt 6 cfg0.N = dmuOut (arg1 m c) (arg2 m c) := by
  refine (dats m 0 c).arrAt_eq_of_covers 6 _ (by decide +kernel) fun t hf y => ?_
  blk_simp
  rw [after0_6]
  have hN := points t
  idx_vars y
  obtain rfl : y0 = 0 := Subsingleton.elim _ _
  have e : (win0_6.blk t).view.emb (ix2 (0 : Fin 1) y1) = ix2 (0 : Fin 1) (col t y1) := by unfold col; blk_ext [idx6]
  rw [e]
  refine (Pipeline.eq_sum_fin_of_reset_step_apply_of_flush (fun n h => (outsAt0 m c n h).2) 16 (fun _ => 0) (muTerm m c) (outs6_A m c) (outs6_B m c) t ((flush0_6 t).mp hf) (ix2 0 y1)).trans ?_
  rw [zero_add]
  refine Fin.sum_mul_add_congr fun s k hl => ?_
  have hs := s.isLt
  have e0 : (16 * (t.val / 16) + s.val) % 16 = s.val := by omega
  have e1 : row (⟨16 * (t.val / 16) + s.val, lt_of_lt_of_eq (by omega) N_0.symm⟩ : Fin cfg0.N) k = ⟨s.val * 256 + k.val, hl⟩ := Fin.ext (by
    show 256 * ((16 * (t.val / 16) + s.val) % 16) + k.val = s.val * 256 + k.val; omega)
  have e2 : col (⟨16 * (t.val / 16) + s.val, lt_of_lt_of_eq (by omega) N_0.symm⟩ : Fin cfg0.N) y1 = col t y1 := Fin.ext (by
    show 512 * ((16 * (t.val / 16) + s.val) / 16) + y1.val = 512 * (t.val / 16) + y1.val; omega)
  show arg2 m c (ix2 (row _ k) (col _ y1)) * (prevAt (arg1 m c) (row _ k) (col _ y1) - xAt (arg1 m c) (row _ k) (col _ y1)) = _
  rw [e1, e2]; rfl

/-! ## The claims -/

theorem values : Cert.algebraic_Kernel20Ideal_Reference20Ideal_pre_finite_k := by
  intro m ρ m' ρ' hp hagree
  refine ⟨fun c => dxOut (arg0 m c) (arg2 m c), fun c => dmuOut (arg1 m c) (arg2 m c), ?_, ?_⟩
  · refine (θ_run _ _ _).mono (fun r h c => ?_) (Cert.Kernel20Ideal.Value.run_blocks m ρ)
    obtain ⟨h0, h1, hk⟩ := h c
    exact ⟨h0.trans (final5 m c), h1.trans (final6 m c), hk⟩
  · refine (θ_run _ _ _).mono (fun r h c => ?_) (Cert.Reference20Ideal.Value.run m' ρ')
    obtain ⟨h0, h1, hk⟩ := h c
    obtain ⟨e0, e1, e2⟩ := hagree c
    have hd : ∀ p q, arg2 m c (ix2 p q) ≠ ⊤ ∧ arg2 m c (ix2 p q) ≠ ⊥ := fun p q =>
      Shift.finite_of_cmp _ (congrFun (hp c) (ix2 p q))
    refine ⟨h0.trans ?_, h1.trans ?_, hk⟩ <;> clear h h0 h1 hk
    · rw [e0, e2]
      funext j; idx_vars j; pointwise []
      exact dx_ref _ _ hd j0 j1
    · rw [e1, e2]
      funext j; idx_vars j; pointwise []
      rw [Fin.sum_univ_one, Fin.sum_univ_one]
      exact dmu_ref _ _ j1

theorem frame_reference : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

end Cert.ShiftK
-- ==== Proof.ShiftV.lean ====
module

public import proofs.«01_k».proof.Defs
public import proofs.«01_k».proof.Proof.Gen.Kernel21Ideal.Value
public import proofs.«01_k».proof.Proof.Gen.Reference21Ideal.Run
public import proofs.«01_k».proof.Proof.Gen.Pre_finite_v
public import proofs.«01_k».proof.Proof.Shift
public import Idealize.ShloMosaic.Lib.Tactic
public import Idealize.ShloMosaic.Lib.Pointwise
public import Idealize.ShloMosaic.Lib.Pipeline.ValueKit
public import Idealize.ShloMosaic.Lib.Quiescent

/-! The backward pass of the token shift of the value columns. -/

@[expose] public section

set_option maxRecDepth 16384

noncomputable section

namespace Cert.ShiftV

open Idealize.ShloMosaic Idealize.ShloMosaic.TcCoe Idealize.ShloMosaic.Tactic Idealize.ShloMosaic.ValueKit Idealize.SL.Sem
open Cert.Kernel21Ideal Cert.Kernel21Ideal.Gen

/-- An array at the ideal instance. -/
abbrev V (S : Shape) (e : EltTy) := Vec Ideal S e

/-! ## The two results -/

section Results

variable (M : V S2048 .f32) (X : V S4096x14592 .f32) (D : V S4096x2048 .f32)

/-- The projection's entry in row `p` of the shifted columns. -/
def xAt (p : Fin 4096) (q : Fin 2048) : Ideal .f32 := X (ix2 p ⟨4096 + q.val, by omega⟩)

/-- The entry one row before, zero before the first row. -/
def prevAt (p : Fin 4096) (q : Fin 2048) : Ideal .f32 := if p.val = 0 then 0 else xAt X ⟨p.val - 1, by omega⟩ q

/-- The gradient one row after, zero after the last row. -/
def nextAt (p : Fin 4096) (q : Fin 2048) : Ideal .f32 := if h : p.val < 4095 then D (ix2 ⟨p.val + 1, by omega⟩ q) else 0

/-- The gradient of the shifted columns. -/
def dxAt (p : Fin 4096) (q : Fin 2048) : Ideal .f32 := D (ix2 p q) * (1 - M (ix1 q)) + nextAt D p q * M (ix1 q)

/-- The gradient of the shifted columns as an array. -/
def dxOut : V S4096x2048 .bf16 := fun j => dxAt M D (j 0) (j 1)

/-- The gradient of the mixing weights. -/
def dmuOut : V S1x2048 .f32 := fun j => ∑ p : Fin 4096, D (ix2 p (j 1)) * (prevAt X p (j 1) - xAt X p (j 1))

/-- The shifted columns' gradient as the reference adds it up, for a finite gradient of the output. -/
theorem dx_ref (hd : ∀ p q, D (ix2 p q) ≠ ⊤ ∧ D (ix2 p q) ≠ ⊥) (p : Fin 4096) (q : Fin 2048) :
    D (ix2 p q) + -(D (ix2 p q) * M (ix1 q)) + (if h : p.val < 4095 then D (ix2 ⟨1 + p.val, by omega⟩ q) * M (ix1 q) else 0) = dxAt M D p q := by
  unfold dxAt nextAt
  refine congrArg₂ (· + ·) (Shift.mul_one_sub _ _ (hd p q).1 (hd p q).2).symm ?_
  by_cases h : p.val < 4095
  · rw [dif_pos h, dif_pos h]
    exact congrArg (fun r => D (ix2 r q) * M (ix1 q)) (Fin.ext (Nat.add_comm 1 p.val))
  · rw [dif_neg h, dif_neg h]
    exact (zero_mul _).symm

/-- The mixing weights' gradient as the reference adds it up. -/
theorem dmu_ref (q : Fin 2048) :
    (0 - X (ix2 0 ⟨4096 + q.val, by omega⟩)) * D (ix2 0 q)
        + ∑ x : Fin 4095, (X (ix2 ⟨x.val, by omega⟩ ⟨4096 + q.val, by omega⟩) - X (ix2 ⟨1 + x.val, by omega⟩ ⟨4096 + q.val, by omega⟩)) * D (ix2 ⟨1 + x.val, by omega⟩ q)
      = ∑ p : Fin 4096, D (ix2 p q) * (prevAt X p q - xAt X p q) := by
  refine Eq.trans ?_ (Fin.sum_univ_succ (n := 4095) _).symm
  refine congrArg₂ (· + ·) ?_ (Finset.sum_congr rfl fun x _ => ?_)
  · have e : prevAt X (0 : Fin 4096) q = 0 := if_pos rfl
    exact (mul_comm _ _).trans (congrArg (fun a => D (ix2 0 q) * (a - xAt X 0 q)) e.symm)
  · have e : (⟨1 + x.val, by omega⟩ : Fin 4096) = x.succ := Fin.ext (Nat.add_comm 1 x.val)
    have e1 : prevAt X (x.succ : Fin 4096) q = xAt X ⟨x.val, by omega⟩ q := if_neg (Nat.succ_ne_zero x.val)
    rw [e]
    exact (mul_comm _ _).trans (congrArg (fun a => D (ix2 x.succ q) * (a - xAt X x.succ q)) e1.symm)

end Results

variable (m : (ℓ : Loc nD τ sig) → Buf (Elt Ideal) ℓ) (c : Dev nD)

/-- The arguments as launched. -/
abbrev arg0 : V S2048 .f32 := m ((c : Thread nD τ).loc main_arg0)
abbrev arg1 : V S4096x14592 .f32 := m ((c : Thread nD τ).loc main_arg1)
abbrev arg2 : V S4096x2048 .f32 := m ((c : Thread nD τ).loc main_arg2)

/-! ## The blocks of a grid point -/

theorem idx0 : ∀ t : Fin cfg0.N, win0_0.index t = ![0, t.val / 16] := (by decide +kernel : ∀ t : Fin grid0.N, _)
theorem idx1 : ∀ t : Fin cfg0.N, win0_1.index t = ![t.val % 16, 8 + t.val / 16] := (by decide +kernel : ∀ t : Fin grid0.N, _)
theorem idx2 : ∀ t : Fin cfg0.N, win0_2.index t = ![32 * (t.val % 16) - 1, 8 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![min (32 * (t.val % 16) + 32) 511, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![0, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 64 := lt_of_lt_of_eq t.isLt N_0

/-- Column `l` of the block of columns that point `t` works on. -/
def col (t : Fin cfg0.N) (l : Fin 512) : Fin 2048 := ⟨512 * (t.val / 16) + l.val, by have := points t; omega⟩

/-- Row `r` of the block of rows that point `t` works on. -/
def row (t : Fin cfg0.N) (r : Fin 256) : Fin 4096 := ⟨256 * (t.val % 16) + r.val, by omega⟩

theorem mu_entry : Gen.V m c main_v0 = shapeCast S1x2048 (arg0 m c) shapeCasts_S2048_S1x2048 := by
  unfold Gen.V hostOps0
  after_results_simp
  rfl

theorem blk0 (t : Fin cfg0.N) (l : Fin 512) : (show V S1x512 .f32 from iblk m c 0 t) (ix2 0 l) = arg0 m c (ix1 (col t l)) := by
  have := points t
  blk_simp [iblk]
  have e : (win0_0.blk t).view.emb (ix2 (0 : Fin 1) l) = ix2 (0 : Fin 1) (col t l) := by
    unfold col
    blk_ext [idx0]
  rw [e, mu_entry]
  pointwise []

theorem blk1 (t : Fin cfg0.N) (r : Fin 256) (l : Fin 512) : (show V S256x512 .f32 from X0_1 m c t) (ix2 r l) = xAt (arg1 m c) (row t r) (col t l) := by
  have := points t
  dsimp only
  unfold X0_1 Pipeline.Window.fill; rw [dif_pos (moved0_1 t _)]
  blk_simp [iblk]
  rw [V_main_arg1]
  refine congrArg (arg1 m c) ?_
  unfold row col
  blk_ext [idx1]

theorem blk2 (t : Fin cfg0.N) (ht : ¬t.val % 16 = 0) (l : Fin 512) :
    (show V S1x512 .f32 from View.ld (X0_2 m c t) (Rect.unit ![7, 0] ![1, 512] inb_S8x512_S1x512_7_0)) (ix2 0 l)
      = xAt (arg1 m c) ⟨256 * (t.val % 16) - 1, by omega⟩ (col t l) := by
  have := points t
  refine Eq.trans (b := (show V S8x512 .f32 from X0_2 m c t) (ix2 7 l)) ?_ ?_
  · exact View.ld_unit_apply_of (X0_2 m c t) _ _ _ _ _ (fun a => by fin_cases a <;> simp)
  dsimp only
  unfold X0_2 Pipeline.Window.fill; rw [dif_pos (moved0_2 t _)]
  blk_simp [iblk]
  rw [V_main_arg1]
  refine congrArg (arg1 m c) ?_
  unfold col
  blk_ext [idx2]

theorem blk3 (t : Fin cfg0.N) (r : Fin 256) (l : Fin 512) : (show V S256x512 .f32 from iblk m c 3 t) (ix2 r l) = arg2 m c (ix2 (row t r) (col t l)) := by
  have := points t
  blk_simp [iblk]
  rw [V_main_arg2]
  refine congrArg (arg2 m c) ?_
  unfold row col
  blk_ext [idx3]

theorem blk4 (t : Fin cfg0.N) (ht : ¬t.val % 16 = 15) (l : Fin 512) :
    (show V S1x512 .f32 from View.ld (iblk m c 4 t) (Rect.unit ![0, 0] ![1, 512] inb_S8x512_S1x512_0_0)) (ix2 0 l)
      = arg2 m c (ix2 ⟨256 * (t.val % 16) + 256, by omega⟩ (col t l)) := by
  have := points t
  refine Eq.trans (b := (show V S8x512 .f32 from iblk m c 4 t) (ix2 0 l)) ?_ ?_
  · exact View.ld_unit_apply_of (iblk m c 4 t) _ _ _ _ _ (fun a => by fin_cases a <;> simp)
  blk_simp [iblk]
  rw [V_main_arg2]
  refine congrArg (arg2 m c) ?_
  unfold col
  blk_ext [idx4]

/-! ## What a point computes -/

/-- The rows that point `t` reads as the previous ones. -/
abbrev prevBlk (t : Fin cfg0.N) : V S256x512 .f32 :=
  k0_pay3 (F := Ideal) (grid0.coords t) (X0_1 m c t) (View.ld (X0_2 m c t) (Rect.unit ![7, 0] ![1, 512] inb_S8x512_S1x512_7_0))

/-- The gradient that point `t` writes. -/
abbrev dxBlk (t : Fin cfg0.N) : V S256x512 .bf16 :=
  k0_pay4 (F := Ideal) (grid0.coords t) (iblk m c 3 t) (View.ld (iblk m c 4 t) (Rect.unit ![0, 0] ![1, 512] inb_S8x512_S1x512_0_0)) (iblk m c 0 t)

theorem prev_at (t : Fin cfg0.N) (r : Fin 256) (l : Fin 512) : prevBlk m c t (ix2 r l) = prevAt (arg1 m c) (row t r) (col t l) := by
  have e : ∀ (x : V S256x512 .f32) (y : V S1x512 .f32), k0_pay3 (F := Ideal) (grid0.coords t) x y (ix2 r l)
      = if r.val = 0 then (if t.val % 16 = 0 then 0 else y (ix2 0 l)) else x (ix2 ⟨(r.val + 256 - 1) % 256, Nat.mod_lt _ (by decide)⟩ l) := fun x y => by
    pointwise [k0_pay3]
    rw [coord1 t]
    refine (Shift.pick r.val 0 (by omega) (by decide) _ _).trans (if_congr Iff.rfl ?_ rfl)
    exact Shift.pick (t.val % 16) 0 (by omega) (by decide) _ _
  refine (e _ _).trans ?_
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem dx_at (t : Fin cfg0.N) (r : Fin 256) (l : Fin 512) : dxBlk m c t (ix2 r l) = dxAt (arg0 m c) (arg2 m c) (row t r) (col t l) := by
  have e : ∀ (x : V S256x512 .f32) (y z : V S1x512 .f32), k0_pay4 (F := Ideal) (grid0.coords t) x y z (ix2 r l)
      = x (ix2 r l) * (1 - z (ix2 0 l)) + (if r.val = 255 then (if t.val % 16 = 15 then 0 else y (ix2 0 l)) else x (ix2 ⟨(r.val + 256 - 255) % 256, Nat.mod_lt _ (by decide)⟩ l)) * z (ix2 0 l) := fun x y z => by
    pointwise [k0_pay4]
    rw [coord1 t]
    refine congrArg (fun a : Ideal .f32 => x (ix2 r l) * (1 - z (ix2 0 l)) + a * z (ix2 0 l)) ?_
    refine (Shift.pick r.val 255 (by omega) (by decide) _ _).trans (if_congr Iff.rfl ?_ rfl)
    exact Shift.pick (t.val % 16) 15 (by omega) (by decide) _ _
  refine (e _ _ _).trans ?_
  unfold dxAt
  have hr : (row t r).val = 256 * (t.val % 16) + r.val := rfl
  have en : (if r.val = 255 then (if t.val % 16 = 15 then 0 else (show V S1x512 .f32 from View.ld (iblk m c 4 t) (Rect.unit ![0, 0] ![1, 512] inb_S8x512_S1x512_0_0)) (ix2 0 l))
      else (show V S256x512 .f32 from iblk m c 3 t) (ix2 ⟨(r.val + 256 - 255) % 256, Nat.mod_lt _ (by decide)⟩ l)) = nextAt (arg2 m c) (row t r) (col t l) := by
    unfold nextAt
    by_cases h : r.val = 255
    · rw [if_pos h]
      by_cases ht : t.val % 16 = 15
      · rw [if_pos ht, dif_neg (by omega)]
      · rw [if_neg ht, dif_pos (by omega)]
        refine (blk4 m c t ht l).trans (congrArg (fun p => arg2 m c (ix2 p (col t l))) (Fin.ext ?_))
        show 256 * (t.val % 16) + 256 = (row t r).val + 1
        omega
    · rw [if_neg h, dif_pos (by omega)]
      refine (blk3 m c t _ l).trans (congrArg (fun p => arg2 m c (ix2 p (col t l))) (Fin.ext ?_))
      show 256 * (t.val % 16) + (r.val + 256 - 255) % 256 = (row t r).val + 1
      omega
  exact congrArg₂ (· + ·) (congrArg₂ (fun a b : Ideal .f32 => a * (1 - b)) (blk3 m c t r l) (blk0 m c t l)) (congrArg₂ (· * ·) en (blk0 m c t l))

theorem outs5 (t : Fin cfg0.N) : (outsAt0 m c t.val t.isLt).1 = dxBlk m c t := by
  by_cases h0 : t.val % 16 = 0
  · rw [outsAt0_A m c t h0]; dsimp only; unfold out0_A_5; frame_open
    simp (disch := decide) only [View.readCov_unit_lit', View.read_writes_junk_eq_canon, View.canon_cons_unit_lit', View.ld_unit_lit', View.readAt_eq_ld, Memref.IsWhole.read_unread]
    rfl
  · rw [outsAt0_B m c t h0]; dsimp only; unfold out0_B_5; frame_open
    simp (disch := decide) only [View.readCov_unit_lit', View.read_writes_junk_eq_canon, View.canon_cons_unit_lit', View.ld_unit_lit', View.readAt_eq_ld, Memref.IsWhole.read_unread]
    rfl

/-- What point `t` adds to the gradient of the mixing weights. -/
def muTerm (t : Fin cfg0.N) : V S1x512 .f32 := fun y =>
  ∑ r : Fin 256, arg2 m c (ix2 (row t r) (col t (y 1))) * (prevAt (arg1 m c) (row t r) (col t (y 1)) - xAt (arg1 m c) (row t r) (col t (y 1)))

theorem muTerm_at (t : Fin cfg0.N) (A : V S1x512 .f32) (y : S1x512.Idx) :
    k0_pay2 (F := Ideal) (X0_1 m c t) (prevBlk m c t) (iblk m c 3 t) A y = A y + muTerm m c t y := by
  idx_vars y
  obtain rfl : y0 = 0 := Subsingleton.elim _ _
  have e : ∀ x p d : V S256x512 .f32, k0_pay2 (F := Ideal) x p d A (ix2 0 y1) = A (ix2 0 y1) + ∑ r : Fin 256, d (ix2 r y1) * (p (ix2 r y1) - x (ix2 r y1)) := fun x p d => by
    pointwise [k0_pay2]
  refine (e _ _ _).trans (congrArg (A (ix2 0 y1) + ·) ?_)
  exact Finset.sum_congr rfl fun r _ => congrArg₂ (· * ·) (blk3 m c t r y1) (congrArg₂ (· - ·) (prev_at m c t r y1) (blk1 m c t r y1))

theorem outs6_A (t : Fin cfg0.N) (h0 : t.val % 16 = 0) (y) : (outsAt0 m c t.val t.isLt).2 y = 0 + muTerm m c t y := by
  rw [outsAt0_A m c t h0]; dsimp only; unfold out0_A_6; frame_open
  simp (disch := decide) only [View.readCov_unit_lit', View.read_writes_junk_eq_canon, View.canon_cons_unit_lit', View.ld_unit_lit', View.readAt_eq_ld, Memref.IsWhole.read_unread]
  refine (muTerm_at m c t _ y).trans (congrArg (· + muTerm m c t y) ?_)
  idx_vars y; pointwise [k0_pay1]

theorem outs6_B (t : Fin cfg0.N) (h0 : ¬t.val % 16 = 0) (y) : (outsAt0 m c t.val t.isLt).2 y
    = (outsAt0 m c (t.val - 1) (Nat.lt_of_le_of_lt (Nat.sub_le _ _) t.isLt)).2 y + muTerm m c t y := by
  rw [outsAt0_B m c t h0]; dsimp only; unfold out0_B_6; frame_open
  simp (disch := decide) only [View.readCov_unit_lit', View.read_writes_junk_eq_canon, View.canon_cons_unit_lit', View.ld_unit_lit', View.readAt_eq_ld, Memref.IsWhole.read_unread]
  exact muTerm_at m c t _ y

/-! ## The whole arrays -/

theorem final5 : (dats m 0 c).arrAt 5 cfg0.N = dxOut (arg0 m c) (arg2 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) (col t y1) := by unfold row col; blk_ext [idx5]
  rw [e, outs5]
  exact dx_at m c t y0 y1

theorem final6 : (dats m 0 c).arrAt 6 cfg0.N = dmuOut (arg1 m c) (arg2 m c) := by
  refine (dats m 0 c).arrAt_eq_of_covers 6 _ (by decide +kernel) fun t hf y => ?_
  blk_simp
  rw [after0_6]
  have hN := points t
  idx_vars y
  obtain rfl : y0 = 0 := Subsingleton.elim _ _
  have e : (win0_6.blk t).view.emb (ix2 (0 : Fin 1) y1) = ix2 (0 : Fin 1) (col t y1) := by unfold col; blk_ext [idx6]
  rw [e]
  refine (Pipeline.eq_sum_fin_of_reset_step_apply_of_flush (fun n h => (outsAt0 m c n h).2) 16 (fun _ => 0) (muTerm m c) (outs6_A m c) (outs6_B m c) t ((flush0_6 t).mp hf) (ix2 0 y1)).trans ?_
  rw [zero_add]
  refine Fin.sum_mul_add_congr fun s k hl => ?_
  have hs := s.isLt
  have e0 : (16 * (t.val / 16) + s.val) % 16 = s.val := by omega
  have e1 : row (⟨16 * (t.val / 16) + s.val, lt_of_lt_of_eq (by omega) N_0.symm⟩ : Fin cfg0.N) k = ⟨s.val * 256 + k.val, hl⟩ := Fin.ext (by
    show 256 * ((16 * (t.val / 16) + s.val) % 16) + k.val = s.val * 256 + k.val; omega)
  have e2 : col (⟨16 * (t.val / 16) + s.val, lt_of_lt_of_eq (by omega) N_0.symm⟩ : Fin cfg0.N) y1 = col t y1 := Fin.ext (by
    show 512 * ((16 * (t.val / 16) + s.val) / 16) + y1.val = 512 * (t.val / 16) + y1.val; omega)
  show arg2 m c (ix2 (row _ k) (col _ y1)) * (prevAt (arg1 m c) (row _ k) (col _ y1) - xAt (arg1 m c) (row _ k) (col _ y1)) = _
  rw [e1, e2]; rfl

/-! ## The claims -/

theorem values : Cert.algebraic_Kernel21Ideal_Reference21Ideal_pre_finite_v := by
  intro m ρ m' ρ' hp hagree
  refine ⟨fun c => dxOut (arg0 m c) (arg2 m c), fun c => dmuOut (arg1 m c) (arg2 m c), ?_, ?_⟩
  · refine (θ_run _ _ _).mono (fun r h c => ?_) (Cert.Kernel21Ideal.Value.run_blocks m ρ)
    obtain ⟨h0, h1, hk⟩ := h c
    exact ⟨h0.trans (final5 m c), h1.trans (final6 m c), hk⟩
  · refine (θ_run _ _ _).mono (fun r h c => ?_) (Cert.Reference21Ideal.Value.run m' ρ')
    obtain ⟨h0, h1, hk⟩ := h c
    obtain ⟨e0, e1, e2⟩ := hagree c
    have hd : ∀ p q, arg2 m c (ix2 p q) ≠ ⊤ ∧ arg2 m c (ix2 p q) ≠ ⊥ := fun p q =>
      Shift.finite_of_cmp _ (congrFun (hp c) (ix2 p q))
    refine ⟨h0.trans ?_, h1.trans ?_, hk⟩ <;> clear h h0 h1 hk
    · rw [e0, e2]
      funext j; idx_vars j; pointwise []
      exact dx_ref _ _ hd j0 j1
    · rw [e1, e2]
      funext j; idx_vars j; pointwise []
      rw [Fin.sum_univ_one, Fin.sum_univ_one]
      exact dmu_ref _ _ j1

theorem frame_reference : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

end Cert.ShiftV
-- ==== Proof.ShiftL.lean ====
module

public import proofs.«01_k».proof.Defs
public import proofs.«01_k».proof.Proof.Gen.Kernel22Ideal.Value
public import proofs.«01_k».proof.Proof.Gen.Reference22Ideal.Run
public import proofs.«01_k».proof.Proof.Gen.Pre_finite_l
public import proofs.«01_k».proof.Proof.Shift
public import Idealize.ShloMosaic.Lib.Tactic
public import Idealize.ShloMosaic.Lib.Pointwise
public import Idealize.ShloMosaic.Lib.Pipeline.ValueKit
public import Idealize.ShloMosaic.Lib.Quiescent

/-! The backward pass of the token shift of the low-rank columns. -/

@[expose] public section

set_option maxRecDepth 16384

noncomputable section

namespace Cert.ShiftL

open Idealize.ShloMosaic Idealize.ShloMosaic.TcCoe Idealize.ShloMosaic.Tactic Idealize.ShloMosaic.ValueKit Idealize.SL.Sem
open Cert.Kernel22Ideal Cert.Kernel22Ideal.Gen

/-- An array at the ideal instance. -/
abbrev V (S : Shape) (e : EltTy) := Vec Ideal S e

/-! ## The two results -/

section Results

variable (M : V S256 .f32) (X : V S4096x14592 .f32) (D : V S4096x256 .f32)

/-- The projection's entry in row `p` of the shifted columns. -/
def xAt (p : Fin 4096) (q : Fin 256) : Ideal .f32 := X (ix2 p ⟨14336 + q.val, by omega⟩)

/-- The entry one row before, zero before the first row. -/
def prevAt (p : Fin 4096) (q : Fin 256) : Ideal .f32 := if p.val = 0 then 0 else xAt X ⟨p.val - 1, by omega⟩ q

/-- The gradient one row after, zero after the last row. -/
def nextAt (p : Fin 4096) (q : Fin 256) : Ideal .f32 := if h : p.val < 4095 then D (ix2 ⟨p.val + 1, by omega⟩ q) else 0

/-- The gradient of the shifted columns. -/
def dxAt (p : Fin 4096) (q : Fin 256) : Ideal .f32 := D (ix2 p q) * (1 - M (ix1 q)) + nextAt D p q * M (ix1 q)

/-- The gradient of the shifted columns as an array. -/
def dxOut : V S4096x256 .bf16 := fun j => dxAt M D (j 0) (j 1)

/-- The gradient of the mixing weights. -/
def dmuOut : V S1x256 .f32 := fun j => ∑ p : Fin 4096, D (ix2 p (j 1)) * (prevAt X p (j 1) - xAt X p (j 1))

/-- The shifted columns' gradient as the reference adds it up, for a finite gradient of the output. -/
theorem dx_ref (hd : ∀ p q, D (ix2 p q) ≠ ⊤ ∧ D (ix2 p q) ≠ ⊥) (p : Fin 4096) (q : Fin 256) :
    D (ix2 p q) + -(D (ix2 p q) * M (ix1 q)) + (if h : p.val < 4095 then D (ix2 ⟨1 + p.val, by omega⟩ q) * M (ix1 q) else 0) = dxAt M D p q := by
  unfold dxAt nextAt
  refine congrArg₂ (· + ·) (Shift.mul_one_sub _ _ (hd p q).1 (hd p q).2).symm ?_
  by_cases h : p.val < 4095
  · rw [dif_pos h, dif_pos h]
    exact congrArg (fun r => D (ix2 r q) * M (ix1 q)) (Fin.ext (Nat.add_comm 1 p.val))
  · rw [dif_neg h, dif_neg h]
    exact (zero_mul _).symm

/-- The mixing weights' gradient as the reference adds it up. -/
theorem dmu_ref (q : Fin 256) :
    (0 - X (ix2 0 ⟨14336 + q.val, by omega⟩)) * D (ix2 0 q)
        + ∑ x : Fin 4095, (X (ix2 ⟨x.val, by omega⟩ ⟨14336 + q.val, by omega⟩) - X (ix2 ⟨1 + x.val, by omega⟩ ⟨14336 + q.val, by omega⟩)) * D (ix2 ⟨1 + x.val, by omega⟩ q)
      = ∑ p : Fin 4096, D (ix2 p q) * (prevAt X p q - xAt X p q) := by
  refine Eq.trans ?_ (Fin.sum_univ_succ (n := 4095) _).symm
  refine congrArg₂ (· + ·) ?_ (Finset.sum_congr rfl fun x _ => ?_)
  · have e : prevAt X (0 : Fin 4096) q = 0 := if_pos rfl
    exact (mul_comm _ _).trans (congrArg (fun a => D (ix2 0 q) * (a - xAt X 0 q)) e.symm)
  · have e : (⟨1 + x.val, by omega⟩ : Fin 4096) = x.succ := Fin.ext (Nat.add_comm 1 x.val)
    have e1 : prevAt X (x.succ : Fin 4096) q = xAt X ⟨x.val, by omega⟩ q := if_neg (Nat.succ_ne_zero x.val)
    rw [e]
    exact (mul_comm _ _).trans (congrArg (fun a => D (ix2 x.succ q) * (a - xAt X x.succ q)) e1.symm)

end Results

variable (m : (ℓ : Loc nD τ sig) → Buf (Elt Ideal) ℓ) (c : Dev nD)

/-- The arguments as launched. -/
abbrev arg0 : V S256 .f32 := m ((c : Thread nD τ).loc main_arg0)
abbrev arg1 : V S4096x14592 .f32 := m ((c : Thread nD τ).loc main_arg1)
abbrev arg2 : V S4096x256 .f32 := m ((c : Thread nD τ).loc main_arg2)

/-! ## The blocks of a grid point -/

theorem idx0 : ∀ t : Fin cfg0.N, win0_0.index t = ![0, t.val / 16] := (by decide +kernel : ∀ t : Fin grid0.N, _)
theorem idx1 : ∀ t : Fin cfg0.N, win0_1.index t = ![t.val % 16, 56 + t.val / 16] := (by decide +kernel : ∀ t : Fin grid0.N, _)
theorem idx2 : ∀ t : Fin cfg0.N, win0_2.index t = ![32 * (t.val % 16) - 1, 56 + t.val / 16] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![min (32 * (t.val % 16) + 32) 511, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![0, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 16 := lt_of_lt_of_eq t.isLt N_0

/-- Column `l` of the block of columns that point `t` works on. -/
def col (t : Fin cfg0.N) (l : Fin 256) : Fin 256 := ⟨256 * (t.val / 16) + l.val, by have := points t; omega⟩

/-- Row `r` of the block of rows that point `t` works on. -/
def row (t : Fin cfg0.N) (r : Fin 256) : Fin 4096 := ⟨256 * (t.val % 16) + r.val, by omega⟩

theorem mu_entry : Gen.V m c main_v0 = shapeCast S1x256 (arg0 m c) shapeCasts_S256_S1x256 := by
  unfold Gen.V hostOps0
  after_results_simp
  rfl

theorem blk0 (t : Fin cfg0.N) (l : Fin 256) : (show V S1x256 .f32 from iblk m c 0 t) (ix2 0 l) = arg0 m c (ix1 (col t l)) := by
  have := points t
  blk_simp [iblk]
  have e : (win0_0.blk t).view.emb (ix2 (0 : Fin 1) l) = ix2 (0 : Fin 1) (col t l) := by
    unfold col
    blk_ext [idx0]
  rw [e, mu_entry]
  pointwise []

theorem blk1 (t : Fin cfg0.N) (r : Fin 256) (l : Fin 256) : (show V S256x256 .f32 from iblk m c 1 t) (ix2 r l) = xAt (arg1 m c) (row t r) (col t l) := by
  have := points t
  blk_simp [iblk]
  rw [V_main_arg1]
  refine congrArg (arg1 m c) ?_
  unfold row col
  blk_ext [idx1]

theorem blk2 (t : Fin cfg0.N) (ht : ¬t.val % 16 = 0) (l : Fin 256) :
    (show V S1x256 .f32 from View.ld (iblk m c 2 t) (Rect.unit ![7, 0] ![1, 256] inb_S8x256_S1x256_7_0)) (ix2 0 l)
      = xAt (arg1 m c) ⟨256 * (t.val % 16) - 1, by omega⟩ (col t l) := by
  have := points t
  refine Eq.trans (b := (show V S8x256 .f32 from iblk m c 2 t) (ix2 7 l)) ?_ ?_
  · exact View.ld_unit_apply_of (iblk m c 2 t) _ _ _ _ _ (fun a => by fin_cases a <;> simp)
  blk_simp [iblk]
  rw [V_main_arg1]
  refine congrArg (arg1 m c) ?_
  unfold col
  blk_ext [idx2]

theorem blk3 (t : Fin cfg0.N) (r : Fin 256) (l : Fin 256) : (show V S256x256 .f32 from iblk m c 3 t) (ix2 r l) = arg2 m c (ix2 (row t r) (col t l)) := by
  have := points t
  blk_simp [iblk]
  rw [V_main_arg2]
  refine congrArg (arg2 m c) ?_
  unfold row col
  blk_ext [idx3]

theorem blk4 (t : Fin cfg0.N) (ht : ¬t.val % 16 = 15) (l : Fin 256) :
    (show V S1x256 .f32 from View.ld (iblk m c 4 t) (Rect.unit ![0, 0] ![1, 256] inb_S8x256_S1x256_0_0)) (ix2 0 l)
      = arg2 m c (ix2 ⟨256 * (t.val % 16) + 256, by omega⟩ (col t l)) := by
  have := points t
  refine Eq.trans (b := (show V S8x256 .f32 from iblk m c 4 t) (ix2 0 l)) ?_ ?_
  · exact View.ld_unit_apply_of (iblk m c 4 t) _ _ _ _ _ (fun a => by fin_cases a <;> simp)
  blk_simp [iblk]
  rw [V_main_arg2]
  refine congrArg (arg2 m c) ?_
  unfold col
  blk_ext [idx4]

/-! ## What a point computes -/

/-- The rows that point `t` reads as the previous ones. -/
abbrev prevBlk (t : Fin cfg0.N) : V S256x256 .f32 :=
  k0_pay3 (F := Ideal) (grid0.coords t) (iblk m c 1 t) (View.ld (iblk m c 2 t) (Rect.unit ![7, 0] ![1, 256] inb_S8x256_S1x256_7_0))

/-- The gradient that point `t` writes. -/
abbrev dxBlk (t : Fin cfg0.N) : V S256x256 .bf16 :=
  k0_pay4 (F := Ideal) (grid0.coords t) (iblk m c 3 t) (View.ld (iblk m c 4 t) (Rect.unit ![0, 0] ![1, 256] inb_S8x256_S1x256_0_0)) (iblk m c 0 t)

theorem prev_at (t : Fin cfg0.N) (r : Fin 256) (l : Fin 256) : prevBlk m c t (ix2 r l) = prevAt (arg1 m c) (row t r) (col t l) := by
  have e : ∀ (x : V S256x256 .f32) (y : V S1x256 .f32), k0_pay3 (F := Ideal) (grid0.coords t) x y (ix2 r l)
      = if r.val = 0 then (if t.val % 16 = 0 then 0 else y (ix2 0 l)) else x (ix2 ⟨(r.val + 256 - 1) % 256, Nat.mod_lt _ (by decide)⟩ l) := fun x y => by
    pointwise [k0_pay3]
    rw [coord1 t]
    refine (Shift.pick r.val 0 (by omega) (by decide) _ _).trans (if_congr Iff.rfl ?_ rfl)
    exact Shift.pick (t.val % 16) 0 (by omega) (by decide) _ _
  refine (e _ _).trans ?_
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem dx_at (t : Fin cfg0.N) (r : Fin 256) (l : Fin 256) : dxBlk m c t (ix2 r l) = dxAt (arg0 m c) (arg2 m c) (row t r) (col t l) := by
  have e : ∀ (x : V S256x256 .f32) (y z : V S1x256 .f32), k0_pay4 (F := Ideal) (grid0.coords t) x y z (ix2 r l)
      = x (ix2 r l) * (1 - z (ix2 0 l)) + (if r.val = 255 then (if t.val % 16 = 15 then 0 else y (ix2 0 l)) else x (ix2 ⟨(r.val + 256 - 255) % 256, Nat.mod_lt _ (by decide)⟩ l)) * z (ix2 0 l) := fun x y z => by
    pointwise [k0_pay4]
    rw [coord1 t]
    refine congrArg (fun a : Ideal .f32 => x (ix2 r l) * (1 - z (ix2 0 l)) + a * z (ix2 0 l)) ?_
    refine (Shift.pick r.val 255 (by omega) (by decide) _ _).trans (if_congr Iff.rfl ?_ rfl)
    exact Shift.pick (t.val % 16) 15 (by omega) (by decide) _ _
  refine (e _ _ _).trans ?_
  unfold dxAt
  have hr : (row t r).val = 256 * (t.val % 16) + r.val := rfl
  have en : (if r.val = 255 then (if t.val % 16 = 15 then 0 else (show V S1x256 .f32 from View.ld (iblk m c 4 t) (Rect.unit ![0, 0] ![1, 256] inb_S8x256_S1x256_0_0)) (ix2 0 l))
      else (show V S256x256 .f32 from iblk m c 3 t) (ix2 ⟨(r.val + 256 - 255) % 256, Nat.mod_lt _ (by decide)⟩ l)) = nextAt (arg2 m c) (row t r) (col t l) := by
    unfold nextAt
    by_cases h : r.val = 255
    · rw [if_pos h]
      by_cases ht : t.val % 16 = 15
      · rw [if_pos ht, dif_neg (by omega)]
      · rw [if_neg ht, dif_pos (by omega)]
        refine (blk4 m c t ht l).trans (congrArg (fun p => arg2 m c (ix2 p (col t l))) (Fin.ext ?_))
        show 256 * (t.val % 16) + 256 = (row t r).val + 1
        omega
    · rw [if_neg h, dif_pos (by omega)]
      refine (blk3 m c t _ l).trans (congrArg (fun p => arg2 m c (ix2 p (col t l))) (Fin.ext ?_))
      show 256 * (t.val % 16) + (r.val + 256 - 255) % 256 = (row t r).val + 1
      omega
  exact congrArg₂ (· + ·) (congrArg₂ (fun a b : Ideal .f32 => a * (1 - b)) (blk3 m c t r l) (blk0 m c t l)) (congrArg₂ (· * ·) en (blk0 m c t l))

theorem outs5 (t : Fin cfg0.N) : (outsAt0 m c t.val t.isLt).1 = dxBlk m c t := by
  by_cases h0 : t.val % 16 = 0
  · rw [outsAt0_A m c t h0]; dsimp only; unfold out0_A_5; frame_open
    simp (disch := decide) only [View.readCov_unit_lit', View.read_writes_junk_eq_canon, View.canon_cons_unit_lit', View.ld_unit_lit', View.readAt_eq_ld, Memref.IsWhole.read_unread]
    rfl
  · rw [outsAt0_B m c t h0]; dsimp only; unfold out0_B_5; frame_open
    simp (disch := decide) only [View.readCov_unit_lit', View.read_writes_junk_eq_canon, View.canon_cons_unit_lit', View.ld_unit_lit', View.readAt_eq_ld, Memref.IsWhole.read_unread]
    rfl

/-- What point `t` adds to the gradient of the mixing weights. -/
def muTerm (t : Fin cfg0.N) : V S1x256 .f32 := fun y =>
  ∑ r : Fin 256, arg2 m c (ix2 (row t r) (col t (y 1))) * (prevAt (arg1 m c) (row t r) (col t (y 1)) - xAt (arg1 m c) (row t r) (col t (y 1)))

theorem muTerm_at (t : Fin cfg0.N) (A : V S1x256 .f32) (y : S1x256.Idx) :
    k0_pay2 (F := Ideal) (iblk m c 1 t) (prevBlk m c t) (iblk m c 3 t) A y = A y + muTerm m c t y := by
  idx_vars y
  obtain rfl : y0 = 0 := Subsingleton.elim _ _
  have e : ∀ x p d : V S256x256 .f32, k0_pay2 (F := Ideal) x p d A (ix2 0 y1) = A (ix2 0 y1) + ∑ r : Fin 256, d (ix2 r y1) * (p (ix2 r y1) - x (ix2 r y1)) := fun x p d => by
    pointwise [k0_pay2]
  refine (e _ _ _).trans (congrArg (A (ix2 0 y1) + ·) ?_)
  exact Finset.sum_congr rfl fun r _ => congrArg₂ (· * ·) (blk3 m c t r y1) (congrArg₂ (· - ·) (prev_at m c t r y1) (blk1 m c t r y1))

theorem outs6_A (t : Fin cfg0.N) (h0 : t.val % 16 = 0) (y) : (outsAt0 m c t.val t.isLt).2 y = 0 + muTerm m c t y := by
  rw [outsAt0_A m c t h0]; dsimp only; unfold out0_A_6; frame_open
  simp (disch := decide) only [View.readCov_unit_lit', View.read_writes_junk_eq_canon, View.canon_cons_unit_lit', View.ld_unit_lit', View.readAt_eq_ld, Memref.IsWhole.read_unread]
  refine (muTerm_at m c t _ y).trans (congrArg (· + muTerm m c t y) ?_)
  idx_vars y; pointwise [k0_pay1]

theorem outs6_B (t : Fin cfg0.N) (h0 : ¬t.val % 16 = 0) (y) : (outsAt0 m c t.val t.isLt).2 y
    = (outsAt0 m c (t.val - 1) (Nat.lt_of_le_of_lt (Nat.sub_le _ _) t.isLt)).2 y + muTerm m c t y := by
  rw [outsAt0_B m c t h0]; dsimp only; unfold out0_B_6; frame_open
  simp (disch := decide) only [View.readCov_unit_lit', View.read_writes_junk_eq_canon, View.canon_cons_unit_lit', View.ld_unit_lit', View.readAt_eq_ld, Memref.IsWhole.read_unread]
  exact muTerm_at m c t _ y

/-! ## The whole arrays -/

theorem final5 : (dats m 0 c).arrAt 5 cfg0.N = dxOut (arg0 m c) (arg2 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) (col t y1) := by unfold row col; blk_ext [idx5]
  rw [e, outs5]
  exact dx_at m c t y0 y1

theorem final6 : (dats m 0 c).arrAt 6 cfg0.N = dmuOut (arg1 m c) (arg2 m c) := by
  refine (dats m 0 c).arrAt_eq_of_covers 6 _ (by decide +kernel) fun t hf y => ?_
  blk_simp
  rw [after0_6]
  have hN := points t
  idx_vars y
  obtain rfl : y0 = 0 := Subsingleton.elim _ _
  have e : (win0_6.blk t).view.emb (ix2 (0 : Fin 1) y1) = ix2 (0 : Fin 1) (col t y1) := by unfold col; blk_ext [idx6]
  rw [e]
  refine (Pipeline.eq_sum_fin_of_reset_step_apply_of_flush (fun n h => (outsAt0 m c n h).2) 16 (fun _ => 0) (muTerm m c) (outs6_A m c) (outs6_B m c) t ((flush0_6 t).mp hf) (ix2 0 y1)).trans ?_
  rw [zero_add]
  refine Fin.sum_mul_add_congr fun s k hl => ?_
  have hs := s.isLt
  have e0 : (16 * (t.val / 16) + s.val) % 16 = s.val := by omega
  have e1 : row (⟨16 * (t.val / 16) + s.val, lt_of_lt_of_eq (by omega) N_0.symm⟩ : Fin cfg0.N) k = ⟨s.val * 256 + k.val, hl⟩ := Fin.ext (by
    show 256 * ((16 * (t.val / 16) + s.val) % 16) + k.val = s.val * 256 + k.val; omega)
  have e2 : col (⟨16 * (t.val / 16) + s.val, lt_of_lt_of_eq (by omega) N_0.symm⟩ : Fin cfg0.N) y1 = col t y1 := Fin.ext (by
    show 256 * ((16 * (t.val / 16) + s.val) / 16) + y1.val = 256 * (t.val / 16) + y1.val; omega)
  show arg2 m c (ix2 (row _ k) (col _ y1)) * (prevAt (arg1 m c) (row _ k) (col _ y1) - xAt (arg1 m c) (row _ k) (col _ y1)) = _
  rw [e1, e2]; rfl

/-! ## The claims -/

theorem values : Cert.algebraic_Kernel22Ideal_Reference22Ideal_pre_finite_l := by
  intro m ρ m' ρ' hp hagree
  refine ⟨fun c => dxOut (arg0 m c) (arg2 m c), fun c => dmuOut (arg1 m c) (arg2 m c), ?_, ?_⟩
  · refine (θ_run _ _ _).mono (fun r h c => ?_) (Cert.Kernel22Ideal.Value.run_blocks m ρ)
    obtain ⟨h0, h1, hk⟩ := h c
    exact ⟨h0.trans (final5 m c), h1.trans (final6 m c), hk⟩
  · refine (θ_run _ _ _).mono (fun r h c => ?_) (Cert.Reference22Ideal.Value.run m' ρ')
    obtain ⟨h0, h1, hk⟩ := h c
    obtain ⟨e0, e1, e2⟩ := hagree c
    have hd : ∀ p q, arg2 m c (ix2 p q) ≠ ⊤ ∧ arg2 m c (ix2 p q) ≠ ⊥ := fun p q =>
      Shift.finite_of_cmp _ (congrFun (hp c) (ix2 p q))
    refine ⟨h0.trans ?_, h1.trans ?_, hk⟩ <;> clear h h0 h1 hk
    · rw [e0, e2]
      funext j; idx_vars j; pointwise []
      exact dx_ref _ _ hd j0 j1
    · rw [e1, e2]
      funext j; idx_vars j; pointwise []
      rw [Fin.sum_univ_one, Fin.sum_univ_one]
      exact dmu_ref _ _ j1

theorem frame_reference : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

end Cert.ShiftL
-- ==== Proof.Sums.lean ====
module

public import proofs.«01_k».proof.Defs
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import Idealize.ShloMosaic.Lib.Tactic
public import Idealize.ShloMosaic.Lib.Pointwise
public import Idealize.ShloMosaic.Lib.Pipeline.ValueKit
public import Idealize.ShloMosaic.Lib.Quiescent

/-! The sums of the gradients that the exchange delivers: of the packed small weights over the eight devices, of each
    large weight over the four chips. -/

@[expose] public section

set_option maxRecDepth 16384

noncomputable section

namespace Cert.Sums

open Idealize.ShloMosaic Idealize.ShloMosaic.TcCoe Idealize.ShloMosaic.Tactic Idealize.ShloMosaic.ValueKit Idealize.SL.Sem

/-- The sum over the leading axis, at the ideal instance, where every format holds the same numbers. -/
def total {n R W : ℕ} {e : FTy} (a : FVec Ideal ⟨3, ![n, R, W]⟩ e) : FVec Ideal ⟨2, ![R, W]⟩ .f32 := fun j =>
  ∑ d : Fin n, (a (ix3 d (j 0) (j 1)) : EReal)

/-! ## Those of the small weights -/

namespace Small

open Cert.Kernel23Ideal Cert.Kernel23Ideal.Gen

variable (m : (ℓ : Loc nD τ sig) → Buf (Elt Ideal) ℓ) (c : Dev nD)

abbrev parts : FVec Ideal S8x256x2048 .f32 := m ((c : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem points (t : Fin cfg0.N) : t.val < 4 := lt_of_lt_of_eq t.isLt N_0

/-- Row `s` of the block that point `t` sums. -/
def at' (t : Fin cfg0.N) (s : Fin 64) : Fin 256 := ⟨t.val * 64 + s.val, by have := points t; omega⟩

theorem block (t : Fin cfg0.N) (d : Fin 8) (r : Fin 64) (q : Fin 2048) :
    (show FVec Ideal S8x64x2048 .f32 from iblk m c 0 t) (ix3 d r q) = parts m c (ix3 d (at' t r) q) := by
  have := points t
  blk_simp [iblk]
  rw [V_main_arg0]
  refine congrArg (parts m c) ?_
  unfold at'; blk_ext [idx0]

theorem pay_at (a b c d e f g h : FVec Ideal S1x64x2048 .f32) (r : Fin 64) (q : Fin 2048) :
    k0_pay1 (F := Ideal) a b c d e f g h (ix2 r q) = a (ix3 0 r q) + b (ix3 0 r q) + c (ix3 0 r q) + d (ix3 0 r q) + e (ix3 0 r q) + f (ix3 0 r q) + g (ix3 0 r q) + h (ix3 0 r q) := by
  pointwise [k0_pay1]

theorem slice_at (x : FVec Ideal S8x64x2048 .f32) (d : Fin 8) (r : Fin 64) (q : Fin 2048) {hb} :
    View.ld (Val := Elt Ideal) (S := S8x64x2048) (e' := .f32) x (Rect.unit (s := S8x64x2048) ![d.val, 0, 0] S1x64x2048.size hb) (ix3 (0 : Fin 1) r q : S1x64x2048.Idx) = x (ix3 d r q) :=
  View.ld_unit_apply_of (Val := Elt Ideal) (S := S8x64x2048) (e := .f32) x ![d.val, 0, 0] S1x64x2048.size hb (ix3 (0 : Fin 1) r q : S1x64x2048.Idx) (ix3 d r q) (fun a => by fin_cases a <;> simp)

theorem point (x : FVec Ideal S8x64x2048 .f32) (r : Fin 64) (q : Fin 2048) :
    out0_1 (F := Ideal) x (ix2 r q) = ∑ d : Fin 8, (x (ix3 d r q) : EReal) := by
  unfold out0_1
  simp (disch := decide) only [View.canon_cons_unit_lit']
  rw [Fin.sum_univ_eight]
  refine (pay_at _ _ _ _ _ _ _ _ r q).trans ?_
  exact (congrArg₂ (· + ·) (congrArg₂ (· + ·) (congrArg₂ (· + ·) (congrArg₂ (· + ·) (congrArg₂ (· + ·) (congrArg₂ (· + ·) (congrArg₂ (· + ·) (slice_at x 0 r q) (slice_at x 1 r q)) (slice_at x 2 r q)) (slice_at x 3 r q)) (slice_at x 4 r q)) (slice_at x 5 r q)) (slice_at x 6 r q)) (slice_at x 7 r q))

theorem final : (dats m 0 c).arrAt 1 cfg0.N = total (parts m c) := by
  refine (dats m 0 c).arrAt_eq_of_covers 1 _ (by decide +kernel) fun t hf y => ?_
  blk_simp
  rw [after0_1]
  have := points t
  idx_vars y
  have e : (win0_1.blk t).view.emb (ix2 y0 y1) = ix2 (at' t y0) y1 := by unfold at'; blk_ext [idx1]
  rw [e]
  exact (point _ y0 y1).trans (Finset.sum_congr rfl fun d _ => block m c t d y0 y1)

theorem values : Cert.algebraic_Kernel23Ideal_Reference23Ideal := by
  intro m ρ m' ρ' _ hagree
  refine ⟨fun c => total (parts m c), (θ_run _ _ _).mono (fun r h c => ⟨(h c).1.trans (final m c), (h c).2⟩) (Cert.Kernel23Ideal.Value.run_blocks m ρ),
    (θ_run _ _ _).mono (fun r h c => ⟨(h c).1.trans ?_, (h c).2⟩) (Cert.Reference23Ideal.Value.run m' ρ')⟩
  rw [hagree c]
  funext j; idx_vars j
  pointwise [total]

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

end Small

/-! ## Those of the projection weights -/

namespace WIn

open Cert.Kernel24Ideal Cert.Kernel24Ideal.Gen

variable (m : (ℓ : Loc nD τ sig) → Buf (Elt Ideal) ℓ) (c : Dev nD)

abbrev parts : FVec Ideal S4x1816x4096 .bf16 := m ((c : Thread nD τ).loc main_arg0)

theorem idx0 : ∀ t : Fin cfg0.N, win0_0.index t = ![0, 0, t.val] := (by decide +kernel : ∀ t : Fin grid0.N, _)
theorem idx1 : ∀ t : Fin cfg0.N, win0_1.index t = ![0, t.val] := (by decide +kernel : ∀ t : Fin grid0.N, _)
theorem points (t : Fin cfg0.N) : t.val < 16 := lt_of_lt_of_eq t.isLt N_0

/-- Column `s` of the block that point `t` sums. -/
def at' (t : Fin cfg0.N) (s : Fin 256) : Fin 4096 := ⟨t.val * 256 + s.val, by have := points t; omega⟩

theorem block (t : Fin cfg0.N) (d : Fin 4) (r : Fin 1816) (q : Fin 256) :
    (show FVec Ideal S4x1816x256 .bf16 from iblk m c 0 t) (ix3 d r q) = parts m c (ix3 d r (at' t q)) := by
  have := points t
  blk_simp [iblk]
  rw [V_main_arg0]
  refine congrArg (parts m c) ?_
  unfold at'; blk_ext [idx0]

theorem pay_at (a b c d : FVec Ideal S1x1816x256 .bf16) (r : Fin 1816) (q : Fin 256) :
    k0_pay1 (F := Ideal) a b c d (ix2 r q) = a (ix3 0 r q) + b (ix3 0 r q) + c (ix3 0 r q) + d (ix3 0 r q) := by
  pointwise [k0_pay1]

theorem slice_at (x : FVec Ideal S4x1816x256 .bf16) (d : Fin 4) (r : Fin 1816) (q : Fin 256) {hb} :
    View.ld (Val := Elt Ideal) (S := S4x1816x256) (e' := .bf16) x (Rect.unit (s := S4x1816x256) ![d.val, 0, 0] S1x1816x256.size hb) (ix3 (0 : Fin 1) r q : S1x1816x256.Idx) = x (ix3 d r q) :=
  View.ld_unit_apply_of (Val := Elt Ideal) (S := S4x1816x256) (e := .bf16) x ![d.val, 0, 0] S1x1816x256.size hb (ix3 (0 : Fin 1) r q : S1x1816x256.Idx) (ix3 d r q) (fun a => by fin_cases a <;> simp)

theorem point (x : FVec Ideal S4x1816x256 .bf16) (r : Fin 1816) (q : Fin 256) :
    out0_1 (F := Ideal) x (ix2 r q) = ∑ d : Fin 4, (x (ix3 d r q) : EReal) := by
  unfold out0_1
  simp (disch := decide) only [View.canon_cons_unit_lit']
  rw [Fin.sum_univ_four]
  refine (pay_at _ _ _ _ r q).trans ?_
  exact (congrArg₂ (· + ·) (congrArg₂ (· + ·) (congrArg₂ (· + ·) (slice_at x 0 r q) (slice_at x 1 r q)) (slice_at x 2 r q)) (slice_at x 3 r q))

theorem final : (dats m 0 c).arrAt 1 cfg0.N = total (parts m c) := by
  refine (dats m 0 c).arrAt_eq_of_covers 1 _ (by decide +kernel) fun t hf y => ?_
  blk_simp
  rw [after0_1]
  have := points t
  idx_vars y
  have e : (win0_1.blk t).view.emb (ix2 y0 y1) = ix2 y0 (at' t y1) := by unfold at'; blk_ext [idx1]
  rw [e]
  exact (point _ y0 y1).trans (Finset.sum_congr rfl fun d _ => block m c t d y0 y1)

theorem values : Cert.algebraic_Kernel24Ideal_Reference24Ideal := by
  intro m ρ m' ρ' _ hagree
  refine ⟨fun c => total (parts m c), (θ_run _ _ _).mono (fun r h c => ⟨(h c).1.trans (final m c), (h c).2⟩) (Cert.Kernel24Ideal.Value.run_blocks m ρ),
    (θ_run _ _ _).mono (fun r h c => ⟨(h c).1.trans ?_, (h c).2⟩) (Cert.Reference24Ideal.Value.run m' ρ')⟩
  rw [hagree c]
  funext j; idx_vars j
  pointwise [total]

theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

end WIn

/-! ## Those of the output weights -/

namespace WOut

open Cert.Kernel25Ideal Cert.Kernel25Ideal.Gen

variable (m : (ℓ : Loc nD τ sig) → Buf (Elt Ideal) ℓ) (c : Dev nD)

abbrev parts : FVec Ideal S4x512x4096 .bf16 := m ((c : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem points (t : Fin cfg0.N) : t.val < 8 := lt_of_lt_of_eq t.isLt N_0

/-- Row `s` of the block that point `t` sums. -/
def at' (t : Fin cfg0.N) (s : Fin 64) : Fin 512 := ⟨t.val * 64 + s.val, by have := points t; omega⟩

theorem block (t : Fin cfg0.N) (d : Fin 4) (r : Fin 64) (q : Fin 4096) :
    (show FVec Ideal S4x64x4096 .bf16 from iblk m c 0 t) (ix3 d r q) = parts m c (ix3 d (at' t r) q) := by
  have := points t
  blk_simp [iblk]
  rw [V_main_arg0]
  refine congrArg (parts m c) ?_
  unfold at'; blk_ext [idx0]

theorem pay_at (a b c d : FVec Ideal S1x64x4096 .bf16) (r : Fin 64) (q : Fin 4096) :
    k0_pay1 (F := Ideal) a b c d (ix2 r q) = a (ix3 0 r q) + b (ix3 0 r q) + c (ix3 0 r q) + d (ix3 0 r q) := by
  pointwise [k0_pay1]

theorem slice_at (x : FVec Ideal S4x64x4096 .bf16) (d : Fin 4) (r : Fin 64) (q : Fin 4096) {hb} :
    View.ld (Val := Elt Ideal) (S := S4x64x4096) (e' := .bf16) x (Rect.unit (s := S4x64x4096) ![d.val, 0, 0] S1x64x4096.size hb) (ix3 (0 : Fin 1) r q : S1x64x4096.Idx) = x (ix3 d r q) :=
  View.ld_unit_apply_of (Val := Elt Ideal) (S := S4x64x4096) (e := .bf16) x ![d.val, 0, 0] S1x64x4096.size hb (ix3 (0 : Fin 1) r q : S1x64x4096.Idx) (ix3 d r q) (fun a => by fin_cases a <;> simp)

theorem point (x : FVec Ideal S4x64x4096 .bf16) (r : Fin 64) (q : Fin 4096) :
    out0_1 (F := Ideal) x (ix2 r q) = ∑ d : Fin 4, (x (ix3 d r q) : EReal) := by
  unfold out0_1
  simp (disch := decide) only [View.canon_cons_unit_lit']
  rw [Fin.sum_univ_four]
  refine (pay_at _ _ _ _ r q).trans ?_
  exact (congrArg₂ (· + ·) (congrArg₂ (· + ·) (congrArg₂ (· + ·) (slice_at x 0 r q) (slice_at x 1 r q)) (slice_at x 2 r q)) (slice_at x 3 r q))

theorem final : (dats m 0 c).arrAt 1 cfg0.N = total (parts m c) := by
  refine (dats m 0 c).arrAt_eq_of_covers 1 _ (by decide +kernel) fun t hf y => ?_
  blk_simp
  rw [after0_1]
  have := points t
  idx_vars y
  have e : (win0_1.blk t).view.emb (ix2 y0 y1) = ix2 (at' t y0) y1 := by unfold at'; blk_ext [idx1]
  rw [e]
  exact (point _ y0 y1).trans (Finset.sum_congr rfl fun d _ => block m c t d y0 y1)

theorem values : Cert.algebraic_Kernel25Ideal_Reference25Ideal := by
  intro m ρ m' ρ' _ hagree
  refine ⟨fun c => total (parts m c), (θ_run _ _ _).mono (fun r h c => ⟨(h c).1.trans (final m c), (h c).2⟩) (Cert.Kernel25Ideal.Value.run_blocks m ρ),
    (θ_run _ _ _).mono (fun r h c => ⟨(h c).1.trans ?_, (h c).2⟩) (Cert.Reference25Ideal.Value.run m' ρ')⟩
  rw [hagree c]
  funext j; idx_vars j
  pointwise [total]

theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

end WOut

/-! ## Those of the convolution branch's weights -/

namespace WPw2

open Cert.Kernel26Ideal Cert.Kernel26Ideal.Gen

variable (m : (ℓ : Loc nD τ sig) → Buf (Elt Ideal) ℓ) (c : Dev nD)

abbrev parts : FVec Ideal S4x256x2048 .bf16 := m ((c : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem points (t : Fin cfg0.N) : t.val < 2 := lt_of_lt_of_eq t.isLt N_0

/-- Row `s` of the block that point `t` sums. -/
def at' (t : Fin cfg0.N) (s : Fin 128) : Fin 256 := ⟨t.val * 128 + s.val, by have := points t; omega⟩

theorem block (t : Fin cfg0.N) (d : Fin 4) (r : Fin 128) (q : Fin 2048) :
    (show FVec Ideal S4x128x2048 .bf16 from iblk m c 0 t) (ix3 d r q) = parts m c (ix3 d (at' t r) q) := by
  have := points t
  blk_simp [iblk]
  rw [V_main_arg0]
  refine congrArg (parts m c) ?_
  unfold at'; blk_ext [idx0]

theorem pay_at (a b c d : FVec Ideal S1x128x2048 .bf16) (r : Fin 128) (q : Fin 2048) :
    k0_pay1 (F := Ideal) a b c d (ix2 r q) = a (ix3 0 r q) + b (ix3 0 r q) + c (ix3 0 r q) + d (ix3 0 r q) := by
  pointwise [k0_pay1]

theorem slice_at (x : FVec Ideal S4x128x2048 .bf16) (d : Fin 4) (r : Fin 128) (q : Fin 2048) {hb} :
    View.ld (Val := Elt Ideal) (S := S4x128x2048) (e' := .bf16) x (Rect.unit (s := S4x128x2048) ![d.val, 0, 0] S1x128x2048.size hb) (ix3 (0 : Fin 1) r q : S1x128x2048.Idx) = x (ix3 d r q) :=
  View.ld_unit_apply_of (Val := Elt Ideal) (S := S4x128x2048) (e := .bf16) x ![d.val, 0, 0] S1x128x2048.size hb (ix3 (0 : Fin 1) r q : S1x128x2048.Idx) (ix3 d r q) (fun a => by fin_cases a <;> simp)

theorem point (x : FVec Ideal S4x128x2048 .bf16) (r : Fin 128) (q : Fin 2048) :
    out0_1 (F := Ideal) x (ix2 r q) = ∑ d : Fin 4, (x (ix3 d r q) : EReal) := by
  unfold out0_1
  simp (disch := decide) only [View.canon_cons_unit_lit']
  rw [Fin.sum_univ_four]
  refine (pay_at _ _ _ _ r q).trans ?_
  exact (congrArg₂ (· + ·) (congrArg₂ (· + ·) (congrArg₂ (· + ·) (slice_at x 0 r q) (slice_at x 1 r q)) (slice_at x 2 r q)) (slice_at x 3 r q))

theorem final : (dats m 0 c).arrAt 1 cfg0.N = total (parts m c) := by
  refine (dats m 0 c).arrAt_eq_of_covers 1 _ (by decide +kernel) fun t hf y => ?_
  blk_simp
  rw [after0_1]
  have := points t
  idx_vars y
  have e : (win0_1.blk t).view.emb (ix2 y0 y1) = ix2 (at' t y0) y1 := by unfold at'; blk_ext [idx1]
  rw [e]
  exact (point _ y0 y1).trans (Finset.sum_congr rfl fun d _ => block m c t d y0 y1)

theorem values : Cert.algebraic_Kernel26Ideal_Reference26Ideal := by
  intro m ρ m' ρ' _ hagree
  refine ⟨fun c => total (parts m c), (θ_run _ _ _).mono (fun r h c => ⟨(h c).1.trans (final m c), (h c).2⟩) (Cert.Kernel26Ideal.Value.run_blocks m ρ),
    (θ_run _ _ _).mono (fun r h c => ⟨(h c).1.trans ?_, (h c).2⟩) (Cert.Reference26Ideal.Value.run m' ρ')⟩
  rw [hagree c]
  funext j; idx_vars j
  pointwise [total]

theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

end WPw2

end Cert.Sums
-- ==== Proof.Pairs.lean ====
module

public import proofs.«01_k».proof.Defs
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import Idealize.ShloMosaic.Lib.Tactic
public import Idealize.ShloMosaic.Lib.Pointwise
public import Idealize.ShloMosaic.Lib.Quiescent

/-! The sums of the gradients of the two devices of a chip. -/

@[expose] public section

set_option maxRecDepth 16384

noncomputable section

namespace Cert.Pairs

open Idealize.ShloMosaic Idealize.ShloMosaic.TcCoe Idealize.ShloMosaic.Tactic Idealize.SL.Sem

theorem values_WIn : Cert.algebraic_Kernel27Ideal_Reference27Ideal := by
  intro m ρ m' ρ' _ hagree
  refine ⟨_, Kernel27Ideal.Value.run m ρ, (θ_run _ _ _).mono (fun r h c => ⟨(h c).1.trans ?_, (h c).2⟩) (Reference27Ideal.Value.run m' ρ')⟩
  obtain ⟨e0, e1⟩ := hagree c
  rw [e0, e1]; rfl

theorem frame_WIn : Cert.quiescent_Reference27Ideal := fun m ρ _ =>
  (θ_run Cert.Reference27Ideal.defs _ _).mono (fun r h => ⟨fun c => (h c).2, sem_eq_zero_of_no_sems (by decide) r.2⟩)
    (Reference27Ideal.Value.run (F := Ideal) m ρ)

theorem values_WOut : Cert.algebraic_Kernel28Ideal_Reference28Ideal := by
  intro m ρ m' ρ' _ hagree
  refine ⟨_, Kernel28Ideal.Value.run m ρ, (θ_run _ _ _).mono (fun r h c => ⟨(h c).1.trans ?_, (h c).2⟩) (Reference28Ideal.Value.run m' ρ')⟩
  obtain ⟨e0, e1⟩ := hagree c
  rw [e0, e1]; rfl

theorem frame_WOut : Cert.quiescent_Reference28Ideal := fun m ρ _ =>
  (θ_run Cert.Reference28Ideal.defs _ _).mono (fun r h => ⟨fun c => (h c).2, sem_eq_zero_of_no_sems (by decide) r.2⟩)
    (Reference28Ideal.Value.run (F := Ideal) m ρ)

theorem values_WPw2 : Cert.algebraic_Kernel29Ideal_Reference29Ideal := by
  intro m ρ m' ρ' _ hagree
  refine ⟨_, Kernel29Ideal.Value.run m ρ, (θ_run _ _ _).mono (fun r h c => ⟨(h c).1.trans ?_, (h c).2⟩) (Reference29Ideal.Value.run m' ρ')⟩
  obtain ⟨e0, e1⟩ := hagree c
  rw [e0, e1]; rfl

theorem frame_WPw2 : Cert.quiescent_Reference29Ideal := fun m ρ _ =>
  (θ_run Cert.Reference29Ideal.defs _ _).mono (fun r h => ⟨fun c => (h c).2, sem_eq_zero_of_no_sems (by decide) r.2⟩)
    (Reference29Ideal.Value.run (F := Ideal) m ρ)

end Cert.Pairs
-- ==== Proof.ConvTile.lean ====
module
public import proofs.«01_k».proof.Proof.Gen.Kernel30Ideal.Frame
public import Idealize.ShloMosaic.Lib.Pipeline.ValueKit
public import Idealize.ShloMosaic.Lib.Pipeline.ReadBack
public import Idealize.ShloMosaic.Lib.Pointwise
public import Idealize.ShloMosaic.Lib.WritesUnit
@[expose] public section
set_option maxRecDepth 16384
noncomputable section
namespace Cert.Conv
open Idealize.ShloMosaic Idealize.ShloMosaic.TcCoe Idealize.ShloMosaic.Tactic Idealize.ShloMosaic.ValueKit
open Cert.Kernel30Ideal Cert.Kernel30Ideal.Gen

abbrev V (S : Shape) (e : EltTy) := Vec Ideal S e

/-- Copy `q` of the extended block: its rows moved up by `q`, the first ones following the last. -/
def copyOf (E : V S288x512 .f32) (q : ℕ) : V S1x288x512 .f32 :=
  fun x => E (ix2 ⟨((x 1).val + q) % 288, Nat.mod_lt _ (by decide)⟩ (x 2))

/-- The 256 rows of the extended block that start at row `s`. -/
def window (E : V S288x512 .f32) (s : ℕ) : V S1x256x512 .f32 :=
  fun x => E (ix2 ⟨((x 1).val + s) % 288, Nat.mod_lt _ (by decide)⟩ (x 2))

theorem copy_zero (E : V S288x512 .f32) (h) : shapeCast S1x288x512 E h = copyOf E 0 := by
  funext x; idx_vars x; pointwise [copyOf]
  congr 2; ext; simp only [Nat.mod_eq_of_lt x1.isLt]

theorem copy_rotate (E : V S288x512 .f32) (n : BitVec 32) (hr h) :
    shapeCast S1x288x512 (dynamicRotate 0 n none E hr) h = copyOf E (288 - n.toNat % 288) := by
  funext x; idx_vars x; pointwise [copyOf]
  congr 2; ext; simp only []; omega

variable (i : grid0.Coords) (v0 v1 : V S32x512 .f32) (v10 v18 : V S256x512 .f32) (E : V S288x512 .f32)
variable (v55 : V S256x512 .f32) (v56 : BitVec 1) (v57 : V S32x512 .f32)

theorem pay5 : k0_pay5 (F := Ideal) i v0 v1 v10 v18 = copyOf (k0_pay4 i v0 v1 v10 v18) 0 := copy_zero _ _
theorem pay6 : k0_pay6 (F := Ideal) i v0 v1 v10 v18 = copyOf (k0_pay4 i v0 v1 v10 v18) 1 := copy_rotate _ _ _ _
theorem pay8 : k0_pay8 (F := Ideal) (k0_pay7 i v0 v1 v10 v18) = copyOf (k0_pay4 i v0 v1 v10 v18) 2 := by
  unfold k0_pay8 k0_pay7; exact copy_rotate _ _ _ _
theorem pay9 : k0_pay9 (F := Ideal) E = copyOf E 3 := copy_rotate _ _ _ _
theorem pay10 : k0_pay10 (F := Ideal) E = copyOf E 4 := copy_rotate _ _ _ _
theorem pay11 : k0_pay11 (F := Ideal) E = copyOf E 5 := copy_rotate _ _ _ _
theorem pay12 : k0_pay12 (F := Ideal) E = copyOf E 6 := copy_rotate _ _ _ _
theorem pay13 : k0_pay13 (F := Ideal) E = copyOf E 7 := copy_rotate _ _ _ _
theorem pay15 : k0_pay15 (F := Ideal) v55 v56 v57 = copyOf (k0_pay14 v55 v56 v57) 0 := copy_zero _ _
theorem pay16 : k0_pay16 (F := Ideal) v55 v56 v57 = copyOf (k0_pay14 v55 v56 v57) 1 := copy_rotate _ _ _ _
theorem pay17 : k0_pay17 (F := Ideal) v55 v56 v57 = copyOf (k0_pay14 v55 v56 v57) 2 := copy_rotate _ _ _ _
theorem pay18 : k0_pay18 (F := Ideal) v55 v56 v57 = copyOf (k0_pay14 v55 v56 v57) 3 := copy_rotate _ _ _ _
theorem pay19 : k0_pay19 (F := Ideal) v55 v56 v57 = copyOf (k0_pay14 v55 v56 v57) 4 := copy_rotate _ _ _ _
theorem pay20 : k0_pay20 (F := Ideal) v55 v56 v57 = copyOf (k0_pay14 v55 v56 v57) 5 := copy_rotate _ _ _ _
theorem pay22 : k0_pay22 (F := Ideal) (k0_pay21 v55 v56 v57) = copyOf (k0_pay14 v55 v56 v57) 6 := by
  unfold k0_pay22 k0_pay21; exact copy_rotate _ _ _ _
theorem pay23 : k0_pay23 (F := Ideal) E = copyOf E 7 := copy_rotate _ _ _ _

theorem readCov_window {κ sp} (v : View sig κ sp S8x288x512 .f32) (E : V S288x512 .f32) (q s : ℕ) (inb L inb') :
    v.readCov ((⟨Rect.unit ![q, 0, 0] (no_index S1x288x512.size) inb, copyOf E q⟩ : View.Piece (Elt Ideal) S8x288x512 .f32) :: L)
      (Rect.unit (s := S8x288x512) ![q, s, 0] (no_index S1x256x512.size) inb').toLoadRect = window E (q + s) := by
  funext x
  have hs : s ≤ 32 := by have := inb' 1; simp at this; omega
  have h0 : (x 0).val = 0 := Nat.lt_one_iff.mp (x 0).isLt
  have h1 : (x 1).val < 256 := (x 1).isLt
  have h2 : (x 2).val < 512 := (x 2).isLt
  unfold View.readCov View.readAt
  refine (View.read_writes_cons_unit_of_mem v v.junk inb (copyOf E q) L _ (ix3 0 ⟨s + (x 1).val, by omega⟩ ⟨(x 2).val, h2⟩) rfl fun a => ?_).trans ?_
  · fin_cases a
    · show q + 1 * (x 0).val = q + 0; omega
    · show s + 1 * (x 1).val = 0 + (s + (x 1).val); omega
    · show 0 + 1 * (x 2).val = 0 + (x 2).val; omega
  · unfold copyOf window
    congr 2; ext; simp; congr 1; omega

/-- One tap of the convolution's input gradient: the window times one row of weights, added. -/
def tapIn (acc : V S256x512 .f32) (W : V S1x256x512 .f32) (w : V S1x512 .f32) : V S256x512 .f32 :=
  fun j => acc j + W (ix3 0 (j 0) (j 1)) * w (ix2 0 (j 1))

/-- One tap of the weights' gradient: the products of a window with the block, summed over the rows and added to a row. -/
def tapW (d : V S256x512 .f32) (row : V S1x512 .f32) (W : V S1x256x512 .f32) : V S1x512 .f32 :=
  fun j => row j + ∑ r : Fin 256, W (ix3 0 r (j 1)) * d (ix2 r (j 1))

theorem tapIn_eq (acc : V S256x512 .f32) (W : V S1x256x512 .f32) (w : V S1x512 .f32) (h1 h2 h3) :
    addf (F := Ideal) (φ := .f32) acc (mulf (shapeCast S256x512 W h1) (broadcastTo S256x512 (shapeCast S1x512 w h2) h3)) = tapIn acc W w := by
  funext j; idx_vars j; pointwise! [tapIn]

theorem tapW_eq (d : V S256x512 .f32) (row : V S1x512 .f32) (W : V S1x256x512 .f32) (h1 h2 h3 h4 h5 h6) :
    addf (F := Ideal) (φ := .f32) (shapeCast S1x512 row h1) (shapeCast S1x512 (multiReduction .add [0] S512 (mulf (shapeCast S256x512 W h2) d) 0x00000000#32 h3 h4 h5) h6) = tapW d row W := by
  funext j; idx_vars j; pointwise [tapW]

/-- The first `n` taps of the input gradient over an extended block. -/
def taps (D : V S288x512 .f32) (w : V S32x512 .f32) (n : ℕ) : V S256x512 .f32 :=
  fun j => ∑ k ∈ Finset.range n, D (ix2 ⟨((j 0).val + (30 - k)) % 288, Nat.mod_lt _ (by decide)⟩ (j 1)) * w (ix2 ⟨k % 32, Nat.mod_lt _ (by decide)⟩ (j 1))

/-- One row of the weights' gradient over an extended block. -/
def rowSum (U : V S288x512 .f32) (d : V S256x512 .f32) (k : ℕ) (l : Fin 512) : Ideal .f32 :=
  ∑ r : Fin 256, U (ix2 ⟨(r.val + (2 + k)) % 288, Nat.mod_lt _ (by decide)⟩ l) * d (ix2 r l)

theorem ld_row (w : V S32x512 .f32) (k : ℕ) (inb) (l : Fin 512) :
    View.ld w (Rect.unit (s := S32x512) ![k, 0] (no_index S1x512.size) inb) (ix2 0 l) = w (ix2 ⟨k % 32, Nat.mod_lt _ (by decide)⟩ l) := by
  have hk : k + 1 ≤ 32 := inb 0
  refine congrArg w (funext fun a => Fin.ext ?_)
  fin_cases a
  · show k + 1 * 0 = k % 32; omega
  · show 0 + 1 * l.val = l.val; omega

theorem taps_zero (D : V S288x512 .f32) (w : V S32x512 .f32) : taps D w 0 = fun _ => 0 := rfl

theorem taps_step (D : V S288x512 .f32) (w : V S32x512 .f32) (n s : ℕ) (inb) (hs : s = 30 - n) :
    tapIn (taps D w n) (window D s) (View.ld w (Rect.unit (s := S32x512) ![n, 0] (no_index S1x512.size) inb)) = taps D w (n + 1) := by
  funext j; idx_vars j
  show taps D w n (ix2 j0 j1) + window D s (ix3 0 j0 j1) * View.ld w (Rect.unit (s := S32x512) ![n, 0] (no_index S1x512.size) inb) (ix2 0 j1) = _
  rw [ld_row, hs]
  exact (Finset.sum_range_succ _ n).symm

theorem row_step (U : V S288x512 .f32) (d : V S256x512 .f32) (row : V S1x512 .f32) (k s : ℕ) (hs : s = 2 + k) (l : Fin 512) :
    tapW d row (window U s) (ix2 0 l) = row (ix2 0 l) + rowSum U d k l := by
  subst hs; rfl

theorem tap_first (W : V S1x256x512 .f32) (w : V S1x512 .f32) : k0_pay26 (F := Ideal) W w = tapIn (fun _ => 0) W w := by
  unfold k0_pay26; simp only [tapIn_eq]
  congr 1; funext j; pointwise

theorem tap30 (a : V S256x512 .f32) (W W2 : V S1x256x512 .f32) (w w2 : V S1x512 .f32) : k0_pay30 (F := Ideal) a (k0_pay28 W) w W2 w2 = tapIn (tapIn a W w) W2 w2 := by
  unfold k0_pay30 k0_pay28; simp only [tapIn_eq]
theorem tap34 (a : V S256x512 .f32) (W W2 : V S1x256x512 .f32) (w w2 : V S1x512 .f32) : k0_pay34 (F := Ideal) a (k0_pay32 W) w W2 w2 = tapIn (tapIn a W w) W2 w2 := by
  unfold k0_pay34 k0_pay32; simp only [tapIn_eq]
theorem tap38 (a : V S256x512 .f32) (W W2 : V S1x256x512 .f32) (w w2 : V S1x512 .f32) : k0_pay38 (F := Ideal) a (k0_pay36 W) w W2 w2 = tapIn (tapIn a W w) W2 w2 := by
  unfold k0_pay38 k0_pay36; simp only [tapIn_eq]
theorem tap42 (a : V S256x512 .f32) (W W2 : V S1x256x512 .f32) (w w2 : V S1x512 .f32) : k0_pay42 (F := Ideal) a (k0_pay40 W) w W2 w2 = tapIn (tapIn a W w) W2 w2 := by
  unfold k0_pay42 k0_pay40; simp only [tapIn_eq]
theorem tap46 (a : V S256x512 .f32) (W W2 : V S1x256x512 .f32) (w w2 : V S1x512 .f32) : k0_pay46 (F := Ideal) a (k0_pay44 W) w W2 w2 = tapIn (tapIn a W w) W2 w2 := by
  unfold k0_pay46 k0_pay44; simp only [tapIn_eq]
theorem tap50 (a : V S256x512 .f32) (W W2 : V S1x256x512 .f32) (w w2 : V S1x512 .f32) : k0_pay50 (F := Ideal) a (k0_pay48 W) w W2 w2 = tapIn (tapIn a W w) W2 w2 := by
  unfold k0_pay50 k0_pay48; simp only [tapIn_eq]
theorem tap54 (a : V S256x512 .f32) (W W2 : V S1x256x512 .f32) (w w2 : V S1x512 .f32) : k0_pay54 (F := Ideal) a (k0_pay52 W) w W2 w2 = tapIn (tapIn a W w) W2 w2 := by
  unfold k0_pay54 k0_pay52; simp only [tapIn_eq]
theorem tap58 (a : V S256x512 .f32) (W W2 : V S1x256x512 .f32) (w w2 : V S1x512 .f32) : k0_pay58 (F := Ideal) a (k0_pay56 W) w W2 w2 = tapIn (tapIn a W w) W2 w2 := by
  unfold k0_pay58 k0_pay56; simp only [tapIn_eq]
theorem tap62 (a : V S256x512 .f32) (W W2 : V S1x256x512 .f32) (w w2 : V S1x512 .f32) : k0_pay62 (F := Ideal) a (k0_pay60 W) w W2 w2 = tapIn (tapIn a W w) W2 w2 := by
  unfold k0_pay62 k0_pay60; simp only [tapIn_eq]
theorem tap66 (a : V S256x512 .f32) (W W2 : V S1x256x512 .f32) (w w2 : V S1x512 .f32) : k0_pay66 (F := Ideal) a (k0_pay64 W) w W2 w2 = tapIn (tapIn a W w) W2 w2 := by
  unfold k0_pay66 k0_pay64; simp only [tapIn_eq]
theorem tap70 (a : V S256x512 .f32) (W W2 : V S1x256x512 .f32) (w w2 : V S1x512 .f32) : k0_pay70 (F := Ideal) a (k0_pay68 W) w W2 w2 = tapIn (tapIn a W w) W2 w2 := by
  unfold k0_pay70 k0_pay68; simp only [tapIn_eq]
theorem tap74 (a : V S256x512 .f32) (W W2 : V S1x256x512 .f32) (w w2 : V S1x512 .f32) : k0_pay74 (F := Ideal) a (k0_pay72 W) w W2 w2 = tapIn (tapIn a W w) W2 w2 := by
  unfold k0_pay74 k0_pay72; simp only [tapIn_eq]
theorem tap78 (a : V S256x512 .f32) (W W2 : V S1x256x512 .f32) (w w2 : V S1x512 .f32) : k0_pay78 (F := Ideal) a (k0_pay76 W) w W2 w2 = tapIn (tapIn a W w) W2 w2 := by
  unfold k0_pay78 k0_pay76; simp only [tapIn_eq]
theorem tap82 (a : V S256x512 .f32) (W W2 : V S1x256x512 .f32) (w w2 : V S1x512 .f32) : k0_pay82 (F := Ideal) a (k0_pay80 W) w W2 w2 = tapIn (tapIn a W w) W2 w2 := by
  unfold k0_pay82 k0_pay80; simp only [tapIn_eq]
theorem tap86 (a : V S256x512 .f32) (W W2 : V S1x256x512 .f32) (w w2 : V S1x512 .f32) : k0_pay86 (F := Ideal) a (k0_pay84 W) w W2 w2 = tapIn (tapIn a W w) W2 w2 := by
  unfold k0_pay86 k0_pay84; simp only [tapIn_eq]
theorem row27 (d : V S256x512 .f32) (r : V S1x512 .f32) (W : V S1x256x512 .f32) : k0_pay27 (F := Ideal) d r W = tapW d r W := tapW_eq _ _ _ _ _ _ _ _ _
theorem row29 (d : V S256x512 .f32) (r : V S1x512 .f32) (W : V S1x256x512 .f32) : k0_pay29 (F := Ideal) d r W = tapW d r W := tapW_eq _ _ _ _ _ _ _ _ _
theorem row31 (d : V S256x512 .f32) (r : V S1x512 .f32) (W : V S1x256x512 .f32) : k0_pay31 (F := Ideal) d r W = tapW d r W := tapW_eq _ _ _ _ _ _ _ _ _
theorem row33 (d : V S256x512 .f32) (r : V S1x512 .f32) (W : V S1x256x512 .f32) : k0_pay33 (F := Ideal) d r W = tapW d r W := tapW_eq _ _ _ _ _ _ _ _ _
theorem row35 (d : V S256x512 .f32) (r : V S1x512 .f32) (W : V S1x256x512 .f32) : k0_pay35 (F := Ideal) d r W = tapW d r W := tapW_eq _ _ _ _ _ _ _ _ _
theorem row37 (d : V S256x512 .f32) (r : V S1x512 .f32) (W : V S1x256x512 .f32) : k0_pay37 (F := Ideal) d r W = tapW d r W := tapW_eq _ _ _ _ _ _ _ _ _
theorem row39 (d : V S256x512 .f32) (r : V S1x512 .f32) (W : V S1x256x512 .f32) : k0_pay39 (F := Ideal) d r W = tapW d r W := tapW_eq _ _ _ _ _ _ _ _ _
theorem row41 (d : V S256x512 .f32) (r : V S1x512 .f32) (W : V S1x256x512 .f32) : k0_pay41 (F := Ideal) d r W = tapW d r W := tapW_eq _ _ _ _ _ _ _ _ _
theorem row43 (d : V S256x512 .f32) (r : V S1x512 .f32) (W : V S1x256x512 .f32) : k0_pay43 (F := Ideal) d r W = tapW d r W := tapW_eq _ _ _ _ _ _ _ _ _
theorem row45 (d : V S256x512 .f32) (r : V S1x512 .f32) (W : V S1x256x512 .f32) : k0_pay45 (F := Ideal) d r W = tapW d r W := tapW_eq _ _ _ _ _ _ _ _ _
theorem row47 (d : V S256x512 .f32) (r : V S1x512 .f32) (W : V S1x256x512 .f32) : k0_pay47 (F := Ideal) d r W = tapW d r W := tapW_eq _ _ _ _ _ _ _ _ _
theorem row49 (d : V S256x512 .f32) (r : V S1x512 .f32) (W : V S1x256x512 .f32) : k0_pay49 (F := Ideal) d r W = tapW d r W := tapW_eq _ _ _ _ _ _ _ _ _
theorem row51 (d : V S256x512 .f32) (r : V S1x512 .f32) (W : V S1x256x512 .f32) : k0_pay51 (F := Ideal) d r W = tapW d r W := tapW_eq _ _ _ _ _ _ _ _ _
theorem row53 (d : V S256x512 .f32) (r : V S1x512 .f32) (W : V S1x256x512 .f32) : k0_pay53 (F := Ideal) d r W = tapW d r W := tapW_eq _ _ _ _ _ _ _ _ _
theorem row55 (d : V S256x512 .f32) (r : V S1x512 .f32) (W : V S1x256x512 .f32) : k0_pay55 (F := Ideal) d r W = tapW d r W := tapW_eq _ _ _ _ _ _ _ _ _
theorem row57 (d : V S256x512 .f32) (r : V S1x512 .f32) (W : V S1x256x512 .f32) : k0_pay57 (F := Ideal) d r W = tapW d r W := tapW_eq _ _ _ _ _ _ _ _ _
theorem row59 (d : V S256x512 .f32) (r : V S1x512 .f32) (W : V S1x256x512 .f32) : k0_pay59 (F := Ideal) d r W = tapW d r W := tapW_eq _ _ _ _ _ _ _ _ _
theorem row61 (d : V S256x512 .f32) (r : V S1x512 .f32) (W : V S1x256x512 .f32) : k0_pay61 (F := Ideal) d r W = tapW d r W := tapW_eq _ _ _ _ _ _ _ _ _
theorem row63 (d : V S256x512 .f32) (r : V S1x512 .f32) (W : V S1x256x512 .f32) : k0_pay63 (F := Ideal) d r W = tapW d r W := tapW_eq _ _ _ _ _ _ _ _ _
theorem row65 (d : V S256x512 .f32) (r : V S1x512 .f32) (W : V S1x256x512 .f32) : k0_pay65 (F := Ideal) d r W = tapW d r W := tapW_eq _ _ _ _ _ _ _ _ _
theorem row67 (d : V S256x512 .f32) (r : V S1x512 .f32) (W : V S1x256x512 .f32) : k0_pay67 (F := Ideal) d r W = tapW d r W := tapW_eq _ _ _ _ _ _ _ _ _
theorem row69 (d : V S256x512 .f32) (r : V S1x512 .f32) (W : V S1x256x512 .f32) : k0_pay69 (F := Ideal) d r W = tapW d r W := tapW_eq _ _ _ _ _ _ _ _ _
theorem row71 (d : V S256x512 .f32) (r : V S1x512 .f32) (W : V S1x256x512 .f32) : k0_pay71 (F := Ideal) d r W = tapW d r W := tapW_eq _ _ _ _ _ _ _ _ _
theorem row73 (d : V S256x512 .f32) (r : V S1x512 .f32) (W : V S1x256x512 .f32) : k0_pay73 (F := Ideal) d r W = tapW d r W := tapW_eq _ _ _ _ _ _ _ _ _
theorem row75 (d : V S256x512 .f32) (r : V S1x512 .f32) (W : V S1x256x512 .f32) : k0_pay75 (F := Ideal) d r W = tapW d r W := tapW_eq _ _ _ _ _ _ _ _ _
theorem row77 (d : V S256x512 .f32) (r : V S1x512 .f32) (W : V S1x256x512 .f32) : k0_pay77 (F := Ideal) d r W = tapW d r W := tapW_eq _ _ _ _ _ _ _ _ _
theorem row79 (d : V S256x512 .f32) (r : V S1x512 .f32) (W : V S1x256x512 .f32) : k0_pay79 (F := Ideal) d r W = tapW d r W := tapW_eq _ _ _ _ _ _ _ _ _
theorem row81 (d : V S256x512 .f32) (r : V S1x512 .f32) (W : V S1x256x512 .f32) : k0_pay81 (F := Ideal) d r W = tapW d r W := tapW_eq _ _ _ _ _ _ _ _ _
theorem row83 (d : V S256x512 .f32) (r : V S1x512 .f32) (W : V S1x256x512 .f32) : k0_pay83 (F := Ideal) d r W = tapW d r W := tapW_eq _ _ _ _ _ _ _ _ _
theorem row85 (d : V S256x512 .f32) (r : V S1x512 .f32) (W : V S1x256x512 .f32) : k0_pay85 (F := Ideal) d r W = tapW d r W := tapW_eq _ _ _ _ _ _ _ _ _
theorem row87 (d : V S256x512 .f32) (r : V S1x512 .f32) (W : V S1x256x512 .f32) : k0_pay87 (F := Ideal) d r W = tapW d r W := tapW_eq _ _ _ _ _ _ _ _ _

/-- Reading after the writes `L`, rows below `n` hold the base row plus that row of the weights' gradient, the others the base row. -/
def RowsTo {κ sp} (v : View sig κ sp S32x512 .f32) (f : v.ty.Contents (Elt Ideal)) (L : List (View.Piece (Elt Ideal) S32x512 .f32))
    (U : V S288x512 .f32) (d : V S256x512 .f32) (B : V S32x512 .f32) (n : ℕ) : Prop :=
  ∀ (p : Fin 32) (l : Fin 512), v.read (Elt Ideal) (v.writes (Elt Ideal) f L) (ix2 p l) = if p.val < n then B (ix2 p l) + rowSum U d p.val l else B (ix2 p l)

theorem rows_cons {κ sp} (v : View sig κ sp S32x512 .f32) (f : v.ty.Contents (Elt Ideal)) (L : List (View.Piece (Elt Ideal) S32x512 .f32))
    (U : V S288x512 .f32) (d : V S256x512 .f32) (B : V S32x512 .f32) (n s : ℕ) (inb inb') (h : RowsTo v f L U d B n) (hs : s = 2 + n) :
    RowsTo v f ((⟨Rect.unit ![n, 0] S1x512.size inb, tapW d (View.ld B (Rect.unit (s := S32x512) ![n, 0] S1x512.size inb')) (window U s)⟩ : View.Piece (Elt Ideal) S32x512 .f32) :: L) U d B (n + 1) := by
  intro p l
  have hn : n + 1 ≤ 32 := inb 0
  by_cases hp : p.val = n
  · refine (View.read_writes_cons_unit_of_mem v f inb _ L (ix2 p l) (ix2 0 l) rfl fun a => ?_).trans ?_
    · fin_cases a
      · show p.val = n + 0; omega
      · show l.val = 0 + l.val; omega
    · refine (row_step U d _ n s hs l).trans ?_
      have hp' : p = ⟨n % 32, Nat.mod_lt _ (by decide)⟩ := Fin.ext (by show p.val = n % 32; omega)
      rw [if_pos (by omega), hp, ld_row, hp']
  · refine (View.read_writes_cons_unit_of_not_mem v f inb _ L (ix2 p l) rfl 0 ?_).trans ?_
    · show p.val < n ∨ n + 1 ≤ p.val; omega
    · rw [h p l]
      by_cases hlt : p.val < n
      · rw [if_pos hlt, if_pos (by omega)]
      · rw [if_neg hlt, if_neg (by omega)]

theorem rows_unread {κ sp} (r : Memref sig κ sp S32x512 .f32) (hr : r.IsWhole) (U : V S288x512 .f32) (d : V S256x512 .f32) (B : V S32x512 .f32) :
    RowsTo r.view (hr.unread B) [] U d B 0 := by
  intro p l
  rw [if_neg (by omega)]
  exact congrFun (hr.read_unread B) _

theorem rows_fill {κ sp} (v : View sig κ sp S32x512 .f32) (f : v.ty.Contents (Elt Ideal)) (U : V S288x512 .f32) (d : V S256x512 .f32) (B : V S32x512 .f32) (inb) :
    RowsTo v f [(⟨Rect.unit ![0, 0] S32x512.size inb, B⟩ : View.Piece (Elt Ideal) S32x512 .f32)] U d B 0 := by
  intro p l
  rw [if_neg (by omega)]
  refine View.read_writes_cons_unit_of_mem v f inb _ [] (ix2 p l) (ix2 p l) rfl fun a => ?_
  fin_cases a
  · show p.val = 0 + p.val; omega
  · show l.val = 0 + l.val; omega

/-- The block of the weights' gradient after one block of rows: rows 0 to 30 have their sums added. -/
def addRows (U : V S288x512 .f32) (d : V S256x512 .f32) (B : V S32x512 .f32) : V S32x512 .f32 :=
  fun y => if (y 0).val < 31 then B y + rowSum U d (y 0).val (y 1) else B y

theorem rows_done {κ sp} (v : View sig κ sp S32x512 .f32) (f : v.ty.Contents (Elt Ideal)) (L : List (View.Piece (Elt Ideal) S32x512 .f32))
    (U : V S288x512 .f32) (d : V S256x512 .f32) (B : V S32x512 .f32) (h : RowsTo v f L U d B 31) :
    v.read (Elt Ideal) (v.writes (Elt Ideal) f L) = addRows U d B := by
  funext y; idx_vars y; exact h y0 y1

theorem colSum (d : V S256x512 .f32) (r : V S1x512 .f32) : k0_pay88 (F := Ideal) d r = fun j => r j + ∑ t : Fin 256, d (ix2 t (j 1)) := by
  funext j; idx_vars j; pointwise [k0_pay88]

variable (c : Dev nD) (arg2 : Memref sig .tc .vmem S32x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .f32) (harg7 : arg7.IsWhole) (arg8 : Memref sig .tc .vmem S32x512 .f32) (harg8 : arg8.IsWhole) (arg9 : Memref sig .tc .vmem S256x512 .bf16) (harg9 : arg9.IsWhole) (arg10 : Memref sig .tc .vmem S256x512 .bf16) (harg10 : arg10.IsWhole) (arg11 : Memref sig .tc .vmem S32x512 .f32) (harg11 : arg11.IsWhole) (arg12 : Memref sig .tc .vmem S1x512 .f32) (harg12 : arg12.IsWhole) (arg13 : Memref sig .tc .vmem S8x288x512 .f32) (harg13 : arg13.IsWhole) (arg14 : Memref sig .tc .vmem S8x288x512 .f32) (harg14 : arg14.IsWhole) (x0 : V S32x512 .f32) (x1 : V S256x512 .f32) (x2 : V S256x512 .f32) (x3 : V S32x512 .f32) (x4 : V S32x512 .f32) (x5 : V S256x512 .f32) (x6 : V S32x512 .f32) (xo9 : V S32x512 .f32) (xo10 : V S1x512 .f32)

set_option maxHeartbeats 4000000 in
theorem out_A_7 (hc0 : cond0_0 i) : out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay1 (k0_pay3 x2) (taps (k0_pay14 x5 (Scalar.cmpi .eq (BitVec.ofNat 32 (i 1).val) 15#32) x6) x0 31) := by
  unfold out0_A_7
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  simp only [tap_first, tap30, tap34, tap38, tap42, tap46, tap50, tap54, tap58, tap62, tap66, tap70, tap74, tap78, tap82, tap86, ← taps_zero (k0_pay14 x5 (Scalar.cmpi .eq (BitVec.ofNat 32 (i 1).val) 15#32) x6) x0]
  simp (disch := decide) only [taps_step]

set_option maxHeartbeats 4000000 in
theorem out_B_7 (hc0 : ¬cond0_0 i) : out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay1 (k0_pay3 x2) (taps (k0_pay14 x5 (Scalar.cmpi .eq (BitVec.ofNat 32 (i 1).val) 15#32) x6) x0 31) := by
  unfold out0_B_7
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  simp only [tap_first, tap30, tap34, tap38, tap42, tap46, tap50, tap54, tap58, tap62, tap66, tap70, tap74, tap78, tap82, tap86, ← taps_zero (k0_pay14 x5 (Scalar.cmpi .eq (BitVec.ofNat 32 (i 1).val) 15#32) x6) x0]
  simp (disch := decide) only [taps_step]

set_option maxHeartbeats 4000000 in
theorem out_A_8 (hc0 : cond0_0 i) : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay2 (k0_pay3 x2) x1 (taps (k0_pay14 x5 (Scalar.cmpi .eq (BitVec.ofNat 32 (i 1).val) 15#32) x6) x0 31) := by
  unfold out0_A_8
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  simp only [tap_first, tap30, tap34, tap38, tap42, tap46, tap50, tap54, tap58, tap62, tap66, tap70, tap74, tap78, tap82, tap86, ← taps_zero (k0_pay14 x5 (Scalar.cmpi .eq (BitVec.ofNat 32 (i 1).val) 15#32) x6) x0]
  simp (disch := decide) only [taps_step]

set_option maxHeartbeats 4000000 in
theorem out_B_8 (hc0 : ¬cond0_0 i) : out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay2 (k0_pay3 x2) x1 (taps (k0_pay14 x5 (Scalar.cmpi .eq (BitVec.ofNat 32 (i 1).val) 15#32) x6) x0 31) := by
  unfold out0_B_8
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  simp only [tap_first, tap30, tap34, tap38, tap42, tap46, tap50, tap54, tap58, tap62, tap66, tap70, tap74, tap78, tap82, tap86, ← taps_zero (k0_pay14 x5 (Scalar.cmpi .eq (BitVec.ofNat 32 (i 1).val) 15#32) x6) x0]
  simp (disch := decide) only [taps_step]

set_option maxHeartbeats 4000000 in
theorem out_A_9 (hc0 : cond0_0 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = addRows (k0_pay4 i x3 x4 x2 x1) x5 (k0_pay24 (F := Ideal)) := by
  unfold out0_A_9
  frame_open
  simp (disch := decide) only [↓ View.readCov_fill, View.readCov_unit_lit', ↓ View.readCov_skip, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  simp only [row27, row29, row31, row33, row35, row37, row39, row41, row43, row45, row47, row49, row51, row53, row55, row57, row59, row61, row63, row65, row67, row69, row71, row73, row75, row77, row79, row81, row83, row85, row87]
  refine rows_done _ _ _ _ _ _ ?_
  iterate 31 refine rows_cons _ _ _ _ _ _ _ _ _ _ ?_ rfl
  exact rows_fill _ _ _ _ _ _

set_option maxHeartbeats 4000000 in
theorem out_B_9 (hc0 : ¬cond0_0 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = addRows (k0_pay4 i x3 x4 x2 x1) x5 xo9 := by
  unfold out0_B_9
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  simp only [row27, row29, row31, row33, row35, row37, row39, row41, row43, row45, row47, row49, row51, row53, row55, row57, row59, row61, row63, row65, row67, row69, row71, row73, row75, row77, row79, row81, row83, row85, row87]
  refine rows_done _ _ _ _ _ _ ?_
  iterate 31 refine rows_cons _ _ _ _ _ _ _ _ _ _ ?_ rfl
  exact rows_unread _ _ _ _ _

set_option maxHeartbeats 4000000 in
theorem out_A_10 (hc0 : cond0_0 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = fun j => 0 + ∑ t : Fin 256, x5 (ix2 t (j 1)) := by
  unfold out0_A_10
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  refine (colSum _ _).trans ?_
  funext j; idx_vars j; pointwise [k0_pay25]

set_option maxHeartbeats 4000000 in
theorem out_B_10 (hc0 : ¬cond0_0 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = fun j => xo10 j + ∑ t : Fin 256, x5 (ix2 t (j 1)) := by
  unfold out0_B_10
  frame_open
  simp (disch := decide) only [↓ View.readCov_fill, View.readCov_unit_lit', ↓ View.readCov_skip, View.read_writes_junk_eq_canon, View.canon_cons_unit_lit', View.ld_unit_lit', View.readAt_eq_ld, Memref.IsWhole.read_unread, pay5, pay6, pay8, pay9, pay10, pay11, pay12, pay13, pay15, pay16, pay17, pay18, pay19, pay20, pay22, pay23, readCov_window]
  exact colSum _ _

end Cert.Conv
-- ==== Proof.ConvArrays.lean ====
module
public import proofs.«01_k».proof.Proof.ConvTile
public import Idealize.ShloMosaic.Lib.StableHlo.ReadAt
public import proofs.«01_k».proof.Proof.Gen.Kernel30Ideal.Value
@[expose] public section
set_option maxRecDepth 16384
noncomputable section
namespace Cert.Conv
open Idealize.ShloMosaic Idealize.ShloMosaic.TcCoe Idealize.ShloMosaic.Tactic Idealize.ShloMosaic.ValueKit
open Cert.Kernel30Ideal Cert.Kernel30Ideal.Gen

/-! ## What the call computes, as functions of the whole arrays -/

/-- The logistic function. -/
def sg (x : Ideal .f32) : Ideal .f32 := Ideal.div 1 (1 + Ideal.exp (0 - x))

variable (A0 : V S4096x14592 .f32) (A1 : V S31x2048 .f32) (A2 : V S4096x2048 .f32)

/-- The value half of the gated linear unit. -/
def glv (p : Fin 4096) (q : Fin 2048) : Ideal .f32 := A0 (ix2 p ⟨8192 + q.val, by omega⟩)

/-- The gate half, through the logistic function. -/
def gls (p : Fin 4096) (q : Fin 2048) : Ideal .f32 := sg (A0 (ix2 p ⟨10240 + q.val, by omega⟩))

/-- The convolution's input with 32 rows of zeros before it. -/
def uPad (n : ℕ) (q : Fin 2048) : Ideal .f32 :=
  if h : 32 ≤ n ∧ n < 4128 then glv A0 ⟨n - 32, by omega⟩ q * gls A0 ⟨n - 32, by omega⟩ q else 0

/-- The gradient of the convolution's output, zero past its last row. -/
def dPad (n : ℕ) (q : Fin 2048) : Ideal .f32 := if h : n < 4096 then A2 (ix2 ⟨n, h⟩ q) else 0

/-- Row `k` of the weights. -/
def wAt (k : ℕ) (q : Fin 2048) : Ideal .f32 := if h : k < 31 then A1 (ix2 ⟨k, h⟩ q) else 0

/-- The gradient of the convolution's input. -/
def duAt (p : ℕ) (q : Fin 2048) : Ideal .f32 := ∑ k ∈ Finset.range 31, dPad A2 (p + (30 - k)) q * wAt A1 k q

/-- The gradient of the value half. -/
def dvOut : V S4096x2048 .bf16 := fun j => duAt A1 A2 (j 0).val (j 1) * gls A0 (j 0) (j 1)

/-- The gradient of the gate half. -/
def dgOut : V S4096x2048 .bf16 := fun j => duAt A1 A2 (j 0).val (j 1) * glv A0 (j 0) (j 1) * gls A0 (j 0) (j 1) * (1 - gls A0 (j 0) (j 1))

/-- The gradient of the weights, its last row zero. -/
def dwOut : V S32x2048 .f32 := fun j =>
  if (j 0).val < 31 then ∑ p : Fin 4096, uPad A0 (p.val + (2 + (j 0).val)) (j 1) * A2 (ix2 p (j 1)) else 0

/-- The gradient of the bias. -/
def dbOut : V S1x2048 .f32 := fun j => ∑ p : Fin 4096, A2 (ix2 p (j 1))

/-! ## The blocks of a grid point -/

variable (m : (ℓ : Loc nD τ sig) → Buf (Elt Ideal) ℓ) (c : Dev nD)

/-- The three arguments as arrays. -/
abbrev arg0 : V S4096x14592 .f32 := m ((c : Thread nD τ).loc main_arg0)
abbrev arg1 : V S31x2048 .f32 := m ((c : Thread nD τ).loc main_arg1)
abbrev arg2 : V S4096x2048 .f32 := m ((c : Thread nD τ).loc main_arg2)

theorem points (t : Fin cfg0.N) : t.val < 64 := lt_of_lt_of_eq t.isLt N_0

theorem idx0 : ∀ t : Fin cfg0.N, win0_0.index t = ![0, t.val / 16] := (by decide +kernel : ∀ t : Fin grid0.N, _)
theorem idx1 : ∀ t : Fin cfg0.N, win0_1.index t = ![t.val % 16, 16 + t.val / 16] := (by decide +kernel : ∀ t : Fin grid0.N, _)
theorem idx2 : ∀ t : Fin cfg0.N, win0_2.index t = ![t.val % 16, 20 + t.val / 16] := (by decide +kernel : ∀ t : Fin grid0.N, _)
theorem idx3 : ∀ t : Fin cfg0.N, win0_3.index t = ![8 * (t.val % 16) - 1, 16 + t.val / 16] := (by decide +kernel : ∀ t : Fin grid0.N, _)
theorem idx4 : ∀ t : Fin cfg0.N, win0_4.index t = ![8 * (t.val % 16) - 1, 20 + t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![min (8 * (t.val % 16) + 8) 127, t.val / 16] := (by decide +kernel : ∀ t : Fin grid0.N, _)
theorem idx7 : ∀ t : Fin cfg0.N, win0_7.index t = ![t.val % 16, t.val / 16] := (by decide +kernel : ∀ t : Fin grid0.N, _)
theorem idx8 : ∀ t : Fin cfg0.N, win0_8.index t = ![t.val % 16, t.val / 16] := (by decide +kernel : ∀ t : Fin grid0.N, _)
theorem idx9 : ∀ t : Fin cfg0.N, win0_9.index t = ![0, t.val / 16] := (by decide +kernel : ∀ t : Fin grid0.N, _)
theorem idx10 : ∀ t : Fin cfg0.N, win0_10.index t = ![0, t.val / 16] := (by decide +kernel : ∀ t : Fin grid0.N, _)
theorem coord1 : ∀ t : Fin cfg0.N, (grid0.coords t 1).val = t.val % 16 := (by decide +kernel : ∀ t : Fin grid0.N, _)

/-- Column `l` of the block of columns that point `t` works on. -/
def col (t : Fin cfg0.N) (l : Fin 512) : Fin 2048 := ⟨512 * (t.val / 16) + l.val, by have := points t; omega⟩

/-- Row `r` of the block of rows that point `t` works on. -/
def row (t : Fin cfg0.N) (r : Fin 256) : Fin 4096 := ⟨256 * (t.val % 16) + r.val, by omega⟩

theorem blk1 (t : Fin cfg0.N) (r : Fin 256) (l : Fin 512) : X0_1 m c t (ix2 r l) = glv (arg0 m c) (row t r) (col t l) := by
  have := points t
  unfold X0_1 Pipeline.Window.fill; rw [dif_pos (moved0_1 t _)]
  blk_simp [iblk]
  rw [V_main_arg0]
  refine congrArg (arg0 m c) ?_
  unfold row col
  blk_ext [idx1]

theorem blk2 (t : Fin cfg0.N) (r : Fin 256) (l : Fin 512) : k0_pay3 (F := Ideal) (X0_2 m c t) (ix2 r l) = gls (arg0 m c) (row t r) (col t l) := by
  have := points t
  refine Eq.trans (b := sg (X0_2 m c t (ix2 r l))) ?_ (congrArg sg ?_)
  · pointwise [k0_pay3]; rfl
  unfold X0_2 Pipeline.Window.fill; rw [dif_pos (moved0_2 t _)]
  blk_simp [iblk]
  rw [V_main_arg0]
  refine congrArg (arg0 m c) ?_
  unfold row col
  blk_ext [idx2]

theorem blk3 (t : Fin cfg0.N) (ht : ¬t.val % 16 = 0) (r : Fin 32) (l : Fin 512) :
    X0_3 m c t (ix2 r l) = glv (arg0 m c) ⟨256 * (t.val % 16) + r.val - 32, by omega⟩ (col t l) := by
  have := points t
  unfold X0_3 Pipeline.Window.fill; rw [dif_pos (moved0_3 t _)]
  blk_simp [iblk]
  rw [V_main_arg0]
  refine congrArg (arg0 m c) ?_
  unfold col
  blk_ext [idx3]

theorem blk4 (t : Fin cfg0.N) (ht : ¬t.val % 16 = 0) (r : Fin 32) (l : Fin 512) :
    sg (X0_4 m c t (ix2 r l)) = gls (arg0 m c) ⟨256 * (t.val % 16) + r.val - 32, by omega⟩ (col t l) := by
  have := points t
  refine congrArg sg ?_
  unfold X0_4 Pipeline.Window.fill; rw [dif_pos (moved0_4 t _)]
  blk_simp [iblk]
  rw [V_main_arg0]
  refine congrArg (arg0 m c) ?_
  unfold col
  blk_ext [idx4]

theorem blk5 (t : Fin cfg0.N) (r : Fin 256) (l : Fin 512) : iblk m c 5 t (ix2 r l) = arg2 m c (ix2 (row t r) (col t l)) := by
  have := points t
  blk_simp [iblk]
  rw [V_main_arg2]
  refine congrArg (arg2 m c) ?_
  unfold row col
  blk_ext [idx5]

theorem blk6 (t : Fin cfg0.N) (ht : ¬t.val % 16 = 15) (r : Fin 32) (l : Fin 512) :
    iblk m c 6 t (ix2 r l) = arg2 m c (ix2 ⟨256 * (t.val % 16) + 256 + r.val, by omega⟩ (col t l)) := by
  have := points t
  blk_simp [iblk]
  rw [V_main_arg2]
  refine congrArg (arg2 m c) ?_
  unfold col
  blk_ext [idx6]

theorem blk0 (t : Fin cfg0.N) (k : ℕ) (hk : k < 31) (l : Fin 512) :
    iblk m c 0 t (ix2 ⟨k % 32, Nat.mod_lt _ (by decide)⟩ l) = wAt (arg1 m c) k (col t l) := by
  have := points t
  unfold wAt; rw [dif_pos hk]
  blk_simp [iblk]
  have e : (win0_0.blk t).view.emb (ix2 (⟨k % 32, Nat.mod_lt _ (by decide)⟩ : Fin 32) l) = ix2 (⟨k, by omega⟩ : Fin 32) (col t l) := by
    unfold col
    blk_ext [idx0]
  rw [e]
  unfold Gen.V
  after_reads_at
  rw [dif_pos hk]

/-- The extended block of the convolution's input that point `t` builds. -/
theorem ext_u (t : Fin cfg0.N) (s : Fin 288) (l : Fin 512) :
    k0_pay4 (F := Ideal) (grid0.coords t) (X0_3 m c t) (X0_4 m c t) (X0_2 m c t) (X0_1 m c t) (ix2 s l)
      = uPad (arg0 m c) (256 * (t.val % 16) + s.val) (col t l) := by
  have := points t
  pointwise [k0_pay4]
  unfold uPad
  rw [coord1 t]
  by_cases hs : s.val < 32
  · rw [dif_pos hs]
    by_cases ht : t.val % 16 = 0
    · rw [dif_neg (by omega), ht]; rfl
    · rw [dif_pos (by omega)]
      refine Eq.trans (b := (fun x y : Ideal .f32 => x * sg y) (X0_3 m c t (ix2 ⟨s.val, hs⟩ l)) (X0_4 m c t (ix2 ⟨s.val, hs⟩ l))) ?_ ?_
      · have hb : Scalar.cmpi .eq (BitVec.ofNat 32 (t.val % 16)) 0#32 = 0#1 := by
          have : t.val % 16 < 16 := Nat.mod_lt _ (by decide)
          generalize t.val % 16 = n at *
          interval_cases n <;> first | rfl | omega
        rw [hb]; rfl
      · exact congrArg₂ (· * ·) (blk3 m c t ht ⟨s.val, hs⟩ l) (blk4 m c t ht ⟨s.val, hs⟩ l)
  · rw [dif_neg hs, dif_pos (by omega), blk1, blk2]
    have e : row t ⟨s.val - 32, by omega⟩ = ⟨256 * (t.val % 16) + s.val - 32, by omega⟩ := Fin.ext (by show 256 * (t.val % 16) + (s.val - 32) = 256 * (t.val % 16) + s.val - 32; omega)
    rw [e]

/-- The extended block of the output's gradient that point `t` builds. -/
theorem ext_d (t : Fin cfg0.N) (s : Fin 288) (l : Fin 512) :
    k0_pay14 (F := Ideal) (iblk m c 5 t) (Scalar.cmpi .eq (BitVec.ofNat 32 (grid0.coords t 1).val) 15#32) (iblk m c 6 t) (ix2 s l)
      = dPad (arg2 m c) (256 * (t.val % 16) + s.val) (col t l) := by
  have := points t
  pointwise [k0_pay14]
  unfold dPad
  rw [coord1 t]
  by_cases hs : s.val < 256
  · rw [dif_pos hs, dif_pos (by omega), blk5]; rfl
  · rw [dif_neg hs]
    by_cases ht : t.val % 16 = 15
    · rw [dif_neg (by omega), ht]; rfl
    · rw [dif_pos (by omega)]
      have hb : Scalar.cmpi .eq (BitVec.ofNat 32 (t.val % 16)) 15#32 = 0#1 := by
        have : t.val % 16 < 16 := Nat.mod_lt _ (by decide)
        generalize t.val % 16 = n at *
        interval_cases n <;> first | rfl | omega
      rw [hb]
      refine (blk6 m c t ht ⟨s.val - 256, by omega⟩ l).trans ?_
      refine congrArg (fun p => arg2 m c (ix2 p (col t l))) (Fin.ext ?_)
      show 256 * (t.val % 16) + 256 + (s.val - 256) = 256 * (t.val % 16) + s.val
      omega

theorem taps_at (t : Fin cfg0.N) (r : Fin 256) (l : Fin 512) :
    taps (k0_pay14 (F := Ideal) (iblk m c 5 t) (Scalar.cmpi .eq (BitVec.ofNat 32 (grid0.coords t 1).val) 15#32) (iblk m c 6 t)) (iblk m c 0 t) 31 (ix2 r l)
      = duAt (arg1 m c) (arg2 m c) (row t r).val (col t l) := by
  have := points t
  refine Finset.sum_congr rfl fun k hk => ?_
  have hk := Finset.mem_range.mp hk
  refine congrArg₂ (· * ·) ((ext_d m c t _ l).trans ?_) (blk0 m c t k hk l)
  congr 1
  show 256 * (t.val % 16) + (r.val + (30 - k)) % 288 = 256 * (t.val % 16) + r.val + (30 - k)
  omega

theorem rowSum_at (t : Fin cfg0.N) (k : ℕ) (hk : k < 31) (l : Fin 512) :
    rowSum (k0_pay4 (F := Ideal) (grid0.coords t) (X0_3 m c t) (X0_4 m c t) (X0_2 m c t) (X0_1 m c t)) (iblk m c 5 t) k l
      = ∑ r : Fin 256, uPad (arg0 m c) ((row t r).val + (2 + k)) (col t l) * arg2 m c (ix2 (row t r) (col t l)) := by
  have := points t
  refine Finset.sum_congr rfl fun r _ => ?_
  refine congrArg₂ (· * ·) ((ext_u m c t _ l).trans ?_) (blk5 m c t r l)
  congr 1
  show 256 * (t.val % 16) + (r.val + (2 + k)) % 288 = 256 * (t.val % 16) + r.val + (2 + k)
  omega

/-! ## What each point leaves in its output blocks -/

theorem outs7 (t : Fin cfg0.N) : (outsAt0 m c t.val t.isLt).1 = k0_pay1 (F := Ideal) (k0_pay3 (X0_2 m c t)) (taps (k0_pay14 (F := Ideal) (iblk m c 5 t) (Scalar.cmpi .eq (BitVec.ofNat 32 (grid0.coords t 1).val) 15#32) (iblk m c 6 t)) (iblk m c 0 t) 31) := by
  by_cases h0 : t.val % 16 = 0
  · rw [outsAt0_A m c t h0]; dsimp only; rw [out_A_7]
  · rw [outsAt0_B m c t h0]; dsimp only; rw [out_B_7]

theorem outs8 (t : Fin cfg0.N) : (outsAt0 m c t.val t.isLt).2.1 = k0_pay2 (F := Ideal) (k0_pay3 (X0_2 m c t)) (X0_1 m c t) (taps (k0_pay14 (F := Ideal) (iblk m c 5 t) (Scalar.cmpi .eq (BitVec.ofNat 32 (grid0.coords t 1).val) 15#32) (iblk m c 6 t)) (iblk m c 0 t) 31) := by
  by_cases h0 : t.val % 16 = 0
  · rw [outsAt0_A m c t h0]; dsimp only; rw [out_A_8]
  · rw [outsAt0_B m c t h0]; dsimp only; rw [out_B_8]

/-- What point `t` adds to its block of the weights' gradient. -/
def dwTerm (t : Fin cfg0.N) : V S32x512 .f32 := fun y =>
  if (y 0).val < 31 then ∑ r : Fin 256, uPad (arg0 m c) ((row t r).val + (2 + (y 0).val)) (col t (y 1)) * arg2 m c (ix2 (row t r) (col t (y 1))) else 0

theorem addRows_at (t : Fin cfg0.N) (B : V S32x512 .f32) (y) :
    addRows (k0_pay4 (F := Ideal) (grid0.coords t) (X0_3 m c t) (X0_4 m c t) (X0_2 m c t) (X0_1 m c t)) (iblk m c 5 t) B y = B y + dwTerm m c t y := by
  idx_vars y
  unfold addRows dwTerm
  by_cases h : y0.val < 31
  · refine (if_pos h).trans (Eq.trans (congrArg (B (ix2 y0 y1) + ·) (rowSum_at m c t y0.val h y1)) ?_)
    exact (congrArg (B (ix2 y0 y1) + ·) (if_pos h)).symm
  · refine (if_neg h).trans ?_
    exact ((congrArg (B (ix2 y0 y1) + ·) (if_neg h)).trans (add_zero _)).symm

theorem outs9_A (t : Fin cfg0.N) (h0 : t.val % 16 = 0) (y) : (outsAt0 m c t.val t.isLt).2.2.1 y = 0 + dwTerm m c t y := by
  rw [outsAt0_A m c t h0]; dsimp only; rw [out_A_9]
  refine (addRows_at m c t _ y).trans (congrArg (· + dwTerm m c t y) ?_)
  idx_vars y; pointwise [k0_pay24]

theorem outs9_B (t : Fin cfg0.N) (h0 : ¬t.val % 16 = 0) (y) : (outsAt0 m c t.val t.isLt).2.2.1 y
    = (outsAt0 m c (t.val - 1) (Nat.lt_of_le_of_lt (Nat.sub_le _ _) t.isLt)).2.2.1 y + dwTerm m c t y := by
  rw [outsAt0_B m c t h0]; dsimp only; rw [out_B_9]
  exact addRows_at m c t _ y

/-- What point `t` adds to its block of the bias's gradient. -/
def dbTerm (t : Fin cfg0.N) : V S1x512 .f32 := fun y => ∑ r : Fin 256, arg2 m c (ix2 (row t r) (col t (y 1)))

theorem dbTerm_at (t : Fin cfg0.N) (y : S1x512.Idx) : (∑ r : Fin 256, (show V S256x512 .f32 from iblk m c 5 t) (ix2 r (y 1))) = dbTerm m c t y :=
  Finset.sum_congr rfl fun r _ => blk5 m c t r (y 1)

theorem outs10_A (t : Fin cfg0.N) (h0 : t.val % 16 = 0) (y) : (outsAt0 m c t.val t.isLt).2.2.2 y = 0 + dbTerm m c t y := by
  rw [outsAt0_A m c t h0]; dsimp only; rw [out_A_10]
  exact (congrArg (0 + ·) (dbTerm_at m c t y))

theorem outs10_B (t : Fin cfg0.N) (h0 : ¬t.val % 16 = 0) (y) : (outsAt0 m c t.val t.isLt).2.2.2 y
    = (outsAt0 m c (t.val - 1) (Nat.lt_of_le_of_lt (Nat.sub_le _ _) t.isLt)).2.2.2 y + dbTerm m c t y := by
  rw [outsAt0_B m c t h0]; dsimp only; rw [out_B_10]
  exact (congrArg (_ + ·) (dbTerm_at m c t y))

/-! ## The whole output arrays -/

theorem final7 : (dats m 0 c).arrAt 7 cfg0.N = dvOut (arg0 m c) (arg1 m c) (arg2 m c) := by
  refine (dats m 0 c).arrAt_eq_of_covers 7 _ (by decide +kernel) fun t hf y => ?_
  blk_simp
  rw [after0_7, outs7]
  have := points t
  idx_vars y
  pointwise [k0_pay1]
  have e : (win0_7.blk t).view.emb (ix2 y0 y1) = ix2 (row t y0) (col t y1) := by
    unfold row col; blk_ext [idx7]
  rw [e]
  exact congrArg₂ (· * ·) (taps_at m c t y0 y1) (blk2 m c t y0 y1)

theorem final8 : (dats m 0 c).arrAt 8 cfg0.N = dgOut (arg0 m c) (arg1 m c) (arg2 m c) := by
  refine (dats m 0 c).arrAt_eq_of_covers 8 _ (by decide +kernel) fun t hf y => ?_
  blk_simp
  rw [after0_8, outs8]
  have := points t
  idx_vars y
  pointwise [k0_pay2]
  have e : (win0_8.blk t).view.emb (ix2 y0 y1) = ix2 (row t y0) (col t y1) := by
    unfold row col; blk_ext [idx8]
  rw [e, taps_at, blk2, blk1]
  rfl

theorem final9 : (dats m 0 c).arrAt 9 cfg0.N = dwOut (arg0 m c) (arg2 m c) := by
  refine (dats m 0 c).arrAt_eq_of_covers 9 _ (by decide +kernel) fun t hf y => ?_
  blk_simp
  rw [after0_9]
  have hN := points t
  idx_vars y
  have e : (win0_9.blk t).view.emb (ix2 y0 y1) = ix2 y0 (col t y1) := by
    unfold col; blk_ext [idx9]
  rw [e]
  refine (Pipeline.eq_sum_fin_of_reset_step_apply_of_flush (fun n h => (outsAt0 m c n h).2.2.1) 16 (fun _ => 0) (dwTerm m c) (outs9_A m c) (outs9_B m c) t ((flush0_9 t).mp hf) (ix2 y0 y1)).trans ?_
  rw [zero_add]
  unfold dwTerm dwOut
  by_cases h : y0.val < 31
  · refine Eq.trans ?_ (if_pos h).symm
    refine Eq.trans (Finset.sum_congr rfl fun s _ => if_pos h) ?_
    refine Fin.sum_mul_add_congr fun s k hl => ?_
    have e1 : row (⟨16 * (t.val / 16) + s.val, lt_of_lt_of_eq (by have := s.isLt; omega) N_0.symm⟩ : Fin cfg0.N) k = ⟨s.val * 256 + k.val, hl⟩ := Fin.ext (by
      show 256 * ((16 * (t.val / 16) + s.val) % 16) + k.val = s.val * 256 + k.val; have := s.isLt; omega)
    have e2 : col (⟨16 * (t.val / 16) + s.val, lt_of_lt_of_eq (by have := s.isLt; omega) N_0.symm⟩ : Fin cfg0.N) y1 = col t y1 := Fin.ext (by
      show 512 * ((16 * (t.val / 16) + s.val) / 16) + y1.val = 512 * (t.val / 16) + y1.val; have := s.isLt; omega)
    show uPad _ ((row _ k).val + (2 + y0.val)) (col _ y1) * arg2 m c (ix2 (row _ k) (col _ y1)) = _
    rw [e1, e2]; rfl
  · refine Eq.trans ?_ (if_neg h).symm
    exact Finset.sum_eq_zero fun s _ => if_neg h

theorem final10 : (dats m 0 c).arrAt 10 cfg0.N = dbOut (arg2 m c) := by
  refine (dats m 0 c).arrAt_eq_of_covers 10 _ (by decide +kernel) fun t hf y => ?_
  blk_simp
  rw [after0_10]
  have hN := points t
  idx_vars y
  have e : (win0_10.blk t).view.emb (ix2 y0 y1) = ix2 y0 (col t y1) := by
    unfold col; blk_ext [idx10]
  rw [e]
  refine (Pipeline.eq_sum_fin_of_reset_step_apply_of_flush (fun n h => (outsAt0 m c n h).2.2.2) 16 (fun _ => 0) (dbTerm m c) (outs10_A m c) (outs10_B m c) t ((flush0_10 t).mp hf) (ix2 y0 y1)).trans ?_
  rw [zero_add]
  refine Fin.sum_mul_add_congr fun s k hl => ?_
  have e1 : row (⟨16 * (t.val / 16) + s.val, lt_of_lt_of_eq (by have := s.isLt; omega) N_0.symm⟩ : Fin cfg0.N) k = ⟨s.val * 256 + k.val, hl⟩ := Fin.ext (by
    show 256 * ((16 * (t.val / 16) + s.val) % 16) + k.val = s.val * 256 + k.val; have := s.isLt; omega)
  have e2 : col (⟨16 * (t.val / 16) + s.val, lt_of_lt_of_eq (by have := s.isLt; omega) N_0.symm⟩ : Fin cfg0.N) y1 = col t y1 := Fin.ext (by
    show 512 * ((16 * (t.val / 16) + s.val) / 16) + y1.val = 512 * (t.val / 16) + y1.val; have := s.isLt; omega)
  show arg2 m c (ix2 (row _ k) (col _ y1)) = _
  rw [e1, e2]; rfl

end Cert.Conv
-- ==== Proof.ConvRef.lean ====
module
public import proofs.«01_k».proof.Defs
public import proofs.«01_k».proof.Proof.ConvArrays
public import proofs.«01_k».proof.Proof.Gen.Reference30Ideal.Run
public import Idealize.ShloMosaic.Lib.Quiescent
@[expose] public section
set_option maxRecDepth 16384
noncomputable section
namespace Cert.ConvRef
open Idealize.ShloMosaic Idealize.ShloMosaic.TcCoe Idealize.ShloMosaic.Tactic Idealize.ShloMosaic.ValueKit Idealize.ShloMosaic.StableHlo Idealize.SL.Sem
open Cert.Reference30Ideal Cert.Reference30Ideal.Gen
open Cert.Conv (V sg glv gls uPad dPad wAt duAt dvOut dgOut dwOut dbOut)

/-- An array of the reference at the ideal instance. -/
abbrev F (S : Shape) := FVec Ideal S .f32

variable (A0 : F S4096x14592) (A1 : F S31x2048) (D X : F S4096x2048)

/-! ## The convolution's input gradient: one shifted product after another -/

/-- The product of one tap, placed `k` rows down. -/
def tap (k : ℕ) : F S4126x2048 := fun j =>
  if k ≤ (j 0).val then dPad D ((j 0).val - k) (j 1) * wAt A1 k (j 1) else 0

/-- The sum of the taps from `n` on. -/
def taps (n : ℕ) : F S4126x2048 := fun j =>
  ∑ k ∈ Finset.Ico n 31, if k ≤ (j 0).val then dPad D ((j 0).val - k) (j 1) * wAt A1 k (j 1) else 0

theorem tap_read (k hi : ℕ) (h) (hs : S31x2048.Slices ![k, 0] S1x2048) :
    pad S4126x2048 ![k, 0] ![hi, 0] ![0, 0] (mulf D (broadcastInDim S4096x2048 ![0, 1] bcast_S1x2048_S4096x2048_0_1
      (broadcastInDim S1x2048 ![1] bcast_S2048_S1x2048_1 (shapeCast _ (extractStridedSlice S1x2048 ![k, 0] A1 hs) shapeCasts_S1x2048_S2048))))
      (constant S_ .f32 0x00000000#32) h h_S_ = tap A1 D k := by
  have hk : k < 31 := by have := hs.2 0; simpa using this
  funext j; idx_vars j; pointwise [tap, dPad, wAt]
  by_cases h1 : k ≤ j0.val <;> by_cases h2 : j0.val - k < 4096 <;> simp [h1, h2, hk]

theorem taps_last : tap A1 D 30 = taps A1 D 30 := by
  funext j; simp [tap, taps]

theorem taps_step (k : ℕ) (n : ℕ) (hn : n = k + 1) (hk : k < 31) : addf (taps A1 D n) (tap A1 D k) = taps A1 D k := by
  subst hn
  funext j
  show (taps A1 D (k + 1) j : Ideal .f32) + tap A1 D k j = _
  rw [taps, taps, tap, Finset.sum_eq_sum_Ico_succ_bot hk]
  exact add_comm _ _

theorem taps_all (p : Fin 4096) (q : Fin 2048) : taps A1 D 0 (ix2 ⟨30 + p.val, by omega⟩ q) = duAt A1 D p.val q := by
  show (∑ k ∈ Finset.Ico 0 31, if k ≤ 30 + p.val then dPad D (30 + p.val - k) q * wAt A1 k q else 0) = _
  rw [duAt, Finset.range_eq_Ico]
  refine Finset.sum_congr rfl fun k hk => ?_
  have := Finset.mem_Ico.mp hk
  rw [if_pos (by omega), show 30 + p.val - k = p.val + (30 - k) by omega]

/-! ## The weights' gradient: one row after another -/

/-- The inner product of two arrays along the rows. -/
def dotCol (q : Fin 2048) : Ideal .f32 := ∑ p : Fin 4096, (X (ix2 p q) : Ideal .f32) * D (ix2 p q)

/-- An array that holds `f k` in row `k` and zero elsewhere. -/
def row (f : ℕ → Fin 2048 → Ideal .f32) (k : ℕ) : F S31x2048 := fun j => if (j 0).val = k then f k (j 1) else 0

/-- The rows from `n` on. -/
def rows (f : ℕ → Fin 2048 → Ideal .f32) (n : ℕ) : F S31x2048 := fun j => if n ≤ (j 0).val then f (j 0).val (j 1) else 0

theorem rows_last (f) : row f 30 = rows f 30 := by
  funext j
  have h : (j 0).val < 31 := (j 0).isLt
  by_cases e : (j 0).val = 30
  · simp [row, rows, e]
  · rw [row, rows, if_neg e, if_neg (by omega)]

theorem rows_step (f) (k n : ℕ) (hn : n = k + 1) : addf (rows f n) (row f k) = rows f k := by
  subst hn
  funext j
  show (rows f (k + 1) j : Ideal .f32) + row f k j = _
  rw [rows, rows, row]
  rcases Nat.lt_trichotomy (j 0).val k with h | h | h
  · rw [if_neg (by omega), if_neg (by omega), if_neg (by omega), add_zero]
  · rw [if_neg (by omega), if_pos h, if_pos (by omega), zero_add, h]
  · rw [if_pos (by omega), if_neg (by omega), if_pos (by omega), add_zero]

/-- The convolution's input as the reference pads it: thirty rows of zeros first. -/
def inPad : F S4126x2048 := fun j => uPad A0 ((j 0).val + 2) (j 1)

/-- The gradient of weight `k`. -/
def dwRow (k : ℕ) (q : Fin 2048) : Ideal .f32 := ∑ p : Fin 4096, uPad A0 (p.val + (2 + k)) q * D (ix2 p q)

theorem row_read (k hi : ℕ) (h) (hs : S4126x2048.Slices ![k, 0] S4096x2048) :
    pad S31x2048 ![k, 0] ![hi, 0] ![0, 0] (broadcastInDim S1x2048 ![1] bcast_S2048_S1x2048_1
      (Host.reduceAdd (shapeCast _ (Host.reduceAdd (mulf (extractStridedSlice S4096x2048 ![k, 0] (inPad A0) hs) D)
        (constant S_ .f32 0x00000000#32) reducesTo_S4096x2048_S2048_d0 h_S_) shapeCasts_S2048_S1x2048)
        (constant S_ .f32 0x00000000#32) reducesTo_S1x2048_S2048_d0 h_S_))
      (constant S_ .f32 0x00000000#32) h h_S_ = row (dwRow A0 D) k := by
  funext j; idx_vars j; pointwise [row, dwRow, inPad]
  by_cases e : j0.val = k
  · rw [dif_pos (by omega), if_pos e]
    rw [Finset.sum_const]
    simp [add_comm, add_left_comm, add_assoc]
  · rw [dif_neg (by omega), if_neg e]

/-! ## The reference's arrays -/

variable (V0 : Valuation τ sig (Elt Ideal))
open Cert.Reference30Ideal.Value

abbrev a0 : F S4096x14592 := V0 (Proc.devRef .tc main_arg0)
abbrev a1 : F S31x2048 := V0 (Proc.devRef .tc main_arg1)
abbrev a2 : F S4096x2048 := V0 (Proc.devRef .tc main_arg2)

theorem v237_eq : res_main_v237 V0 = a2 V0 := by
  funext j; idx_vars j; unfold res_main_v237; pointwise

theorem v0_apply (p : Fin 4096) (q : Fin 2048) : (res_main_v0 V0 : F S4096x2048) (ix2 p q) = glv (a0 V0) p q := by
  unfold res_main_v0; pointwise [glv]

theorem v8_apply (p : Fin 4096) (q : Fin 2048) : (res_main_v8 V0 : F S4096x2048) (ix2 p q) = gls (a0 V0) p q := by
  unfold res_main_v8; pointwise [gls, sg]
  rw [zero_sub]

theorem v14_eq : res_main_v14 V0 = inPad (a0 V0) := by
  funext j; idx_vars j; unfold res_main_v14; pointwise [inPad, uPad]
  by_cases h : j0.val < 30
  · rw [dif_pos h, dif_neg (by omega)]
  · rw [dif_neg h, dif_pos (by omega), v0_apply, v8_apply]
    rfl

theorem v579_eq : res_main_v579 V0 = taps (a1 V0) (a2 V0) 0 := by
  unfold res_main_v579 res_main_v436
  simp only [res_main_v19, res_main_v27, res_main_v34, res_main_v41, res_main_v48, res_main_v55, res_main_v62, res_main_v69, res_main_v76, res_main_v83, res_main_v90, res_main_v97, res_main_v104, res_main_v111, res_main_v118, res_main_v125, res_main_v132, res_main_v139, res_main_v146, res_main_v153, res_main_v160, res_main_v167, res_main_v174, res_main_v181, res_main_v188, res_main_v195, res_main_v202, res_main_v209, res_main_v216, res_main_v223, res_main_v230, v237_eq]
  iterate 31 rw [tap_read]
  rw [taps_last]
  rw [taps_step _ _ 29 30 rfl (by decide), taps_step _ _ 28 29 rfl (by decide), taps_step _ _ 27 28 rfl (by decide), taps_step _ _ 26 27 rfl (by decide), taps_step _ _ 25 26 rfl (by decide), taps_step _ _ 24 25 rfl (by decide), taps_step _ _ 23 24 rfl (by decide), taps_step _ _ 22 23 rfl (by decide), taps_step _ _ 21 22 rfl (by decide), taps_step _ _ 20 21 rfl (by decide), taps_step _ _ 19 20 rfl (by decide), taps_step _ _ 18 19 rfl (by decide), taps_step _ _ 17 18 rfl (by decide), taps_step _ _ 16 17 rfl (by decide), taps_step _ _ 15 16 rfl (by decide), taps_step _ _ 14 15 rfl (by decide), taps_step _ _ 13 14 rfl (by decide), taps_step _ _ 12 13 rfl (by decide), taps_step _ _ 11 12 rfl (by decide), taps_step _ _ 10 11 rfl (by decide), taps_step _ _ 9 10 rfl (by decide), taps_step _ _ 8 9 rfl (by decide), taps_step _ _ 7 8 rfl (by decide), taps_step _ _ 6 7 rfl (by decide), taps_step _ _ 5 6 rfl (by decide), taps_step _ _ 4 5 rfl (by decide), taps_step _ _ 3 4 rfl (by decide), taps_step _ _ 2 3 rfl (by decide), taps_step _ _ 1 2 rfl (by decide), taps_step _ _ 0 1 rfl (by decide)]

theorem v587_rows : addf (res_main_v566 V0) (pad S31x2048 ![0, 0] ![30, 0] ![0, 0] (broadcastInDim S1x2048 ![1] bcast_S2048_S1x2048_1 (Host.reduceAdd (shapeCast _ (Host.reduceAdd (mulf (res_main_v16 V0) (res_main_v237 V0)) (constant S_ .f32 0x00000000#32) reducesTo_S4096x2048_S2048_d0 h_S_) shapeCasts_S2048_S1x2048) (constant S_ .f32 0x00000000#32) reducesTo_S1x2048_S2048_d0 h_S_)) (constant S_ .f32 0x00000000#32) pads_S1x2048_S31x2048_0300_000 h_S_) = rows (dwRow (a0 V0) (a2 V0)) 0 := by
  unfold res_main_v566 res_main_v456 res_main_v346
  simp only [res_main_v16, res_main_v24, res_main_v31, res_main_v38, res_main_v45, res_main_v52, res_main_v59, res_main_v66, res_main_v73, res_main_v80, res_main_v87, res_main_v94, res_main_v101, res_main_v108, res_main_v115, res_main_v122, res_main_v129, res_main_v136, res_main_v143, res_main_v150, res_main_v157, res_main_v164, res_main_v171, res_main_v178, res_main_v185, res_main_v192, res_main_v199, res_main_v206, res_main_v213, res_main_v220, res_main_v227, v237_eq, v14_eq]
  iterate 31 rw [row_read]
  rw [rows_last]
  rw [rows_step _ 29 30 rfl, rows_step _ 28 29 rfl, rows_step _ 27 28 rfl, rows_step _ 26 27 rfl, rows_step _ 25 26 rfl, rows_step _ 24 25 rfl, rows_step _ 23 24 rfl, rows_step _ 22 23 rfl, rows_step _ 21 22 rfl, rows_step _ 20 21 rfl, rows_step _ 19 20 rfl, rows_step _ 18 19 rfl, rows_step _ 17 18 rfl, rows_step _ 16 17 rfl, rows_step _ 15 16 rfl, rows_step _ 14 15 rfl, rows_step _ 13 14 rfl, rows_step _ 12 13 rfl, rows_step _ 11 12 rfl, rows_step _ 10 11 rfl, rows_step _ 9 10 rfl, rows_step _ 8 9 rfl, rows_step _ 7 8 rfl, rows_step _ 6 7 rfl, rows_step _ 5 6 rfl, rows_step _ 4 5 rfl, rows_step _ 3 4 rfl, rows_step _ 2 3 rfl, rows_step _ 1 2 rfl, rows_step _ 0 1 rfl]

theorem v581_apply (p : Fin 4096) (q : Fin 2048) : (res_main_v581 V0 : F S4096x2048) (ix2 p q) = duAt (a1 V0) (a2 V0) p.val q := by
  unfold res_main_v581
  rw [v579_eq]
  pointwise
  exact taps_all (a1 V0) (a2 V0) p q

variable (m : (ℓ : Loc nD τ sig) → Buf (Elt Ideal) ℓ) (ρ : Dev nD → PrngReg)

/-- The reference's run, its results as functions of the arguments. -/
theorem run_out : θ_run (defs (F := Ideal)) (onTc (τ := τ) (main (F := Ideal))) ⟨m, fun _ => 0, ρ⟩ fun r => ∀ c : Dev nD,
      r.2.mem ((c.tc : Thread nD τ).loc main_v585) = dvOut (a0 (launchContents m c)) (a1 (launchContents m c)) (a2 (launchContents m c))
      ∧ r.2.mem ((c.tc : Thread nD τ).loc main_v586) = dgOut (a0 (launchContents m c)) (a1 (launchContents m c)) (a2 (launchContents m c))
      ∧ r.2.mem ((c.tc : Thread nD τ).loc main_v587) = dwOut (a0 (launchContents m c)) (a2 (launchContents m c))
      ∧ r.2.mem ((c.tc : Thread nD τ).loc main_v588) = dbOut (a2 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Reference30Ideal.Value.run m ρ)
  obtain ⟨h1, h2, h3, h4, h5, h6, h7⟩ := h c
  refine ⟨h1.trans ?_, h2.trans ?_, h3.trans ?_, h4.trans ?_, h5, h6, h7⟩
  · funext j; idx_vars j; pointwise [dvOut]
    rw [v581_apply, v8_apply]
  · funext j; idx_vars j; pointwise [dgOut]
    rw [v581_apply, v8_apply, v0_apply]
    rw [mul_comm (glv _ _ _), mul_assoc, mul_assoc, mul_assoc]
  · refine (congrArg (fun x : F S31x2048 => pad S32x2048 ![0, 0] ![1, 0] ![0, 0] x (sitofp .f32 (constantI S_ 32 0#32))
      pads_S31x2048_S32x2048_010_000 h_S_) (v587_rows (launchContents m c))).trans ?_
    funext j; idx_vars j; pointwise [dwOut, rows, dwRow]
    have h0 : (FloatOps.sitofp .f32 (0#32) : Ideal .f32) = 0 := by
      show ((((0#32 : BitVec 32).toInt : ℤ) : ℝ) : EReal) = 0
      simp
    rw [h0]
    by_cases h : j0.val < 31
    · rw [dif_pos h, if_pos h]
    · rw [dif_neg h, if_neg h]
  · funext j; idx_vars j; pointwise [dbOut]
    exact Fin.sum_univ_one _

/-! ## The claims -/

/-- The reference keeps its arguments and has no semaphores. -/
theorem frame_reference : Cert.quiescent_Reference30Ideal := fun m ρ _ =>
  (θ_run Cert.Reference30Ideal.defs _ _).mono (fun r h => ⟨fun c => (h c).2.2.2.2,
      sem_eq_zero_of_no_sems (by decide) r.2⟩)
    (Cert.Reference30Ideal.Value.run (F := Ideal) m ρ)

/-- The call and the reference end with the same four gradients. -/
theorem values : Cert.algebraic_Kernel30Ideal_Reference30Ideal := by
  intro m ρ m' ρ' _ hagree
  refine ⟨fun c => Cert.Conv.dvOut (Cert.Conv.arg0 m c) (Cert.Conv.arg1 m c) (Cert.Conv.arg2 m c),
    fun c => Cert.Conv.dgOut (Cert.Conv.arg0 m c) (Cert.Conv.arg1 m c) (Cert.Conv.arg2 m c),
    fun c => Cert.Conv.dwOut (Cert.Conv.arg0 m c) (Cert.Conv.arg2 m c), fun c => Cert.Conv.dbOut (Cert.Conv.arg2 m c), ?_, ?_⟩
  · refine (θ_run _ _ _).mono (fun r h c => ?_) (Cert.Kernel30Ideal.Value.run_blocks m ρ)
    obtain ⟨h0, h1, h2, h3, hk⟩ := h c
    exact ⟨h0.trans (Cert.Conv.final7 m c), h1.trans (Cert.Conv.final8 m c), h2.trans (Cert.Conv.final9 m c),
      h3.trans (Cert.Conv.final10 m c), hk⟩
  · refine (θ_run _ _ _).mono (fun r h c => ?_) (run_out m' ρ')
    obtain ⟨h0, h1, h2, h3, hk⟩ := h c
    obtain ⟨e0, e1, e2⟩ := hagree c
    have e0' : a0 (StableHlo.launchContents m' c) = Cert.Conv.arg0 m c := e0
    have e1' : a1 (StableHlo.launchContents m' c) = Cert.Conv.arg1 m c := e1
    have e2' : a2 (StableHlo.launchContents m' c) = Cert.Conv.arg2 m c := e2
    rw [e0', e1', e2'] at h0 h1
    rw [e0', e2'] at h2
    rw [e2'] at h3
    exact ⟨h0, h1, h2, h3, hk⟩

end Cert.ConvRef
-- ==== Proof.RmsPreFwd.lean ====
module

public import proofs.«01_k».proof.Defs
public import proofs.«01_k».proof.Proof.Gen.Kernel31Ideal.Value
public import proofs.«01_k».proof.Proof.Gen.Reference31Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The norm before the input projection. -/

@[expose] public section

set_option maxRecDepth 16384

noncomputable section

namespace Cert.RmsPreFwd

open Idealize.ShloMosaic Idealize.ShloMosaic.TcCoe Idealize.ShloMosaic.Tactic Idealize.ShloMosaic.ValueKit Idealize.SL.Sem
open Cert.Kernel31Ideal Cert.Kernel31Ideal.Gen

/-- An array at the ideal instance. -/
abbrev V (S : Shape) (e : EltTy) := Vec Ideal S e

/-- The normed row, from the row and the weights: each element over the root of the squares' mean and the small constant. -/
def norm (g u : Fin 4096 → Ideal .f32) (q : Fin 4096) : Ideal .f32 :=
  u q * Ideal.rsqrt (Ideal.div (∑ q, u q * u q) (Ideal.ofBits .f32 0x45800000#32) + Ideal.ofBits .f32 0x358637BD#32) * g q

/-- The result over the whole array. -/
def out (G : V S4096 .f32) (X : V S4096x4096 .f32) : V S4096x4096 .bf16 := fun j => norm (fun q => G (ix1 q)) (fun q => X (ix2 (j 0) q)) (j 1)

variable (m : (ℓ : Loc nD τ sig) → Buf (Elt Ideal) ℓ) (c : Dev nD)

/-- The arguments as launched. -/
abbrev arg0 : V S4096 .f32 := m ((c : Thread nD τ).loc main_arg0)
abbrev arg1 : V S4096x4096 .f32 := m ((c : Thread nD τ).loc main_arg1)

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

theorem points (t : Fin cfg0.N) : t.val < 16 := lt_of_lt_of_eq t.isLt N_0

/-- Row `r` of the block of rows that point `t` works on. -/
def row (t : Fin cfg0.N) (r : Fin 256) : Fin 4096 := ⟨t.val * 256 + r.val, by have := points t; omega⟩

theorem entry0 : Gen.V m c main_v0 = shapeCast S1x4096 (arg0 m c) shapeCasts_S4096_S1x4096 := by
  unfold Gen.V hostOps0; after_results_simp; rfl

theorem blk0 (t : Fin cfg0.N) (q : Fin 4096) : (show V S1x4096 .f32 from iblk m c 0 t) (ix2 0 q) = arg0 m c (ix1 q) := by
  blk_simp [iblk]
  rw [entry0]
  have e : (win0_0.blk t).view.emb (ix2 0 q) = ix2 0 q := by blk_ext [idx0]
  rw [e]
  pointwise []

theorem blk1 (t : Fin cfg0.N) (r : Fin 256) (q : Fin 4096) : (show V S256x4096 .f32 from iblk m c 1 t) (ix2 r q) = arg1 m c (ix2 (row t r) q) := by
  have := points t
  blk_simp [iblk]
  rw [V_main_arg1]
  refine congrArg (arg1 m c) ?_
  unfold row
  blk_ext [idx1]

theorem point (g : V S1x4096 .f32) (x : V S256x4096 .f32) (r : Fin 256) (q : Fin 4096) :
    out0_2 (F := Ideal) g x (ix2 r q) = norm (fun q => g (ix2 0 q)) (fun q => x (ix2 r q)) q := by
  unfold out0_2
  simp (disch := decide) only [View.canon_cons_unit_lit', View.ld_unit_lit']
  pointwise [k0_pay1, norm]

theorem final : (dats m 0 c).arrAt 2 cfg0.N = out (arg0 m c) (arg1 m c) := by
  refine (dats m 0 c).arrAt_eq_of_covers 2 _ (by decide +kernel) fun t hf y => ?_
  blk_simp
  rw [after0_2]
  have := points t
  idx_vars y
  have e : (win0_2.blk t).view.emb (ix2 y0 y1) = ix2 (row t y0) y1 := by
    unfold row; blk_ext [idx2]
  rw [e]
  refine (point _ _ y0 y1).trans ?_
  exact congrArg₂ (fun g x => norm g x y1) (funext fun q => blk0 m c t q) (funext fun q => blk1 m c t y0 q)

/-! ## The claims -/

theorem values : Cert.algebraic_Kernel31Ideal_Reference31Ideal := by
  intro m ρ m' ρ' _ hagree
  refine ⟨fun c => out (arg0 m c) (arg1 m c), (θ_run _ _ _).mono (fun r h c => ⟨(h c).1.trans (final m c), (h c).2⟩) (Cert.Kernel31Ideal.Value.run_blocks m ρ),
    (θ_run _ _ _).mono (fun r h c => ⟨(h c).1.trans ?_, (h c).2⟩) (Cert.Reference31Ideal.Value.run m' ρ')⟩
  obtain ⟨e0, e1⟩ := hagree c
  rw [e0, e1]
  funext j; idx_vars j; pointwise [out, norm]

theorem frame_reference : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

end Cert.RmsPreFwd
-- ==== Proof.ShiftFwdR.lean ====
module

public import proofs.«01_k».proof.Defs
public import proofs.«01_k».proof.Proof.Gen.Kernel32Ideal.Value
public import proofs.«01_k».proof.Proof.Gen.Reference32Ideal.Run
public import proofs.«01_k».proof.Proof.Shift
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The token shift of the receptance columns. -/

@[expose] public section

set_option maxRecDepth 16384

noncomputable section

namespace Cert.ShiftFwdR

open Idealize.ShloMosaic Idealize.ShloMosaic.TcCoe Idealize.ShloMosaic.Tactic Idealize.ShloMosaic.ValueKit Idealize.SL.Sem
open Cert.Kernel32Ideal Cert.Kernel32Ideal.Gen

/-- An array at the ideal instance. -/
abbrev V (S : Shape) (e : EltTy) := Vec Ideal S e

variable (M : V S2048 .f32) (X : V S4096x14592 .f32)

/-- The projection's entry in row `p` of the shifted columns. -/
def xAt (p : Fin 4096) (q : Fin 2048) : Ideal .f32 := X (ix2 p ⟨q.val, by omega⟩)

/-- The entry one row before, zero before the first row. -/
def prevAt (p : Fin 4096) (q : Fin 2048) : Ideal .f32 := if p.val = 0 then 0 else xAt X ⟨p.val - 1, by omega⟩ q

/-- The entry moved towards the one before. -/
def shifted (p : Fin 4096) (q : Fin 2048) : Ideal .f32 := xAt X p q + (prevAt X p q - xAt X p q) * M (ix1 q)

/-- The result over the whole array. -/
def out : V S4096x2048 .f32 := fun j => shifted M X (j 0) (j 1)

variable (m : (ℓ : Loc nD τ sig) → Buf (Elt Ideal) ℓ) (c : Dev nD)

/-- The arguments as launched. -/
abbrev arg0 : V S2048 .f32 := m ((c : Thread nD τ).loc main_arg0)
abbrev arg1 : V S4096x14592 .f32 := m ((c : Thread nD τ).loc main_arg1)

theorem idx0 : ∀ t : Fin cfg0.N, win0_0.index t = ![0, t.val / 16] := (by decide +kernel : ∀ t : Fin grid0.N, _)
theorem idx1 : ∀ t : Fin cfg0.N, win0_1.index t = ![t.val % 16, 0 + t.val / 16] := (by decide +kernel : ∀ t : Fin grid0.N, _)
theorem idx2 : ∀ t : Fin cfg0.N, win0_2.index t = ![32 * (t.val % 16) - 1, 0 + t.val / 16] := (by decide +kernel : ∀ t : Fin grid0.N, _)
theorem idx3 : ∀ t : Fin cfg0.N, win0_3.index t = ![t.val % 16, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 64 := lt_of_lt_of_eq t.isLt N_0

/-- Row `r` and column `l` of the block that point `t` works on. -/
def row (t : Fin cfg0.N) (r : Fin 256) : Fin 4096 := ⟨256 * (t.val % 16) + r.val, by omega⟩
def col (t : Fin cfg0.N) (l : Fin 512) : Fin 2048 := ⟨512 * (t.val / 16) + l.val, by have := points t; omega⟩

theorem mu_entry : Gen.V m c main_v0 = shapeCast S1x2048 (arg0 m c) shapeCasts_S2048_S1x2048 := by
  unfold Gen.V hostOps0; after_results_simp; rfl

theorem blk0 (t : Fin cfg0.N) (l : Fin 512) : (show V S1x512 .f32 from iblk m c 0 t) (ix2 0 l) = arg0 m c (ix1 (col t l)) := by
  have := points t
  blk_simp [iblk]
  have e : (win0_0.blk t).view.emb (ix2 (0 : Fin 1) l) = ix2 (0 : Fin 1) (col t l) := by unfold col; blk_ext [idx0]
  rw [e, mu_entry]
  pointwise []

theorem blk1 (t : Fin cfg0.N) (r : Fin 256) (l : Fin 512) : (show V S256x512 .f32 from X0_1 m c t) (ix2 r l) = xAt (arg1 m c) (row t r) (col t l) := by
  have := points t
  dsimp only
  unfold X0_1 Pipeline.Window.fill; rw [dif_pos (moved0_1 t _)]
  blk_simp [iblk]
  rw [V_main_arg1]
  refine congrArg (arg1 m c) ?_
  unfold row col
  blk_ext [idx1]

/-- The last row of the block of eight rows above the point's. -/
abbrev above (t : Fin cfg0.N) : V S1x512 .f32 := View.ld (X0_2 m c t) (Rect.unit ![7, 0] ![1, 512] inb_S8x512_S1x512_7_0)

theorem blk2 (t : Fin cfg0.N) (ht : ¬t.val % 16 = 0) (l : Fin 512) :
    above m c t (ix2 0 l) = xAt (arg1 m c) ⟨256 * (t.val % 16) - 1, by omega⟩ (col t l) := by
  have := points t
  refine Eq.trans (b := (show V S8x512 .f32 from X0_2 m c t) (ix2 7 l)) ?_ ?_
  · exact View.ld_unit_apply_of (X0_2 m c t) _ _ _ _ _ (fun a => by fin_cases a <;> simp)
  dsimp only
  unfold X0_2 Pipeline.Window.fill; rw [dif_pos (moved0_2 t _)]
  blk_simp [iblk]
  rw [V_main_arg1]
  refine congrArg (arg1 m c) ?_
  unfold col
  blk_ext [idx2]

theorem pay_at (t : Fin cfg0.N) (x : V S256x512 .f32) (y z : V S1x512 .f32) (r : Fin 256) (l : Fin 512) :
    k0_pay1 (F := Ideal) (grid0.coords t) x y z (ix2 r l)
      = x (ix2 r l) + ((if r.val = 0 then (if t.val % 16 = 0 then 0 else y (ix2 0 l)) else x (ix2 ⟨(r.val + 256 - 1) % 256, Nat.mod_lt _ (by decide)⟩ l)) - x (ix2 r l)) * z (ix2 0 l) := by
  pointwise [k0_pay1]
  rw [coord1 t]
  refine congrArg (fun a : Ideal .f32 => x (ix2 r l) + (a - x (ix2 r l)) * z (ix2 0 l)) ?_
  refine (Shift.pick r.val 0 (by omega) (by decide) _ _).trans (if_congr Iff.rfl ?_ rfl)
  exact Shift.pick (t.val % 16) 0 (by omega) (by decide) _ _

theorem prev_at (t : Fin cfg0.N) (r : Fin 256) (l : Fin 512) :
    (if r.val = 0 then (if t.val % 16 = 0 then 0 else above m c t (ix2 0 l)) else (show V S256x512 .f32 from X0_1 m c t) (ix2 ⟨(r.val + 256 - 1) % 256, Nat.mod_lt _ (by decide)⟩ l))
      = prevAt (arg1 m c) (row t r) (col t l) := by
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem point (t : Fin cfg0.N) : outsAt0 m c t = k0_pay1 (F := Ideal) (grid0.coords t) (X0_1 m c t) (above m c t) (iblk m c 0 t) := by
  unfold outsAt0 out0_A_3; frame_open
  simp (disch := decide) only [View.readCov_unit_lit', View.read_writes_junk_eq_canon, View.canon_cons_unit_lit', View.ld_unit_lit', View.readAt_eq_ld, Memref.IsWhole.read_unread]
  rfl

theorem final : (dats m 0 c).arrAt 3 cfg0.N = out (arg0 m c) (arg1 m c) := by
  refine (dats m 0 c).arrAt_eq_of_covers 3 _ (by decide +kernel) fun t hf y => ?_
  blk_simp
  rw [after0_3]
  have := points t
  idx_vars y
  have e : (win0_3.blk t).view.emb (ix2 y0 y1) = ix2 (row t y0) (col t y1) := by unfold row col; blk_ext [idx3]
  rw [e, point]
  refine (pay_at t _ _ _ y0 y1).trans ?_
  exact congrArg₂ (· + ·) (blk1 m c t y0 y1) (congrArg₂ (· * ·) (congrArg₂ (· - ·) (prev_at m c t y0 y1) (blk1 m c t y0 y1)) (blk0 m c t y1))

/-! ## The claims -/

theorem values : Cert.algebraic_Kernel32Ideal_Reference32Ideal := by
  intro m ρ m' ρ' _ hagree
  refine ⟨fun c => out (arg0 m c) (arg1 m c), (θ_run _ _ _).mono (fun r h c => ⟨(h c).1.trans (final m c), (h c).2⟩) (Cert.Kernel32Ideal.Value.run_blocks m ρ),
    (θ_run _ _ _).mono (fun r h c => ⟨(h c).1.trans ?_, (h c).2⟩) (Cert.Reference32Ideal.Value.run m' ρ')⟩
  obtain ⟨e0, e1⟩ := hagree c
  rw [e0, e1]
  funext j; idx_vars j; pointwise [out, shifted, prevAt, xAt]
  by_cases h : j0.val < 1
  · rw [dif_pos h, if_pos (by omega)]
  · have h' : ¬j0.val = 0 := by omega
    simp only [dif_neg h, if_neg h']

theorem frame_reference : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

end Cert.ShiftFwdR
-- ==== Proof.ShiftFwdK.lean ====
module

public import proofs.«01_k».proof.Defs
public import proofs.«01_k».proof.Proof.Gen.Kernel33Ideal.Value
public import proofs.«01_k».proof.Proof.Gen.Reference33Ideal.Run
public import proofs.«01_k».proof.Proof.Shift
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The token shift of the key columns. -/

@[expose] public section

set_option maxRecDepth 16384

noncomputable section

namespace Cert.ShiftFwdK

open Idealize.ShloMosaic Idealize.ShloMosaic.TcCoe Idealize.ShloMosaic.Tactic Idealize.ShloMosaic.ValueKit Idealize.SL.Sem
open Cert.Kernel33Ideal Cert.Kernel33Ideal.Gen

/-- An array at the ideal instance. -/
abbrev V (S : Shape) (e : EltTy) := Vec Ideal S e

variable (M : V S2048 .f32) (X : V S4096x14592 .f32)

/-- The projection's entry in row `p` of the shifted columns. -/
def xAt (p : Fin 4096) (q : Fin 2048) : Ideal .f32 := X (ix2 p ⟨2048 + q.val, by omega⟩)

/-- The entry one row before, zero before the first row. -/
def prevAt (p : Fin 4096) (q : Fin 2048) : Ideal .f32 := if p.val = 0 then 0 else xAt X ⟨p.val - 1, by omega⟩ q

/-- The entry moved towards the one before. -/
def shifted (p : Fin 4096) (q : Fin 2048) : Ideal .f32 := xAt X p q + (prevAt X p q - xAt X p q) * M (ix1 q)

/-- The result over the whole array. -/
def out : V S4096x2048 .f32 := fun j => shifted M X (j 0) (j 1)

variable (m : (ℓ : Loc nD τ sig) → Buf (Elt Ideal) ℓ) (c : Dev nD)

/-- The arguments as launched. -/
abbrev arg0 : V S2048 .f32 := m ((c : Thread nD τ).loc main_arg0)
abbrev arg1 : V S4096x14592 .f32 := m ((c : Thread nD τ).loc main_arg1)

theorem idx0 : ∀ t : Fin cfg0.N, win0_0.index t = ![0, t.val / 16] := (by decide +kernel : ∀ t : Fin grid0.N, _)
theorem idx1 : ∀ t : Fin cfg0.N, win0_1.index t = ![t.val % 16, 4 + t.val / 16] := (by decide +kernel : ∀ t : Fin grid0.N, _)
theorem idx2 : ∀ t : Fin cfg0.N, win0_2.index t = ![32 * (t.val % 16) - 1, 4 + t.val / 16] := (by decide +kernel : ∀ t : Fin grid0.N, _)
theorem idx3 : ∀ t : Fin cfg0.N, win0_3.index t = ![t.val % 16, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 64 := lt_of_lt_of_eq t.isLt N_0

/-- Row `r` and column `l` of the block that point `t` works on. -/
def row (t : Fin cfg0.N) (r : Fin 256) : Fin 4096 := ⟨256 * (t.val % 16) + r.val, by omega⟩
def col (t : Fin cfg0.N) (l : Fin 512) : Fin 2048 := ⟨512 * (t.val / 16) + l.val, by have := points t; omega⟩

theorem mu_entry : Gen.V m c main_v0 = shapeCast S1x2048 (arg0 m c) shapeCasts_S2048_S1x2048 := by
  unfold Gen.V hostOps0; after_results_simp; rfl

theorem blk0 (t : Fin cfg0.N) (l : Fin 512) : (show V S1x512 .f32 from iblk m c 0 t) (ix2 0 l) = arg0 m c (ix1 (col t l)) := by
  have := points t
  blk_simp [iblk]
  have e : (win0_0.blk t).view.emb (ix2 (0 : Fin 1) l) = ix2 (0 : Fin 1) (col t l) := by unfold col; blk_ext [idx0]
  rw [e, mu_entry]
  pointwise []

theorem blk1 (t : Fin cfg0.N) (r : Fin 256) (l : Fin 512) : (show V S256x512 .f32 from X0_1 m c t) (ix2 r l) = xAt (arg1 m c) (row t r) (col t l) := by
  have := points t
  dsimp only
  unfold X0_1 Pipeline.Window.fill; rw [dif_pos (moved0_1 t _)]
  blk_simp [iblk]
  rw [V_main_arg1]
  refine congrArg (arg1 m c) ?_
  unfold row col
  blk_ext [idx1]

/-- The last row of the block of eight rows above the point's. -/
abbrev above (t : Fin cfg0.N) : V S1x512 .f32 := View.ld (X0_2 m c t) (Rect.unit ![7, 0] ![1, 512] inb_S8x512_S1x512_7_0)

theorem blk2 (t : Fin cfg0.N) (ht : ¬t.val % 16 = 0) (l : Fin 512) :
    above m c t (ix2 0 l) = xAt (arg1 m c) ⟨256 * (t.val % 16) - 1, by omega⟩ (col t l) := by
  have := points t
  refine Eq.trans (b := (show V S8x512 .f32 from X0_2 m c t) (ix2 7 l)) ?_ ?_
  · exact View.ld_unit_apply_of (X0_2 m c t) _ _ _ _ _ (fun a => by fin_cases a <;> simp)
  dsimp only
  unfold X0_2 Pipeline.Window.fill; rw [dif_pos (moved0_2 t _)]
  blk_simp [iblk]
  rw [V_main_arg1]
  refine congrArg (arg1 m c) ?_
  unfold col
  blk_ext [idx2]

theorem pay_at (t : Fin cfg0.N) (x : V S256x512 .f32) (y z : V S1x512 .f32) (r : Fin 256) (l : Fin 512) :
    k0_pay1 (F := Ideal) (grid0.coords t) x y z (ix2 r l)
      = x (ix2 r l) + ((if r.val = 0 then (if t.val % 16 = 0 then 0 else y (ix2 0 l)) else x (ix2 ⟨(r.val + 256 - 1) % 256, Nat.mod_lt _ (by decide)⟩ l)) - x (ix2 r l)) * z (ix2 0 l) := by
  pointwise [k0_pay1]
  rw [coord1 t]
  refine congrArg (fun a : Ideal .f32 => x (ix2 r l) + (a - x (ix2 r l)) * z (ix2 0 l)) ?_
  refine (Shift.pick r.val 0 (by omega) (by decide) _ _).trans (if_congr Iff.rfl ?_ rfl)
  exact Shift.pick (t.val % 16) 0 (by omega) (by decide) _ _

theorem prev_at (t : Fin cfg0.N) (r : Fin 256) (l : Fin 512) :
    (if r.val = 0 then (if t.val % 16 = 0 then 0 else above m c t (ix2 0 l)) else (show V S256x512 .f32 from X0_1 m c t) (ix2 ⟨(r.val + 256 - 1) % 256, Nat.mod_lt _ (by decide)⟩ l))
      = prevAt (arg1 m c) (row t r) (col t l) := by
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem point (t : Fin cfg0.N) : outsAt0 m c t = k0_pay1 (F := Ideal) (grid0.coords t) (X0_1 m c t) (above m c t) (iblk m c 0 t) := by
  unfold outsAt0 out0_A_3; frame_open
  simp (disch := decide) only [View.readCov_unit_lit', View.read_writes_junk_eq_canon, View.canon_cons_unit_lit', View.ld_unit_lit', View.readAt_eq_ld, Memref.IsWhole.read_unread]
  rfl

theorem final : (dats m 0 c).arrAt 3 cfg0.N = out (arg0 m c) (arg1 m c) := by
  refine (dats m 0 c).arrAt_eq_of_covers 3 _ (by decide +kernel) fun t hf y => ?_
  blk_simp
  rw [after0_3]
  have := points t
  idx_vars y
  have e : (win0_3.blk t).view.emb (ix2 y0 y1) = ix2 (row t y0) (col t y1) := by unfold row col; blk_ext [idx3]
  rw [e, point]
  refine (pay_at t _ _ _ y0 y1).trans ?_
  exact congrArg₂ (· + ·) (blk1 m c t y0 y1) (congrArg₂ (· * ·) (congrArg₂ (· - ·) (prev_at m c t y0 y1) (blk1 m c t y0 y1)) (blk0 m c t y1))

/-! ## The claims -/

theorem values : Cert.algebraic_Kernel33Ideal_Reference33Ideal := by
  intro m ρ m' ρ' _ hagree
  refine ⟨fun c => out (arg0 m c) (arg1 m c), (θ_run _ _ _).mono (fun r h c => ⟨(h c).1.trans (final m c), (h c).2⟩) (Cert.Kernel33Ideal.Value.run_blocks m ρ),
    (θ_run _ _ _).mono (fun r h c => ⟨(h c).1.trans ?_, (h c).2⟩) (Cert.Reference33Ideal.Value.run m' ρ')⟩
  obtain ⟨e0, e1⟩ := hagree c
  rw [e0, e1]
  funext j; idx_vars j; pointwise [out, shifted, prevAt, xAt]
  by_cases h : j0.val < 1
  · rw [dif_pos h, if_pos (by omega)]
  · have h' : ¬j0.val = 0 := by omega
    simp only [dif_neg h, if_neg h']

theorem frame_reference : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

end Cert.ShiftFwdK
-- ==== Proof.ShiftFwdV.lean ====
module

public import proofs.«01_k».proof.Defs
public import proofs.«01_k».proof.Proof.Gen.Kernel34Ideal.Value
public import proofs.«01_k».proof.Proof.Gen.Reference34Ideal.Run
public import proofs.«01_k».proof.Proof.Shift
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The token shift of the value columns. -/

@[expose] public section

set_option maxRecDepth 16384

noncomputable section

namespace Cert.ShiftFwdV

open Idealize.ShloMosaic Idealize.ShloMosaic.TcCoe Idealize.ShloMosaic.Tactic Idealize.ShloMosaic.ValueKit Idealize.SL.Sem
open Cert.Kernel34Ideal Cert.Kernel34Ideal.Gen

/-- An array at the ideal instance. -/
abbrev V (S : Shape) (e : EltTy) := Vec Ideal S e

variable (M : V S2048 .f32) (X : V S4096x14592 .f32)

/-- The projection's entry in row `p` of the shifted columns. -/
def xAt (p : Fin 4096) (q : Fin 2048) : Ideal .f32 := X (ix2 p ⟨4096 + q.val, by omega⟩)

/-- The entry one row before, zero before the first row. -/
def prevAt (p : Fin 4096) (q : Fin 2048) : Ideal .f32 := if p.val = 0 then 0 else xAt X ⟨p.val - 1, by omega⟩ q

/-- The entry moved towards the one before. -/
def shifted (p : Fin 4096) (q : Fin 2048) : Ideal .f32 := xAt X p q + (prevAt X p q - xAt X p q) * M (ix1 q)

/-- The result over the whole array. -/
def out : V S4096x2048 .f32 := fun j => shifted M X (j 0) (j 1)

variable (m : (ℓ : Loc nD τ sig) → Buf (Elt Ideal) ℓ) (c : Dev nD)

/-- The arguments as launched. -/
abbrev arg0 : V S2048 .f32 := m ((c : Thread nD τ).loc main_arg0)
abbrev arg1 : V S4096x14592 .f32 := m ((c : Thread nD τ).loc main_arg1)

theorem idx0 : ∀ t : Fin cfg0.N, win0_0.index t = ![0, t.val / 16] := (by decide +kernel : ∀ t : Fin grid0.N, _)
theorem idx1 : ∀ t : Fin cfg0.N, win0_1.index t = ![t.val % 16, 8 + t.val / 16] := (by decide +kernel : ∀ t : Fin grid0.N, _)
theorem idx2 : ∀ t : Fin cfg0.N, win0_2.index t = ![32 * (t.val % 16) - 1, 8 + t.val / 16] := (by decide +kernel : ∀ t : Fin grid0.N, _)
theorem idx3 : ∀ t : Fin cfg0.N, win0_3.index t = ![t.val % 16, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 64 := lt_of_lt_of_eq t.isLt N_0

/-- Row `r` and column `l` of the block that point `t` works on. -/
def row (t : Fin cfg0.N) (r : Fin 256) : Fin 4096 := ⟨256 * (t.val % 16) + r.val, by omega⟩
def col (t : Fin cfg0.N) (l : Fin 512) : Fin 2048 := ⟨512 * (t.val / 16) + l.val, by have := points t; omega⟩

theorem mu_entry : Gen.V m c main_v0 = shapeCast S1x2048 (arg0 m c) shapeCasts_S2048_S1x2048 := by
  unfold Gen.V hostOps0; after_results_simp; rfl

theorem blk0 (t : Fin cfg0.N) (l : Fin 512) : (show V S1x512 .f32 from iblk m c 0 t) (ix2 0 l) = arg0 m c (ix1 (col t l)) := by
  have := points t
  blk_simp [iblk]
  have e : (win0_0.blk t).view.emb (ix2 (0 : Fin 1) l) = ix2 (0 : Fin 1) (col t l) := by unfold col; blk_ext [idx0]
  rw [e, mu_entry]
  pointwise []

theorem blk1 (t : Fin cfg0.N) (r : Fin 256) (l : Fin 512) : (show V S256x512 .f32 from X0_1 m c t) (ix2 r l) = xAt (arg1 m c) (row t r) (col t l) := by
  have := points t
  dsimp only
  unfold X0_1 Pipeline.Window.fill; rw [dif_pos (moved0_1 t _)]
  blk_simp [iblk]
  rw [V_main_arg1]
  refine congrArg (arg1 m c) ?_
  unfold row col
  blk_ext [idx1]

/-- The last row of the block of eight rows above the point's. -/
abbrev above (t : Fin cfg0.N) : V S1x512 .f32 := View.ld (X0_2 m c t) (Rect.unit ![7, 0] ![1, 512] inb_S8x512_S1x512_7_0)

theorem blk2 (t : Fin cfg0.N) (ht : ¬t.val % 16 = 0) (l : Fin 512) :
    above m c t (ix2 0 l) = xAt (arg1 m c) ⟨256 * (t.val % 16) - 1, by omega⟩ (col t l) := by
  have := points t
  refine Eq.trans (b := (show V S8x512 .f32 from X0_2 m c t) (ix2 7 l)) ?_ ?_
  · exact View.ld_unit_apply_of (X0_2 m c t) _ _ _ _ _ (fun a => by fin_cases a <;> simp)
  dsimp only
  unfold X0_2 Pipeline.Window.fill; rw [dif_pos (moved0_2 t _)]
  blk_simp [iblk]
  rw [V_main_arg1]
  refine congrArg (arg1 m c) ?_
  unfold col
  blk_ext [idx2]

theorem pay_at (t : Fin cfg0.N) (x : V S256x512 .f32) (y z : V S1x512 .f32) (r : Fin 256) (l : Fin 512) :
    k0_pay1 (F := Ideal) (grid0.coords t) x y z (ix2 r l)
      = x (ix2 r l) + ((if r.val = 0 then (if t.val % 16 = 0 then 0 else y (ix2 0 l)) else x (ix2 ⟨(r.val + 256 - 1) % 256, Nat.mod_lt _ (by decide)⟩ l)) - x (ix2 r l)) * z (ix2 0 l) := by
  pointwise [k0_pay1]
  rw [coord1 t]
  refine congrArg (fun a : Ideal .f32 => x (ix2 r l) + (a - x (ix2 r l)) * z (ix2 0 l)) ?_
  refine (Shift.pick r.val 0 (by omega) (by decide) _ _).trans (if_congr Iff.rfl ?_ rfl)
  exact Shift.pick (t.val % 16) 0 (by omega) (by decide) _ _

theorem prev_at (t : Fin cfg0.N) (r : Fin 256) (l : Fin 512) :
    (if r.val = 0 then (if t.val % 16 = 0 then 0 else above m c t (ix2 0 l)) else (show V S256x512 .f32 from X0_1 m c t) (ix2 ⟨(r.val + 256 - 1) % 256, Nat.mod_lt _ (by decide)⟩ l))
      = prevAt (arg1 m c) (row t r) (col t l) := by
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem point (t : Fin cfg0.N) : outsAt0 m c t = k0_pay1 (F := Ideal) (grid0.coords t) (X0_1 m c t) (above m c t) (iblk m c 0 t) := by
  unfold outsAt0 out0_A_3; frame_open
  simp (disch := decide) only [View.readCov_unit_lit', View.read_writes_junk_eq_canon, View.canon_cons_unit_lit', View.ld_unit_lit', View.readAt_eq_ld, Memref.IsWhole.read_unread]
  rfl

theorem final : (dats m 0 c).arrAt 3 cfg0.N = out (arg0 m c) (arg1 m c) := by
  refine (dats m 0 c).arrAt_eq_of_covers 3 _ (by decide +kernel) fun t hf y => ?_
  blk_simp
  rw [after0_3]
  have := points t
  idx_vars y
  have e : (win0_3.blk t).view.emb (ix2 y0 y1) = ix2 (row t y0) (col t y1) := by unfold row col; blk_ext [idx3]
  rw [e, point]
  refine (pay_at t _ _ _ y0 y1).trans ?_
  exact congrArg₂ (· + ·) (blk1 m c t y0 y1) (congrArg₂ (· * ·) (congrArg₂ (· - ·) (prev_at m c t y0 y1) (blk1 m c t y0 y1)) (blk0 m c t y1))

/-! ## The claims -/

theorem values : Cert.algebraic_Kernel34Ideal_Reference34Ideal := by
  intro m ρ m' ρ' _ hagree
  refine ⟨fun c => out (arg0 m c) (arg1 m c), (θ_run _ _ _).mono (fun r h c => ⟨(h c).1.trans (final m c), (h c).2⟩) (Cert.Kernel34Ideal.Value.run_blocks m ρ),
    (θ_run _ _ _).mono (fun r h c => ⟨(h c).1.trans ?_, (h c).2⟩) (Cert.Reference34Ideal.Value.run m' ρ')⟩
  obtain ⟨e0, e1⟩ := hagree c
  rw [e0, e1]
  funext j; idx_vars j; pointwise [out, shifted, prevAt, xAt]
  by_cases h : j0.val < 1
  · rw [dif_pos h, if_pos (by omega)]
  · have h' : ¬j0.val = 0 := by omega
    simp only [dif_neg h, if_neg h']

theorem frame_reference : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

end Cert.ShiftFwdV
-- ==== Proof.ShiftFwdL.lean ====
module

public import proofs.«01_k».proof.Defs
public import proofs.«01_k».proof.Proof.Gen.Kernel35Ideal.Value
public import proofs.«01_k».proof.Proof.Gen.Reference35Ideal.Run
public import proofs.«01_k».proof.Proof.Shift
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The token shift of the low-rank columns. -/

@[expose] public section

set_option maxRecDepth 16384

noncomputable section

namespace Cert.ShiftFwdL

open Idealize.ShloMosaic Idealize.ShloMosaic.TcCoe Idealize.ShloMosaic.Tactic Idealize.ShloMosaic.ValueKit Idealize.SL.Sem
open Cert.Kernel35Ideal Cert.Kernel35Ideal.Gen

/-- An array at the ideal instance. -/
abbrev V (S : Shape) (e : EltTy) := Vec Ideal S e

variable (M : V S256 .f32) (X : V S4096x14592 .f32)

/-- The projection's entry in row `p` of the shifted columns. -/
def xAt (p : Fin 4096) (q : Fin 256) : Ideal .f32 := X (ix2 p ⟨14336 + q.val, by omega⟩)

/-- The entry one row before, zero before the first row. -/
def prevAt (p : Fin 4096) (q : Fin 256) : Ideal .f32 := if p.val = 0 then 0 else xAt X ⟨p.val - 1, by omega⟩ q

/-- The entry moved towards the one before. -/
def shifted (p : Fin 4096) (q : Fin 256) : Ideal .f32 := xAt X p q + (prevAt X p q - xAt X p q) * M (ix1 q)

/-- The result over the whole array. -/
def out : V S4096x256 .f32 := fun j => shifted M X (j 0) (j 1)

variable (m : (ℓ : Loc nD τ sig) → Buf (Elt Ideal) ℓ) (c : Dev nD)

/-- The arguments as launched. -/
abbrev arg0 : V S256 .f32 := m ((c : Thread nD τ).loc main_arg0)
abbrev arg1 : V S4096x14592 .f32 := m ((c : Thread nD τ).loc main_arg1)

theorem idx0 : ∀ t : Fin cfg0.N, win0_0.index t = ![0, t.val / 16] := (by decide +kernel : ∀ t : Fin grid0.N, _)
theorem idx1 : ∀ t : Fin cfg0.N, win0_1.index t = ![t.val % 16, 56 + t.val / 16] := (by decide +kernel : ∀ t : Fin grid0.N, _)
theorem idx2 : ∀ t : Fin cfg0.N, win0_2.index t = ![32 * (t.val % 16) - 1, 56 + t.val / 16] := (by decide +kernel : ∀ t : Fin grid0.N, _)
theorem idx3 : ∀ t : Fin cfg0.N, win0_3.index t = ![t.val % 16, t.val / 16] := (by decide +kernel : ∀ t : Fin grid0.N, _)
theorem coord1 : ∀ t : Fin cfg0.N, (grid0.coords t 1).val = t.val % 16 := (by decide +kernel : ∀ t : Fin grid0.N, _)

theorem points (t : Fin cfg0.N) : t.val < 16 := lt_of_lt_of_eq t.isLt N_0

/-- Row `r` and column `l` of the block that point `t` works on. -/
def row (t : Fin cfg0.N) (r : Fin 256) : Fin 4096 := ⟨256 * (t.val % 16) + r.val, by omega⟩
def col (t : Fin cfg0.N) (l : Fin 256) : Fin 256 := ⟨256 * (t.val / 16) + l.val, by have := points t; omega⟩

theorem mu_entry : Gen.V m c main_v0 = shapeCast S1x256 (arg0 m c) shapeCasts_S256_S1x256 := by
  unfold Gen.V hostOps0; after_results_simp; rfl

theorem blk0 (t : Fin cfg0.N) (l : Fin 256) : (show V S1x256 .f32 from iblk m c 0 t) (ix2 0 l) = arg0 m c (ix1 (col t l)) := by
  have := points t
  blk_simp [iblk]
  have e : (win0_0.blk t).view.emb (ix2 (0 : Fin 1) l) = ix2 (0 : Fin 1) (col t l) := by unfold col; blk_ext [idx0]
  rw [e, mu_entry]
  pointwise []

theorem blk1 (t : Fin cfg0.N) (r : Fin 256) (l : Fin 256) : (show V S256x256 .f32 from iblk m c 1 t) (ix2 r l) = xAt (arg1 m c) (row t r) (col t l) := by
  have := points t
  blk_simp [iblk]
  rw [V_main_arg1]
  refine congrArg (arg1 m c) ?_
  unfold row col
  blk_ext [idx1]

/-- The last row of the block of eight rows above the point's. -/
abbrev above (t : Fin cfg0.N) : V S1x256 .f32 := View.ld (iblk m c 2 t) (Rect.unit ![7, 0] ![1, 256] inb_S8x256_S1x256_7_0)

theorem blk2 (t : Fin cfg0.N) (ht : ¬t.val % 16 = 0) (l : Fin 256) :
    above m c t (ix2 0 l) = xAt (arg1 m c) ⟨256 * (t.val % 16) - 1, by omega⟩ (col t l) := by
  have := points t
  refine Eq.trans (b := (show V S8x256 .f32 from iblk m c 2 t) (ix2 7 l)) ?_ ?_
  · exact View.ld_unit_apply_of (iblk m c 2 t) _ _ _ _ _ (fun a => by fin_cases a <;> simp)
  blk_simp [iblk]
  rw [V_main_arg1]
  refine congrArg (arg1 m c) ?_
  unfold col
  blk_ext [idx2]

theorem pay_at (t : Fin cfg0.N) (x : V S256x256 .f32) (y z : V S1x256 .f32) (r : Fin 256) (l : Fin 256) :
    k0_pay1 (F := Ideal) (grid0.coords t) x y z (ix2 r l)
      = x (ix2 r l) + ((if r.val = 0 then (if t.val % 16 = 0 then 0 else y (ix2 0 l)) else x (ix2 ⟨(r.val + 256 - 1) % 256, Nat.mod_lt _ (by decide)⟩ l)) - x (ix2 r l)) * z (ix2 0 l) := by
  pointwise [k0_pay1]
  rw [coord1 t]
  refine congrArg (fun a : Ideal .f32 => x (ix2 r l) + (a - x (ix2 r l)) * z (ix2 0 l)) ?_
  refine (Shift.pick r.val 0 (by omega) (by decide) _ _).trans (if_congr Iff.rfl ?_ rfl)
  exact Shift.pick (t.val % 16) 0 (by omega) (by decide) _ _

theorem prev_at (t : Fin cfg0.N) (r : Fin 256) (l : Fin 256) :
    (if r.val = 0 then (if t.val % 16 = 0 then 0 else above m c t (ix2 0 l)) else (show V S256x256 .f32 from iblk m c 1 t) (ix2 ⟨(r.val + 256 - 1) % 256, Nat.mod_lt _ (by decide)⟩ l))
      = prevAt (arg1 m c) (row t r) (col t l) := by
  unfold prevAt
  have hr : (row t r).val = 256 * (t.val % 16) + r.val := rfl
  by_cases h : r.val = 0
  · rw [if_pos h]
    by_cases ht : t.val % 16 = 0
    · rw [if_pos ht, if_pos (by omega)]
    · rw [if_neg ht, if_neg (by omega)]
      refine (blk2 m c t ht l).trans (congrArg (fun p => xAt (arg1 m c) p (col t l)) (Fin.ext ?_))
      show 256 * (t.val % 16) - 1 = (row t r).val - 1
      omega
  · rw [if_neg h, if_neg (by omega)]
    refine (blk1 m c t _ l).trans (congrArg (fun p => xAt (arg1 m c) p (col t l)) (Fin.ext ?_))
    show 256 * (t.val % 16) + (r.val + 256 - 1) % 256 = (row t r).val - 1
    omega

theorem point (t : Fin cfg0.N) : out0_3 (F := Ideal) (grid0.coords t) (iblk m c 0 t) (iblk m c 1 t) (iblk m c 2 t) = k0_pay1 (F := Ideal) (grid0.coords t) (iblk m c 1 t) (above m c t) (iblk m c 0 t) := by
  unfold out0_3
  simp (disch := decide) only [View.canon_cons_unit_lit', View.ld_unit_lit']
  rfl

theorem final : (dats m 0 c).arrAt 3 cfg0.N = out (arg0 m c) (arg1 m c) := by
  refine (dats m 0 c).arrAt_eq_of_covers 3 _ (by decide +kernel) fun t hf y => ?_
  blk_simp
  rw [after0_3]
  have := points t
  idx_vars y
  have e : (win0_3.blk t).view.emb (ix2 y0 y1) = ix2 (row t y0) (col t y1) := by unfold row col; blk_ext [idx3]
  rw [e, point]
  refine (pay_at t _ _ _ y0 y1).trans ?_
  exact congrArg₂ (· + ·) (blk1 m c t y0 y1) (congrArg₂ (· * ·) (congrArg₂ (· - ·) (prev_at m c t y0 y1) (blk1 m c t y0 y1)) (blk0 m c t y1))

/-! ## The claims -/

theorem values : Cert.algebraic_Kernel35Ideal_Reference35Ideal := by
  intro m ρ m' ρ' _ hagree
  refine ⟨fun c => out (arg0 m c) (arg1 m c), (θ_run _ _ _).mono (fun r h c => ⟨(h c).1.trans (final m c), (h c).2⟩) (Cert.Kernel35Ideal.Value.run_blocks m ρ),
    (θ_run _ _ _).mono (fun r h c => ⟨(h c).1.trans ?_, (h c).2⟩) (Cert.Reference35Ideal.Value.run m' ρ')⟩
  obtain ⟨e0, e1⟩ := hagree c
  rw [e0, e1]
  funext j; idx_vars j; pointwise [out, shifted, prevAt, xAt]
  by_cases h : j0.val < 1
  · rw [dif_pos h, if_pos (by omega)]
  · have h' : ¬j0.val = 0 := by omega
    simp only [dif_neg h, if_neg h']

theorem frame_reference : Cert.quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)

end Cert.ShiftFwdL
-- ==== Proof.LoraUpFwd.lean ====
module

public import proofs.«01_k».proof.Defs
public import proofs.«01_k».proof.Proof.Gen.Kernel36Ideal.Value
public import proofs.«01_k».proof.Proof.Gen.Reference36Ideal.Run
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The two low-rank products, each added to its bias. -/

@[expose] public section

set_option maxRecDepth 16384

noncomputable section

namespace Cert.LoraUpFwd

open Idealize.ShloMosaic Idealize.ShloMosaic.TcCoe Idealize.ShloMosaic.Tactic Idealize.ShloMosaic.ValueKit Idealize.SL.Sem
open Cert.Kernel36Ideal Cert.Kernel36Ideal.Gen

/-- An array at the ideal instance. -/
abbrev V (S : Shape) (e : EltTy) := Vec Ideal S e

/-- A bias and a row against a column. -/
def up (b : Ideal .f32) (x w : Fin 256 → Ideal .f32) : Ideal .f32 := b + ∑ k, x k * w k

/-- The two results over the whole arrays. -/
def decayOut (B : V S2048 .f32) (W : V S256x2048 .f32) (X : V S4096x256 .f32) : V S4096x2048 .f32 := fun j =>
  up (B (ix1 (j 1))) (fun k => Ideal.tanh (X (ix2 (j 0) k))) (fun k => W (ix2 k (j 1)))
def rateOut (B : V S2048 .f32) (W : V S256x2048 .f32) (X : V S4096x256 .f32) : V S4096x2048 .f32 := fun j =>
  up (B (ix1 (j 1))) (fun k => X (ix2 (j 0) k)) (fun k => W (ix2 k (j 1)))

variable (m : (ℓ : Loc nD τ sig) → Buf (Elt Ideal) ℓ) (c : Dev nD)

/-- The arguments as launched. -/
abbrev arg0 : V S2048 .f32 := m ((c : Thread nD τ).loc main_arg0)
abbrev arg1 : V S256x2048 .f32 := m ((c : Thread nD τ).loc main_arg1)
abbrev arg2 : V S2048 .f32 := m ((c : Thread nD τ).loc main_arg2)
abbrev arg3 : V S256x2048 .f32 := m ((c : Thread nD τ).loc main_arg3)
abbrev arg4 : V S4096x256 .f32 := m ((c : Thread nD τ).loc main_arg4)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem points (t : Fin cfg0.N) : t.val < 16 := lt_of_lt_of_eq t.isLt N_0

/-- Row `r` of the block of rows that point `t` works on. -/
def row (t : Fin cfg0.N) (r : Fin 256) : Fin 4096 := ⟨t.val * 256 + r.val, by have := points t; omega⟩

theorem entry0 : Gen.V m c main_v0 = shapeCast S1x2048 (arg0 m c) shapeCasts_S2048_S1x2048 := by
  unfold Gen.V hostOps0; after_results_simp; rfl

theorem blk0 (t : Fin cfg0.N) (q : Fin 2048) : (show V S1x2048 .f32 from iblk m c 0 t) (ix2 0 q) = arg0 m c (ix1 q) := by
  blk_simp [iblk]
  rw [entry0]
  have e : (win0_0.blk t).view.emb (ix2 0 q) = ix2 0 q := by blk_ext [idx0]
  rw [e]
  pointwise []

theorem blk1 (t : Fin cfg0.N) (r : Fin 256) (q : Fin 2048) : (show V S256x2048 .f32 from iblk m c 1 t) (ix2 r q) = arg1 m c (ix2 r q) := by
  blk_simp [iblk]
  rw [V_main_arg1]
  refine congrArg (arg1 m c) ?_
  blk_ext [idx1]

theorem entry2 : Gen.V m c main_v1 = shapeCast S1x2048 (arg2 m c) shapeCasts_S2048_S1x2048 := by
  unfold Gen.V hostOps0; after_results_simp; rfl

theorem blk2 (t : Fin cfg0.N) (q : Fin 2048) : (show V S1x2048 .f32 from iblk m c 2 t) (ix2 0 q) = arg2 m c (ix1 q) := by
  blk_simp [iblk]
  rw [entry2]
  have e : (win0_2.blk t).view.emb (ix2 0 q) = ix2 0 q := by blk_ext [idx2]
  rw [e]
  pointwise []

theorem blk3 (t : Fin cfg0.N) (r : Fin 256) (q : Fin 2048) : (show V S256x2048 .f32 from iblk m c 3 t) (ix2 r q) = arg3 m c (ix2 r q) := by
  blk_simp [iblk]
  rw [V_main_arg3]
  refine congrArg (arg3 m c) ?_
  blk_ext [idx3]

theorem blk4 (t : Fin cfg0.N) (r : Fin 256) (q : Fin 256) : (show V S256x256 .f32 from iblk m c 4 t) (ix2 r q) = arg4 m c (ix2 (row t r) q) := by
  have := points t
  blk_simp [iblk]
  rw [V_main_arg4]
  refine congrArg (arg4 m c) ?_
  unfold row
  blk_ext [idx4]

theorem point5 (b : V S1x2048 .f32) (w : V S256x2048 .f32) (b' : V S1x2048 .f32) (w' : V S256x2048 .f32) (x : V S256x256 .f32) (r : Fin 256) (q : Fin 2048) :
    out0_5 (F := Ideal) b w b' w' x (ix2 r q) = up (b (ix2 0 q)) (fun k => Ideal.tanh (x (ix2 r k))) (fun k => w (ix2 k q)) := by
  unfold out0_5
  simp (disch := decide) only [View.canon_cons_unit_lit', View.ld_unit_lit']
  pointwise [k0_pay1, up]

theorem final5 : (dats m 0 c).arrAt 5 cfg0.N = decayOut (arg0 m c) (arg1 m c) (arg4 m c) := by
  refine (dats m 0 c).arrAt_eq_of_covers 5 _ (by decide +kernel) fun t hf y => ?_
  blk_simp
  rw [after0_5]
  have := points t
  idx_vars y
  have e : (win0_5.blk t).view.emb (ix2 y0 y1) = ix2 (row t y0) y1 := by
    unfold row; blk_ext [idx5]
  rw [e]
  refine (point5 _ _ _ _ _ y0 y1).trans ?_
  refine congrArg₂ (· + ·) (blk0 m c t y1) (Finset.sum_congr rfl fun k _ => congrArg₂ (· * ·) ?_ (blk1 m c t k y1))
  exact congrArg Ideal.tanh (blk4 m c t y0 k)

theorem point6 (b : V S1x2048 .f32) (w : V S256x2048 .f32) (b' : V S1x2048 .f32) (w' : V S256x2048 .f32) (x : V S256x256 .f32) (r : Fin 256) (q : Fin 2048) :
    out0_6 (F := Ideal) b w b' w' x (ix2 r q) = up (b' (ix2 0 q)) (fun k => x (ix2 r k)) (fun k => w' (ix2 k q)) := by
  unfold out0_6
  simp (disch := decide) only [View.canon_cons_unit_lit', View.ld_unit_lit']
  pointwise [k0_pay2, up]

theorem final6 : (dats m 0 c).arrAt 6 cfg0.N = rateOut (arg2 m c) (arg3 m c) (arg4 m c) := by
  refine (dats m 0 c).arrAt_eq_of_covers 6 _ (by decide +kernel) fun t hf y => ?_
  blk_simp
  rw [after0_6]
  have := points t
  idx_vars y
  have e : (win0_6.blk t).view.emb (ix2 y0 y1) = ix2 (row t y0) y1 := by
    unfold row; blk_ext [idx6]
  rw [e]
  refine (point6 _ _ _ _ _ y0 y1).trans ?_
  refine congrArg₂ (· + ·) (blk2 m c t y1) (Finset.sum_congr rfl fun k _ => congrArg₂ (· * ·) ?_ (blk3 m c t k y1))
  exact blk4 m c t y0 k

/-! ## The claims -/

theorem values : Cert.algebraic_Kernel36Ideal_Reference36Ideal := by
  intro m ρ m' ρ' _ hagree
  refine ⟨fun c => decayOut (arg0 m c) (arg1 m c) (arg4 m c), fun c => rateOut (arg2 m c) (arg3 m c) (arg4 m c), ?_, ?_⟩
  · exact (θ_run _ _ _).mono (fun r h c => ⟨(h c).1.trans (final5 m c), (h c).2.1.trans (final6 m c), (h c).2.2⟩) (Cert.Kernel36Ideal.Value.run_blocks m ρ)
  · refine (θ_run _ _ _).mono (fun r h c => ⟨(h c).1.trans ?_, (h c).2.1.trans ?_, (h c).2.2⟩) (Cert.Reference36Ideal.Value.run m' ρ')
    all_goals obtain ⟨e0, e1, e2, e3, e4⟩ := hagree c
    · rw [e0, e1, e4]
      funext j; idx_vars j; pointwise [decayOut, up]
    · rw [e2, e3, e4]
      funext j; idx_vars j; pointwise [rateOut, up]

theorem frame_reference : Cert.quiescent_Reference36Ideal := fun m ρ _ =>
  (θ_run Cert.Reference36Ideal.defs _ _).mono (fun r h => ⟨fun c => (h c).2.2, sem_eq_zero_of_no_sems (by decide) r.2⟩)
    (Cert.Reference36Ideal.Value.run (F := Ideal) m ρ)

end Cert.LoraUpFwd
-- ==== Proof.ConvNormFwd.lean ====
module

public import proofs.«01_k».proof.Defs
public import proofs.«01_k».proof.Proof.Gen.Kernel37Ideal.Value
public import proofs.«01_k».proof.Proof.Gen.Reference37Ideal.Run
public import proofs.«01_k».proof.Proof.Silu
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The layer norm after the convolution and `z * s z` after it. -/

@[expose] public section

set_option maxRecDepth 16384

noncomputable section

namespace Cert.ConvNormFwd

open Idealize.ShloMosaic Idealize.ShloMosaic.TcCoe Idealize.ShloMosaic.Tactic Idealize.ShloMosaic.ValueKit Idealize.SL.Sem
open Cert.Silu Cert.Kernel37Ideal Cert.Kernel37Ideal.Gen

/-- An array at the ideal instance. -/
abbrev V (S : Shape) (e : EltTy) := Vec Ideal S e

/-- A row. -/
abbrev Row := Fin 2048 → Ideal .f32

/-- The row's mean, the distance from it, and the variance with the small constant. -/
def mean (u : Row) : Ideal .f32 := Ideal.div (∑ q, u q) (Ideal.ofBits .f32 0x45000000#32)
def dev (u : Row) (q : Fin 2048) : Ideal .f32 := u q - mean u
def vr (u : Row) : Ideal .f32 := Ideal.div (∑ q, dev u q * dev u q) (Ideal.ofBits .f32 0x45000000#32) + Ideal.ofBits .f32 0x3727C5AC#32

/-- The normed row with its weights and biases, and the row after the gate. -/
def pre (g b u : Row) (q : Fin 2048) : Ideal .f32 := dev u q * Ideal.rsqrt (vr u) * g q + b q
def act (g b u : Row) (q : Fin 2048) : Ideal .f32 := pre g b u q * sg (pre g b u q)

/-- The result over the whole array. -/
def out (G B : V S2048 .f32) (U : V S4096x2048 .f32) : V S4096x2048 .bf16 := fun j =>
  act (fun q => G (ix1 q)) (fun q => B (ix1 q)) (fun q => U (ix2 (j 0) q)) (j 1)

variable (m : (ℓ : Loc nD τ sig) → Buf (Elt Ideal) ℓ) (c : Dev nD)

/-- The arguments as launched. -/
abbrev arg0 : V S2048 .f32 := m ((c : Thread nD τ).loc main_arg0)
abbrev arg1 : V S2048 .f32 := m ((c : Thread nD τ).loc main_arg1)
abbrev arg2 : V S4096x2048 .f32 := m ((c : Thread nD τ).loc main_arg2)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem points (t : Fin cfg0.N) : t.val < 16 := lt_of_lt_of_eq t.isLt N_0

/-- Row `r` of the block of rows that point `t` works on. -/
def row (t : Fin cfg0.N) (r : Fin 256) : Fin 4096 := ⟨t.val * 256 + r.val, by have := points t; omega⟩

theorem entry0 : Gen.V m c main_v0 = shapeCast S1x2048 (arg0 m c) shapeCasts_S2048_S1x2048 := by
  unfold Gen.V hostOps0; after_results_simp; rfl

theorem blk0 (t : Fin cfg0.N) (q : Fin 2048) : (show V S1x2048 .f32 from iblk m c 0 t) (ix2 0 q) = arg0 m c (ix1 q) := by
  blk_simp [iblk]
  rw [entry0]
  have e : (win0_0.blk t).view.emb (ix2 0 q) = ix2 0 q := by blk_ext [idx0]
  rw [e]
  pointwise []

theorem entry1 : Gen.V m c main_v1 = shapeCast S1x2048 (arg1 m c) shapeCasts_S2048_S1x2048 := by
  unfold Gen.V hostOps0; after_results_simp; rfl

theorem blk1 (t : Fin cfg0.N) (q : Fin 2048) : (show V S1x2048 .f32 from iblk m c 1 t) (ix2 0 q) = arg1 m c (ix1 q) := by
  blk_simp [iblk]
  rw [entry1]
  have e : (win0_1.blk t).view.emb (ix2 0 q) = ix2 0 q := by blk_ext [idx1]
  rw [e]
  pointwise []

theorem blk2 (t : Fin cfg0.N) (r : Fin 256) (q : Fin 2048) : (show V S256x2048 .f32 from iblk m c 2 t) (ix2 r q) = arg2 m c (ix2 (row t r) q) := by
  have := points t
  blk_simp [iblk]
  rw [V_main_arg2]
  refine congrArg (arg2 m c) ?_
  unfold row
  blk_ext [idx2]

theorem point (g b : V S1x2048 .f32) (x : V S256x2048 .f32) (r : Fin 256) (q : Fin 2048) :
    out0_3 (F := Ideal) g b x (ix2 r q) = act (fun q => g (ix2 0 q)) (fun q => b (ix2 0 q)) (fun q => x (ix2 r q)) q := by
  unfold out0_3
  simp (disch := decide) only [View.canon_cons_unit_lit', View.ld_unit_lit']
  pointwise [k0_pay1, act, pre, vr, dev, mean, sg]

theorem final : (dats m 0 c).arrAt 3 cfg0.N = out (arg0 m c) (arg1 m c) (arg2 m c) := by
  refine (dats m 0 c).arrAt_eq_of_covers 3 _ (by decide +kernel) fun t hf y => ?_
  blk_simp
  rw [after0_3]
  have := points t
  idx_vars y
  have e : (win0_3.blk t).view.emb (ix2 y0 y1) = ix2 (row t y0) y1 := by
    unfold row; blk_ext [idx3]
  rw [e]
  refine (point _ _ _ y0 y1).trans ?_
  have e0 := funext fun q => blk0 m c t q
  have e1 := funext fun q => blk1 m c t q
  have e2 := funext fun q => blk2 m c t y0 q
  exact (congrArg₂ (fun g b => act g b _ y1) e0 e1).trans (congrArg (fun x => act _ _ x y1) e2)

/-! ## The claims -/

theorem values : Cert.algebraic_Kernel37Ideal_Reference37Ideal := by
  intro m ρ m' ρ' _ hagree
  refine ⟨fun c => out (arg0 m c) (arg1 m c) (arg2 m c), (θ_run _ _ _).mono (fun r h c => ⟨(h c).1.trans (final m c), (h c).2⟩) (Cert.Kernel37Ideal.Value.run_blocks m ρ),
    (θ_run _ _ _).mono (fun r h c => ⟨(h c).1.trans ?_, (h c).2⟩) (Cert.Reference37Ideal.Value.run m' ρ')⟩
  obtain ⟨e0, e1, e2⟩ := hagree c
  rw [e0, e1, e2]
  funext j; idx_vars j; pointwise [out, act, pre, vr, dev, mean, sg]; simp only [zero_sub]

theorem frame_reference : Cert.quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

end Cert.ConvNormFwd
-- ==== Proof.ConvGateFwd.lean ====
module

public import proofs.«01_k».proof.Defs
public import proofs.«01_k».proof.Proof.Gen.Kernel38Ideal.Value
public import proofs.«01_k».proof.Proof.Gen.Reference38Ideal.Run
public import proofs.«01_k».proof.Proof.Silu
public import Idealize.ShloMosaic.Lib.Tactic
public import Idealize.ShloMosaic.Lib.Pointwise
public import Idealize.ShloMosaic.Lib.MatmulPlain
public import Idealize.ShloMosaic.Lib.Pipeline.ValueKit
public import Idealize.ShloMosaic.Lib.Quiescent

/-! The convolution branch's last step: the bias, and the gate with `z * s z`. -/

@[expose] public section

set_option maxRecDepth 16384

noncomputable section

namespace Cert.ConvGateFwd

open Idealize.ShloMosaic Idealize.ShloMosaic.TcCoe Idealize.ShloMosaic.Tactic Idealize.ShloMosaic.ValueKit Idealize.SL.Sem
open Cert.Silu Cert.Kernel38Ideal Cert.Kernel38Ideal.Gen

/-- An array at the ideal instance. -/
abbrev V (S : Shape) (e : EltTy) := Vec Ideal S e

/-- The columns of the gate in the projection. -/
def gateCol (q : Fin 2048) : Fin 14592 := ⟨12288 + q.val, by omega⟩

/-- The biased element `a` under the gate `g`. -/
def gated (a g : Ideal .f32) : Ideal .f32 := a * (g * sg g)

/-- The result over the whole array. -/
def out (B : V S2048 .f32) (C : V S4096x2048 .f32) (P : V S4096x14592 .f32) : V S4096x2048 .bf16 := fun j =>
  gated (C (ix2 (j 0) (j 1)) + B (ix1 (j 1))) (P (ix2 (j 0) (gateCol (j 1))))

variable (m : (ℓ : Loc nD τ sig) → Buf (Elt Ideal) ℓ) (c : Dev nD)

/-- The arguments as launched. -/
abbrev arg0 : V S2048 .f32 := m ((c : Thread nD τ).loc main_arg0)
abbrev arg1 : V S4096x2048 .f32 := m ((c : Thread nD τ).loc main_arg1)
abbrev arg2 : V S4096x14592 .f32 := m ((c : Thread nD τ).loc main_arg2)

theorem idx0 : ∀ t : Fin cfg0.N, win0_0.index t = ![0, t.val / 16] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![t.val % 16, 24 + t.val / 16] := (by decide +kernel : ∀ t : Fin grid0.N, _)
theorem idx3 : ∀ t : Fin cfg0.N, win0_3.index t = ![t.val % 16, t.val / 16] := (by decide +kernel : ∀ t : Fin grid0.N, _)

theorem points (t : Fin cfg0.N) : t.val < 64 := lt_of_lt_of_eq t.isLt N_0

/-- Row `r` and column `l` of the block that point `t` works on. -/
def row (t : Fin cfg0.N) (r : Fin 256) : Fin 4096 := ⟨t.val % 16 * 256 + r.val, by omega⟩
def col (t : Fin cfg0.N) (l : Fin 512) : Fin 2048 := ⟨t.val / 16 * 512 + l.val, by have := points t; omega⟩

theorem entry0 : Gen.V m c main_v0 = shapeCast S1x2048 (arg0 m c) shapeCasts_S2048_S1x2048 := by
  unfold Gen.V hostOps0; after_results_simp; rfl

theorem blk0 (t : Fin cfg0.N) (l : Fin 512) : (show V S1x512 .f32 from iblk m c 0 t) (ix2 0 l) = arg0 m c (ix1 (col t l)) := by
  have := points t
  blk_simp [iblk]
  rw [entry0]
  have e : (win0_0.blk t).view.emb (ix2 (0 : Fin 1) l) = ix2 (0 : Fin 1) (col t l) := by unfold col; blk_ext [idx0]
  rw [e]
  pointwise []

theorem blk1 (t : Fin cfg0.N) (r : Fin 256) (l : Fin 512) : (show V S256x512 .f32 from iblk m c 1 t) (ix2 r l) = arg1 m c (ix2 (row t r) (col t l)) := by
  have := points t
  blk_simp [iblk]
  rw [V_main_arg1]
  refine congrArg (arg1 m c) ?_
  unfold row col
  blk_ext [idx1]

theorem blk2 (t : Fin cfg0.N) (r : Fin 256) (l : Fin 512) : (show V S256x512 .f32 from X0_2 m c t) (ix2 r l) = arg2 m c (ix2 (row t r) (gateCol (col t l))) := by
  have := points t
  dsimp only
  unfold X0_2 Pipeline.Window.fill; rw [dif_pos (moved0_2 t _)]
  blk_simp [iblk]
  rw [V_main_arg2]
  refine congrArg (arg2 m c) ?_
  unfold row col gateCol
  blk_ext [idx2]

theorem pay_at (b : V S1x512 .f32) (x g : V S256x512 .f32) (r : Fin 256) (l : Fin 512) :
    k0_pay1 (F := Ideal) b x g (ix2 r l) = gated (x (ix2 r l) + b (ix2 0 l)) (g (ix2 r l)) := by
  pointwise [k0_pay1, gated, sg]

theorem point (t : Fin cfg0.N) : outsAt0 m c t = k0_pay1 (F := Ideal) (iblk m c 0 t) (iblk m c 1 t) (X0_2 m c t) := by
  unfold outsAt0 out0_A_3; frame_open
  simp (disch := decide) only [View.readCov_unit_lit', View.read_writes_junk_eq_canon, View.canon_cons_unit_lit', View.ld_unit_lit', View.readAt_eq_ld, Memref.IsWhole.read_unread]

theorem final : (dats m 0 c).arrAt 3 cfg0.N = out (arg0 m c) (arg1 m c) (arg2 m c) := by
  refine (dats m 0 c).arrAt_eq_of_covers 3 _ (by decide +kernel) fun t hf y => ?_
  blk_simp
  rw [after0_3]
  have := points t
  idx_vars y
  have e : (win0_3.blk t).view.emb (ix2 y0 y1) = ix2 (row t y0) (col t y1) := by unfold row col; blk_ext [idx3]
  rw [e, point]
  refine (pay_at _ _ _ y0 y1).trans ?_
  exact congrArg₂ gated (congrArg₂ (· + ·) (blk1 m c t y0 y1) (blk0 m c t y1)) (blk2 m c t y0 y1)

/-! ## The claims -/

theorem values : Cert.algebraic_Kernel38Ideal_Reference38Ideal := by
  intro m ρ m' ρ' _ hagree
  refine ⟨fun c => out (arg0 m c) (arg1 m c) (arg2 m c), (θ_run _ _ _).mono (fun r h c => ⟨(h c).1.trans (final m c), (h c).2⟩) (Cert.Kernel38Ideal.Value.run_blocks m ρ),
    (θ_run _ _ _).mono (fun r h c => ⟨(h c).1.trans ?_, (h c).2⟩) (Cert.Reference38Ideal.Value.run m' ρ')⟩
  obtain ⟨e0, e1, e2⟩ := hagree c
  rw [e0, e1, e2]
  funext j; idx_vars j; pointwise [out, gated, sg, gateCol]; simp only [zero_sub]

theorem frame_reference : Cert.quiescent_Reference38Ideal := fun m ρ _ =>
  (θ_run Cert.Reference38Ideal.defs _ _).mono (fun r h => ⟨fun c => (h c).2, sem_eq_zero_of_no_sems (by decide) r.2⟩)
    (Cert.Reference38Ideal.Value.run (F := Ideal) m ρ)

end Cert.ConvGateFwd
-- ==== Proof.lean ====
/- The claims of proofs.«01_k».proof.Defs, each from the module of its call. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.DWIn
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.DH
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Proj
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.DWOut
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.DMix
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.OutProj
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.DWPw2
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.DCAct
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Pw2
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.AdamwWIn
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.ConvGate
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.ConvNorm
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.RmsPre
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.PostLoss
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.LoraUp
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.AdamwSmall
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.AdamwWOut
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.AdamwWPw2
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.ShiftR
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.ShiftK
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.ShiftV
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.ShiftL
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Sums
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Pairs
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.ConvArrays
public import proofs.«01_k».proof.Proof.ConvRef
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.RmsPreFwd
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.ShiftFwdR
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.ShiftFwdK
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.ShiftFwdV
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.ShiftFwdL
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.LoraUpFwd
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.ConvNormFwd
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.ConvGateFwd
public import proofs.«01_k».proof.Proof.Gen.Pre_finite_r
public import proofs.«01_k».proof.Proof.Gen.Pre_finite_k
public import proofs.«01_k».proof.Proof.Gen.Pre_finite_v
public import proofs.«01_k».proof.Proof.Gen.Pre_finite_l
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Pre_finite_r.Gen.facts, Cert.Pre_finite_k.Gen.facts, Cert.Pre_finite_v.Gen.facts, Cert.Pre_finite_l.Gen.facts,
  fun m ρ _ => Cert.Kernel.Gen.frame m ρ, fun m ρ _ => Cert.KernelIdeal.Gen.frame m ρ, Cert.DWIn.frame_reference,
  fun m ρ _ => Cert.Kernel2.Gen.frame m ρ, fun m ρ _ => Cert.Kernel2Ideal.Gen.frame m ρ, Cert.DH.frame_reference,
  fun m ρ _ => Cert.Kernel3.Gen.frame m ρ, fun m ρ _ => Cert.Kernel3Ideal.Gen.frame m ρ, Cert.Proj.frame_reference,
  fun m ρ _ => Cert.Kernel4.Gen.frame m ρ, fun m ρ _ => Cert.Kernel4Ideal.Gen.frame m ρ, Cert.DWOut.frame_reference,
  fun m ρ _ => Cert.Kernel5.Gen.frame m ρ, fun m ρ _ => Cert.Kernel5Ideal.Gen.frame m ρ, Cert.DMix.frame_reference,
  fun m ρ _ => Cert.Kernel6.Gen.frame m ρ, fun m ρ _ => Cert.Kernel6Ideal.Gen.frame m ρ, Cert.OutProj.frame_reference,
  fun m ρ _ => Cert.Kernel7.Gen.frame m ρ, fun m ρ _ => Cert.Kernel7Ideal.Gen.frame m ρ, Cert.DWPw2.frame_reference,
  fun m ρ _ => Cert.Kernel8.Gen.frame m ρ, fun m ρ _ => Cert.Kernel8Ideal.Gen.frame m ρ, Cert.DCAct.frame_reference,
  fun m ρ _ => Cert.Kernel9.Gen.frame m ρ, fun m ρ _ => Cert.Kernel9Ideal.Gen.frame m ρ, Cert.Pw2.frame_reference,
  fun m ρ _ => Cert.Kernel10.Gen.frame m ρ, fun m ρ _ => Cert.Kernel10Ideal.Gen.frame m ρ, Cert.AdamwWIn.frame_reference,
  fun m ρ _ => Cert.Kernel11.Gen.frame m ρ, fun m ρ _ => Cert.Kernel11Ideal.Gen.frame m ρ, Cert.ConvGate.frame_reference,
  fun m ρ _ => Cert.Kernel12.Gen.frame m ρ, fun m ρ _ => Cert.Kernel12Ideal.Gen.frame m ρ, Cert.ConvNorm.frame_reference,
  fun m ρ _ => Cert.Kernel13.Gen.frame m ρ, fun m ρ _ => Cert.Kernel13Ideal.Gen.frame m ρ, Cert.RmsPre.frame_reference,
  fun m ρ _ => Cert.Kernel14.Gen.frame m ρ, fun m ρ _ => Cert.Kernel14Ideal.Gen.frame m ρ, Cert.PostLoss.frame_reference,
  fun m ρ _ => Cert.Kernel15.Gen.frame m ρ, fun m ρ _ => Cert.Kernel15Ideal.Gen.frame m ρ, Cert.LoraUp.frame_reference,
  fun m ρ _ => Cert.Kernel16.Gen.frame m ρ, fun m ρ _ => Cert.Kernel16Ideal.Gen.frame m ρ, Cert.AdamwSmall.frame_reference,
  fun m ρ _ => Cert.Kernel17.Gen.frame m ρ, fun m ρ _ => Cert.Kernel17Ideal.Gen.frame m ρ, Cert.AdamwWOut.frame_reference,
  fun m ρ _ => Cert.Kernel18.Gen.frame m ρ, fun m ρ _ => Cert.Kernel18Ideal.Gen.frame m ρ, Cert.AdamwWPw2.frame_reference,
  fun m ρ _ => Cert.Kernel19.Gen.frame m ρ, fun m ρ _ => Cert.Kernel19Ideal.Gen.frame m ρ, fun m ρ _ => Cert.Kernel19Ideal.Gen.frame m ρ, Cert.ShiftR.frame_reference, fun m ρ _ => Cert.ShiftR.frame_reference m ρ trivial,
  fun m ρ _ => Cert.Kernel20.Gen.frame m ρ, fun m ρ _ => Cert.Kernel20Ideal.Gen.frame m ρ, fun m ρ _ => Cert.Kernel20Ideal.Gen.frame m ρ, Cert.ShiftK.frame_reference, fun m ρ _ => Cert.ShiftK.frame_reference m ρ trivial,
  fun m ρ _ => Cert.Kernel21.Gen.frame m ρ, fun m ρ _ => Cert.Kernel21Ideal.Gen.frame m ρ, fun m ρ _ => Cert.Kernel21Ideal.Gen.frame m ρ, Cert.ShiftV.frame_reference, fun m ρ _ => Cert.ShiftV.frame_reference m ρ trivial,
  fun m ρ _ => Cert.Kernel22.Gen.frame m ρ, fun m ρ _ => Cert.Kernel22Ideal.Gen.frame m ρ, fun m ρ _ => Cert.Kernel22Ideal.Gen.frame m ρ, Cert.ShiftL.frame_reference, fun m ρ _ => Cert.ShiftL.frame_reference m ρ trivial,
  fun m ρ _ => Cert.Kernel23.Gen.frame m ρ, fun m ρ _ => Cert.Kernel23Ideal.Gen.frame m ρ, Cert.Sums.Small.frame_reference,
  fun m ρ _ => Cert.Kernel24.Gen.frame m ρ, fun m ρ _ => Cert.Kernel24Ideal.Gen.frame m ρ, Cert.Sums.WIn.frame_reference,
  fun m ρ _ => Cert.Kernel25.Gen.frame m ρ, fun m ρ _ => Cert.Kernel25Ideal.Gen.frame m ρ, Cert.Sums.WOut.frame_reference,
  fun m ρ _ => Cert.Kernel26.Gen.frame m ρ, fun m ρ _ => Cert.Kernel26Ideal.Gen.frame m ρ, Cert.Sums.WPw2.frame_reference,
  fun m ρ _ => Cert.Kernel27.Gen.frame m ρ, fun m ρ _ => Cert.Kernel27Ideal.Gen.frame m ρ, Cert.Pairs.frame_WIn,
  fun m ρ _ => Cert.Kernel28.Gen.frame m ρ, fun m ρ _ => Cert.Kernel28Ideal.Gen.frame m ρ, Cert.Pairs.frame_WOut,
  fun m ρ _ => Cert.Kernel29.Gen.frame m ρ, fun m ρ _ => Cert.Kernel29Ideal.Gen.frame m ρ, Cert.Pairs.frame_WPw2,
  fun m ρ _ => Cert.Kernel30.Gen.frame m ρ, fun m ρ _ => Cert.Kernel30Ideal.Gen.frame m ρ, Cert.ConvRef.frame_reference,
  fun m ρ _ => Cert.Kernel31.Gen.frame m ρ, fun m ρ _ => Cert.Kernel31Ideal.Gen.frame m ρ, Cert.RmsPreFwd.frame_reference,
  fun m ρ _ => Cert.Kernel32.Gen.frame m ρ, fun m ρ _ => Cert.Kernel32Ideal.Gen.frame m ρ, Cert.ShiftFwdR.frame_reference,
  fun m ρ _ => Cert.Kernel33.Gen.frame m ρ, fun m ρ _ => Cert.Kernel33Ideal.Gen.frame m ρ, Cert.ShiftFwdK.frame_reference,
  fun m ρ _ => Cert.Kernel34.Gen.frame m ρ, fun m ρ _ => Cert.Kernel34Ideal.Gen.frame m ρ, Cert.ShiftFwdV.frame_reference,
  fun m ρ _ => Cert.Kernel35.Gen.frame m ρ, fun m ρ _ => Cert.Kernel35Ideal.Gen.frame m ρ, Cert.ShiftFwdL.frame_reference,
  fun m ρ _ => Cert.Kernel36.Gen.frame m ρ, fun m ρ _ => Cert.Kernel36Ideal.Gen.frame m ρ, Cert.LoraUpFwd.frame_reference,
  fun m ρ _ => Cert.Kernel37.Gen.frame m ρ, fun m ρ _ => Cert.Kernel37Ideal.Gen.frame m ρ, Cert.ConvNormFwd.frame_reference,
  fun m ρ _ => Cert.Kernel38.Gen.frame m ρ, fun m ρ _ => Cert.Kernel38Ideal.Gen.frame m ρ, Cert.ConvGateFwd.frame_reference,
  trivial, Cert.DWIn.values, trivial, Cert.DH.values, trivial, Cert.Proj.values, trivial, Cert.DWOut.values,
  trivial, Cert.DMix.values, trivial, Cert.OutProj.values, trivial, Cert.DWPw2.values, trivial, Cert.DCAct.values,
  trivial, Cert.Pw2.values, trivial, Cert.AdamwWIn.values, trivial, Cert.ConvGate.values, trivial, Cert.ConvNorm.values,
  trivial, Cert.RmsPre.values, trivial, Cert.PostLoss.values, trivial, Cert.LoraUp.values, trivial, Cert.AdamwSmall.values,
  trivial, Cert.AdamwWOut.values, trivial, Cert.AdamwWPw2.values, trivial, Cert.ShiftR.values, trivial, Cert.ShiftK.values,
  trivial, Cert.ShiftV.values, trivial, Cert.ShiftL.values, trivial, Cert.Sums.Small.values, trivial, Cert.Sums.WIn.values,
  trivial, Cert.Sums.WOut.values, trivial, Cert.Sums.WPw2.values, trivial, Cert.Pairs.values_WIn, trivial, Cert.Pairs.values_WOut,
  trivial, Cert.Pairs.values_WPw2, trivial, Cert.ConvRef.values, trivial, Cert.RmsPreFwd.values, trivial, Cert.ShiftFwdR.values,
  trivial, Cert.ShiftFwdK.values, trivial, Cert.ShiftFwdV.values, trivial, Cert.ShiftFwdL.values, trivial, Cert.LoraUpFwd.values,
  trivial, Cert.ConvNormFwd.values, trivial, Cert.ConvGateFwd.values⟩

end Cert.Proof

end
